-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_regular [hPre_regular : Cert.Pre_regular.Facts] (m : (ℓ : Loc Cert.KernelIdeal.nD Cert.KernelIdeal.τ Cert.KernelIdeal.sig) → Buf (Elt Ideal) ℓ) : Prop :=
  ∀ c : Dev Cert.KernelIdeal.nD,
    (Cert.Pre_regular.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_regular [hPre_regular : Cert.Pre_regular.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_regular.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_regular [hKernelIdeal : Cert.KernelIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_regular m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_regular [hReferenceIdeal : Cert.ReferenceIdeal.Facts] [hPre_regular : Cert.Pre_regular.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_regular m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "pmask" .f32 0x7149F2CA#32 ⊤

def algebraic_KernelIdeal_ReferenceIdeal_pre_regular [hKernelIdeal : Cert.KernelIdeal.Facts] [hReferenceIdeal : Cert.ReferenceIdeal.Facts] [hPre_regular : Cert.Pre_regular.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_regular m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v295) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_regular : Cert.Pre_regular.Facts),
    quiescent_Kernel (hKernel := hKernel)
    ∧ quiescent_KernelIdeal (hKernelIdeal := hKernelIdeal)
    ∧ quiescent_KernelIdeal_pre_regular (hKernelIdeal := hKernelIdeal) (hPre_regular := hPre_regular)
    ∧ quiescent_ReferenceIdeal (hReferenceIdeal := hReferenceIdeal)
    ∧ quiescent_ReferenceIdeal_pre_regular (hReferenceIdeal := hReferenceIdeal) (hPre_regular := hPre_regular)
    ∧ preserves_Kernel_KernelIdeal
    ∧ algebraic_KernelIdeal_ReferenceIdeal_pre_regular (hKernelIdeal := hKernelIdeal) (hReferenceIdeal := hReferenceIdeal) (hPre_regular := hPre_regular)
-- ==== Pre_regular.lean ====
abbrev S1x2048x768 : Shape := ⟨3, ![1, 2048, 768]⟩
abbrev S768x768 : Shape := ⟨2, ![768, 768]⟩
abbrev S128x768 : Shape := ⟨2, ![128, 768]⟩
abbrev S3x768 : Shape := ⟨2, ![3, 768]⟩
abbrev S2x2048x64 : Shape := ⟨3, ![2, 2048, 64]⟩
abbrev S2048x768 : Shape := ⟨2, ![2048, 768]⟩
abbrev S2048x12x64 : Shape := ⟨3, ![2048, 12, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x12x32 : Shape := ⟨3, ![2048, 12, 32]⟩
abbrev S768x128 : Shape := ⟨2, ![768, 128]⟩
abbrev S2048x128 : Shape := ⟨2, ![2048, 128]⟩
abbrev S2048x2x64 : Shape := ⟨3, ![2048, 2, 64]⟩
abbrev S2048x2x32 : Shape := ⟨3, ![2048, 2, 32]⟩
abbrev S2048x2x6x64 : Shape := ⟨4, ![2048, 2, 6, 64]⟩
abbrev S127 : Shape := ⟨1, ![127]⟩
abbrev S127x1 : Shape := ⟨2, ![127, 1]⟩
abbrev S127x32 : Shape := ⟨2, ![127, 32]⟩
abbrev S127x32x1 : Shape := ⟨3, ![127, 32, 1]⟩
abbrev S127x32x2x64 : Shape := ⟨4, ![127, 32, 2, 64]⟩
abbrev S127x2x32x64 : Shape := ⟨4, ![127, 2, 32, 64]⟩
abbrev S127x2x2048 : Shape := ⟨3, ![127, 2, 2048]⟩
abbrev S2x64x127 : Shape := ⟨3, ![2, 64, 127]⟩
abbrev S127x2x64 : Shape := ⟨3, ![127, 2, 64]⟩
abbrev S2x127x2048x6 : Shape := ⟨4, ![2, 127, 2048, 6]⟩
abbrev S2x6x2048x127 : Shape := ⟨4, ![2, 6, 2048, 127]⟩
abbrev S1x127 : Shape := ⟨2, ![1, 127]⟩
abbrev S2048x127 : Shape := ⟨2, ![2048, 127]⟩
abbrev S1x1x2048x127 : Shape := ⟨4, ![1, 1, 2048, 127]⟩
abbrev S2x6x2048 : Shape := ⟨3, ![2, 6, 2048]⟩
abbrev S1x1x2048 : Shape := ⟨3, ![1, 1, 2048]⟩
abbrev S2x6x2048x1 : Shape := ⟨4, ![2, 6, 2048, 1]⟩
abbrev S2x2048x127 : Shape := ⟨3, ![2, 2048, 127]⟩
abbrev S2x2048x127x1 : Shape := ⟨4, ![2, 2048, 127, 1]⟩
abbrev S1x1x127x32 : Shape := ⟨4, ![1, 1, 127, 32]⟩
abbrev S2x2048x127x32 : Shape := ⟨4, ![2, 2048, 127, 32]⟩
abbrev S2x2048x32 : Shape := ⟨3, ![2, 2048, 32]⟩
abbrev S1x2048x32 : Shape := ⟨3, ![1, 2048, 32]⟩
abbrev S2x2048x17 : Shape := ⟨3, ![2, 2048, 17]⟩
abbrev S2x2048x1 : Shape := ⟨3, ![2, 2048, 1]⟩
abbrev S2x2048 : Shape := ⟨2, ![2, 2048]⟩

class Facts : Prop where
  shapeCasts_S1x2048x768_S2048x768 : S1x2048x768.ShapeCasts S2048x768
  transposes_S768x768_S768x768_1_0 : S768x768.Transposes [1, 0] S768x768
  shapeCasts_S2048x768_S2048x12x64 : S2048x768.ShapeCasts S2048x12x64
  bcast_S_S32 : S_.BroadcastsInDim S32 (![] : Fin 0 → Fin S32.rank)
  bcast_S2048_S2048x1_0 : S2048.BroadcastsInDim S2048x1 (![0] : Fin 1 → Fin S2048x1.rank)
  bcast_S32_S1x32_1 : S32.BroadcastsInDim S1x32 (![1] : Fin 1 → Fin S1x32.rank)
  bcast_S2048x1_S2048x32_0_1 : S2048x1.BroadcastsInDim S2048x32 (![0, 1] : Fin 2 → Fin S2048x32.rank)
  bcast_S1x32_S2048x32_0_1 : S1x32.BroadcastsInDim S2048x32 (![0, 1] : Fin 2 → Fin S2048x32.rank)
  bcast_S2048x32_S2048x1x32_0_2 : S2048x32.BroadcastsInDim S2048x1x32 (![0, 2] : Fin 2 → Fin S2048x1x32.rank)
  slices_S2048x12x64_S2048x12x32_0_0_0 : S2048x12x64.Slices ![0, 0, 0] S2048x12x32
  slices_S2048x12x64_S2048x12x32_0_0_32 : S2048x12x64.Slices ![0, 0, 32] S2048x12x32
  bcast_S2048x1x32_S2048x12x32_0_1_2 : S2048x1x32.BroadcastsInDim S2048x12x32 (![0, 1, 2] : Fin 3 → Fin S2048x12x32.rank)
  concatenates_S2048x12x32_S2048x12x32_S2048x12x64_d2 : Shape.Concatenates [S2048x12x32, S2048x12x32] S2048x12x64 2
  transposes_S128x768_S768x128_1_0 : S128x768.Transposes [1, 0] S768x128
  shapeCasts_S2048x128_S2048x2x64 : S2048x128.ShapeCasts S2048x2x64
  slices_S2048x2x64_S2048x2x32_0_0_0 : S2048x2x64.Slices ![0, 0, 0] S2048x2x32
  slices_S2048x2x64_S2048x2x32_0_0_32 : S2048x2x64.Slices ![0, 0, 32] S2048x2x32
  bcast_S2048x1x32_S2048x2x32_0_1_2 : S2048x1x32.BroadcastsInDim S2048x2x32 (![0, 1, 2] : Fin 3 → Fin S2048x2x32.rank)
  concatenates_S2048x2x32_S2048x2x32_S2048x2x64_d2 : Shape.Concatenates [S2048x2x32, S2048x2x32] S2048x2x64 2
  shapeCasts_S2048x12x64_S2048x2x6x64 : S2048x12x64.ShapeCasts S2048x2x6x64
  bcast_S_S127 : S_.BroadcastsInDim S127 (![] : Fin 0 → Fin S127.rank)
  bcast_S127_S127x1_0 : S127.BroadcastsInDim S127x1 (![0] : Fin 1 → Fin S127x1.rank)
  bcast_S127x1_S127x32_0_1 : S127x1.BroadcastsInDim S127x32 (![0, 1] : Fin 2 → Fin S127x32.rank)
  bcast_S1x32_S127x32_0_1 : S1x32.BroadcastsInDim S127x32 (![0, 1] : Fin 2 → Fin S127x32.rank)
  bcast_S_S127x32 : S_.BroadcastsInDim S127x32 (![] : Fin 0 → Fin S127x32.rank)
  bcast_S127x32_S127x32x1_0_1 : S127x32.BroadcastsInDim S127x32x1 (![0, 1] : Fin 2 → Fin S127x32x1.rank)
  transposes_S127x32x2x64_S127x2x32x64_0_2_1_3 : S127x32x2x64.Transposes [0, 2, 1, 3] S127x2x32x64
  shapeCasts_S127x2x32x64_S127x2x2048 : S127x2x32x64.ShapeCasts S127x2x2048
  transposes_S2x64x127_S127x2x64_2_0_1 : S2x64x127.Transposes [2, 0, 1] S127x2x64
  transposes_S2x127x2048x6_S2x6x2048x127_0_3_2_1 : S2x127x2048x6.Transposes [0, 3, 2, 1] S2x6x2048x127
  bcast_S_S2x6x2048x127 : S_.BroadcastsInDim S2x6x2048x127 (![] : Fin 0 → Fin S2x6x2048x127.rank)
  bcast_S127_S1x127_1 : S127.BroadcastsInDim S1x127 (![1] : Fin 1 → Fin S1x127.rank)
  bcast_S2048x1_S2048x127_0_1 : S2048x1.BroadcastsInDim S2048x127 (![0, 1] : Fin 2 → Fin S2048x127.rank)
  bcast_S1x127_S2048x127_0_1 : S1x127.BroadcastsInDim S2048x127 (![0, 1] : Fin 2 → Fin S2048x127.rank)
  bcast_S2048x127_S1x1x2048x127_2_3 : S2048x127.BroadcastsInDim S1x1x2048x127 (![2, 3] : Fin 2 → Fin S1x1x2048x127.rank)
  bcast_S1x1x2048x127_S2x6x2048x127_0_1_2_3 : S1x1x2048x127.BroadcastsInDim S2x6x2048x127 (![0, 1, 2, 3] : Fin 4 → Fin S2x6x2048x127.rank)
  reducesTo_S2x6x2048x127_S2x6x2048_d3 : S2x6x2048x127.ReducesTo [3] S2x6x2048
  h_S_ : 0 < S_.numel
  bcast_S_S2048 : S_.BroadcastsInDim S2048 (![] : Fin 0 → Fin S2048.rank)
  bcast_S2048_S1x1x2048_2 : S2048.BroadcastsInDim S1x1x2048 (![2] : Fin 1 → Fin S1x1x2048.rank)
  bcast_S1x1x2048_S2x6x2048_0_1_2 : S1x1x2048.BroadcastsInDim S2x6x2048 (![0, 1, 2] : Fin 3 → Fin S2x6x2048.rank)
  bcast_S2x6x2048_S2x6x2048x1_0_1_2 : S2x6x2048.BroadcastsInDim S2x6x2048x1 (![0, 1, 2] : Fin 3 → Fin S2x6x2048x1.rank)
  bcast_S2x6x2048x1_S2x6x2048x127_0_1_2_3 : S2x6x2048x1.BroadcastsInDim S2x6x2048x127 (![0, 1, 2, 3] : Fin 4 → Fin S2x6x2048x127.rank)
  reducesTo_S2x6x2048x127_S2x2048x127_d1 : S2x6x2048x127.ReducesTo [1] S2x2048x127
  bcast_S2x2048x127_S2x2048x127x1_0_1_2 : S2x2048x127.BroadcastsInDim S2x2048x127x1 (![0, 1, 2] : Fin 3 → Fin S2x2048x127x1.rank)
  bcast_S127x32_S1x1x127x32_2_3 : S127x32.BroadcastsInDim S1x1x127x32 (![2, 3] : Fin 2 → Fin S1x1x127x32.rank)
  bcast_S2x2048x127x1_S2x2048x127x32_0_1_2_3 : S2x2048x127x1.BroadcastsInDim S2x2048x127x32 (![0, 1, 2, 3] : Fin 4 → Fin S2x2048x127x32.rank)
  bcast_S1x1x127x32_S2x2048x127x32_0_1_2_3 : S1x1x127x32.BroadcastsInDim S2x2048x127x32 (![0, 1, 2, 3] : Fin 4 → Fin S2x2048x127x32.rank)
  reducesTo_S2x2048x127x32_S2x2048x32_d2 : S2x2048x127x32.ReducesTo [2] S2x2048x32
  bcast_S_S1x32 : S_.BroadcastsInDim S1x32 (![] : Fin 0 → Fin S1x32.rank)
  bcast_S_S2048x1 : S_.BroadcastsInDim S2048x1 (![] : Fin 0 → Fin S2048x1.rank)
  bcast_S2048x32_S1x2048x32_1_2 : S2048x32.BroadcastsInDim S1x2048x32 (![1, 2] : Fin 2 → Fin S1x2048x32.rank)
  bcast_S1x2048x32_S2x2048x32_0_1_2 : S1x2048x32.BroadcastsInDim S2x2048x32 (![0, 1, 2] : Fin 3 → Fin S2x2048x32.rank)
  bcast_S_S2x2048x32 : S_.BroadcastsInDim S2x2048x32 (![] : Fin 0 → Fin S2x2048x32.rank)
  sliceFits_S2x2048x32_S2x2048x17 : S2x2048x32.Slices (fun _ => 0) S2x2048x17
  slices_S2x2048x17_S2x2048x1_0_0_15 : S2x2048x17.Slices ![0, 0, 15] S2x2048x1
  shapeCasts_S2x2048x1_S2x2048 : S2x2048x1.ShapeCasts S2x2048
  slices_S2x2048x17_S2x2048x1_0_0_16 : S2x2048x17.Slices ![0, 0, 16] S2x2048x1
  bcast_S_S2x2048 : S_.BroadcastsInDim S2x2048 (![] : Fin 0 → Fin S2x2048.rank)
  bcast_S_S1x2048x768 : S_.BroadcastsInDim S1x2048x768 (![] : Fin 0 → Fin S1x2048x768.rank)
  reducesTo_S1x2048x768_S_d0_1_2 : S1x2048x768.ReducesTo [0, 1, 2] S_
  bcast_S_S768x768 : S_.BroadcastsInDim S768x768 (![] : Fin 0 → Fin S768x768.rank)
  reducesTo_S768x768_S_d0_1 : S768x768.ReducesTo [0, 1] S_
  bcast_S_S128x768 : S_.BroadcastsInDim S128x768 (![] : Fin 0 → Fin S128x768.rank)
  reducesTo_S128x768_S_d0_1 : S128x768.ReducesTo [0, 1] S_
  bcast_S_S2x2048x64 : S_.BroadcastsInDim S2x2048x64 (![] : Fin 0 → Fin S2x2048x64.rank)
  reducesTo_S2x2048x64_S_d0_1_2 : S2x2048x64.ReducesTo [0, 1, 2] S_
  bcast_S_S2x6x2048 : S_.BroadcastsInDim S2x6x2048 (![] : Fin 0 → Fin S2x6x2048.rank)
  reducesTo_S2x6x2048_S_d0_1_2 : S2x6x2048.ReducesTo [0, 1, 2] S_
  reducesTo_S2x2048_S_d0_1 : S2x2048.ReducesTo [0, 1] S_
  dot_S2048x768_S768x768_S2048x768_1_0_0_1_n_n_wf : DotDims.WF S2048x768 S768x768 S2048x768 [1] [0] [0] [1] [] []
  dot_S2048x768_S768x128_S2048x128_1_0_0_1_n_n_wf : DotDims.WF S2048x768 S768x128 S2048x128 [1] [0] [0] [1] [] []
  gather_S2048x2x64_S127x32x1_S127x32x2x64_23_0_n_n_0_2_1264_wf : GatherDims.WF S2048x2x64 S127x32x1 S127x32x2x64 [2, 3] [0] [] [0] [] 2 ![1, 2, 64]
  dot_S2x2048x64_S127x2x2048_S2x64x127_1_2_2_0_0_1_wf : DotDims.WF S2x2048x64 S127x2x2048 S2x64x127 [1] [2] [2] [0] [0] [1]
  dot_S127x2x64_S2048x2x6x64_S2x127x2048x6_2_3_0_02_1_1_wf : DotDims.WF S127x2x64 S2048x2x6x64 S2x127x2048x6 [2] [3] [0] [0, 2] [1] [1]

variable [Facts]

def dot_S2048x768_S768x768_S2048x768_1_0_0_1_n_n : DotDims S2048x768 S768x768 S2048x768 where
  lhsContracting := [1]
  rhsContracting := [0]
  lhsNonContracting := [0]
  rhsNonContracting := [1]
  lhsBatch := []
  rhsBatch := []
  wf := dot_S2048x768_S768x768_S2048x768_1_0_0_1_n_n_wf
def dot_S2048x768_S768x128_S2048x128_1_0_0_1_n_n : DotDims S2048x768 S768x128 S2048x128 where
  lhsContracting := [1]
  rhsContracting := [0]
  lhsNonContracting := [0]
  rhsNonContracting := [1]
  lhsBatch := []
  rhsBatch := []
  wf := dot_S2048x768_S768x128_S2048x128_1_0_0_1_n_n_wf
def gather_S2048x2x64_S127x32x1_S127x32x2x64_23_0_n_n_0_2_1264 : GatherDims S2048x2x64 S127x32x1 S127x32x2x64 where
  offsetDims := [2, 3]
  collapsedSliceDims := [0]
  operandBatchingDims := []
  startIndicesBatchingDims := []
  startIndexMap := [0]
  indexVectorDim := 2
  sliceSizes := ![1, 2, 64]
  wf := gather_S2048x2x64_S127x32x1_S127x32x2x64_23_0_n_n_0_2_1264_wf
def dot_S2x2048x64_S127x2x2048_S2x64x127_1_2_2_0_0_1 : DotDims S2x2048x64 S127x2x2048 S2x64x127 where
  lhsContracting := [1]
  rhsContracting := [2]
  lhsNonContracting := [2]
  rhsNonContracting := [0]
  lhsBatch := [0]
  rhsBatch := [1]
  wf := dot_S2x2048x64_S127x2x2048_S2x64x127_1_2_2_0_0_1_wf
def dot_S127x2x64_S2048x2x6x64_S2x127x2048x6_2_3_0_02_1_1 : DotDims S127x2x64 S2048x2x6x64 S2x127x2048x6 where
  lhsContracting := [2]
  rhsContracting := [3]
  lhsNonContracting := [0]
  rhsNonContracting := [0, 2]
  lhsBatch := [1]
  rhsBatch := [1]
  wf := dot_S127x2x64_S2048x2x6x64_S2x127x2048x6_2_3_0_02_1_1_wf
def fn_part11 {F : FTy → Type} [FloatOps F] (main_arg6 : FVec F S2x2048x64 .f32) (main_v110 : FVec F S2x6x2048 .f32) (main_v115 : IVec S2x6x2048 1) (main_v209 : IVec S2x2048 1) (main_v218 : IVec S_ 1) (main_v221 : IVec S128x768 1) (main_c_37 : IVec S_ 1) : IVec S_ 1 :=
  let main_v222 : IVec S_ 1 := (fun x v => Host.reduce IntOp.andi x v reducesTo_S128x768_S_d0_1 h_S_) main_v221 main_c_37
  let main_v223 : IVec S_ 1 := andi main_v218 main_v222
  let main_v224 : FVec F S2x2048x64 .f32 := Host.absf main_arg6
  let main_cst_38 : FVec F S_ .f32 := constant S_ .f32 0x7F800000#32
  let main_v225 : FVec F S2x2048x64 .f32 := broadcastInDim S2x2048x64 ![] bcast_S_S2x2048x64 main_cst_38
  let main_v226 : IVec S2x2048x64 1 := cmpf .olt main_v224 main_v225
  let main_c_39 : IVec S_ 1 := constantI S_ 1 1#1
  let main_v227 : IVec S_ 1 := (fun x v => Host.reduce IntOp.andi x v reducesTo_S2x2048x64_S_d0_1_2 h_S_) main_v226 main_c_39
  let main_v228 : IVec S_ 1 := andi main_v223 main_v227
  let main_cst_40 : FVec F S_ .f32 := constant S_ .f32 0x0DA24260#32
  let main_v229 : FVec F S2x6x2048 .f32 := broadcastInDim S2x6x2048 ![] bcast_S_S2x6x2048 main_cst_40
  let main_v230 : IVec S2x6x2048 1 := cmpf .oge main_v110 main_v229
  let main_v231 : IVec S2x6x2048 1 := ori main_v230 main_v115
  let main_c_41 : IVec S_ 1 := constantI S_ 1 1#1
  let main_v232 : IVec S_ 1 := (fun x v => Host.reduce IntOp.andi x v reducesTo_S2x6x2048_S_d0_1_2 h_S_) main_v231 main_c_41
  let main_v233 : IVec S_ 1 := andi main_v228 main_v232
  let main_c_42 : IVec S_ 1 := constantI S_ 1 1#1
  let main_v234 : IVec S_ 1 := (fun x v => Host.reduce IntOp.andi x v reducesTo_S2x2048_S_d0_1 h_S_) main_v209 main_c_42
  let main_v235 : IVec S_ 1 := andi main_v233 main_v234
  main_v235

def fn_part10 {F : FTy → Type} [FloatOps F] (main_arg0 : FVec F S1x2048x768 .f32) (main_arg1 : FVec F S768x768 .f32) (main_arg2 : FVec F S128x768 .f32) (main_arg6 : FVec F S2x2048x64 .f32) (main_v110 : FVec F S2x6x2048 .f32) (main_v115 : IVec S2x6x2048 1) (main_values : FVec F S2x2048x17 .f32) (main_v204 : IVec S2x2048 1) : IVec S_ 1 :=
  let main_v205 : FVec F S2x2048x1 .f32 := (extractStridedSlice S2x2048x1 ![0, 0, 16] · slices_S2x2048x17_S2x2048x1_0_0_16) main_values
  let main_v206 : FVec F S2x2048 .f32 := shapeCast S2x2048 main_v205 shapeCasts_S2x2048x1_S2x2048
  let main_cst_31 : FVec F S_ .f32 := constant S_ .f32 0xEFA18F08#32
  let main_v207 : FVec F S2x2048 .f32 := broadcastInDim S2x2048 ![] bcast_S_S2x2048 main_cst_31
  let main_v208 : IVec S2x2048 1 := cmpf .ole main_v206 main_v207
  let main_v209 : IVec S2x2048 1 := ori main_v204 main_v208
  let main_v210 : FVec F S1x2048x768 .f32 := Host.absf main_arg0
  let main_cst_32 : FVec F S_ .f32 := constant S_ .f32 0x7F800000#32
  let main_v211 : FVec F S1x2048x768 .f32 := broadcastInDim S1x2048x768 ![] bcast_S_S1x2048x768 main_cst_32
  let main_v212 : IVec S1x2048x768 1 := cmpf .olt main_v210 main_v211
  let main_c_33 : IVec S_ 1 := constantI S_ 1 1#1
  let main_v213 : IVec S_ 1 := (fun x v => Host.reduce IntOp.andi x v reducesTo_S1x2048x768_S_d0_1_2 h_S_) main_v212 main_c_33
  let main_v214 : FVec F S768x768 .f32 := Host.absf main_arg1
  let main_cst_34 : FVec F S_ .f32 := constant S_ .f32 0x7F800000#32
  let main_v215 : FVec F S768x768 .f32 := broadcastInDim S768x768 ![] bcast_S_S768x768 main_cst_34
  let main_v216 : IVec S768x768 1 := cmpf .olt main_v214 main_v215
  let main_c_35 : IVec S_ 1 := constantI S_ 1 1#1
  let main_v217 : IVec S_ 1 := (fun x v => Host.reduce IntOp.andi x v reducesTo_S768x768_S_d0_1 h_S_) main_v216 main_c_35
  let main_v218 : IVec S_ 1 := andi main_v213 main_v217
  let main_v219 : FVec F S128x768 .f32 := Host.absf main_arg2
  let main_cst_36 : FVec F S_ .f32 := constant S_ .f32 0x7F800000#32
  let main_v220 : FVec F S128x768 .f32 := broadcastInDim S128x768 ![] bcast_S_S128x768 main_cst_36
  let main_v221 : IVec S128x768 1 := cmpf .olt main_v219 main_v220
  let main_c_37 : IVec S_ 1 := constantI S_ 1 1#1
  fn_part11 (F := F) main_arg6 main_v110 main_v115 main_v209 main_v218 main_v221 main_c_37

def fn_part9 {F : FTy → Type} [FloatOps F] (main_arg0 : FVec F S1x2048x768 .f32) (main_arg1 : FVec F S768x768 .f32) (main_arg2 : FVec F S128x768 .f32) (main_arg6 : FVec F S2x2048x64 .f32) (main_v110 : FVec F S2x6x2048 .f32) (main_v115 : IVec S2x6x2048 1) (main_v146 : IVec S32 32) (main_v163 : FVec F S2x2048x32 .f32) (main_v166 : IVec S2048 32) (main_v169 : IVec S1x32 1) (main_v184 : IVec S2048x32 1) : IVec S_ 1 :=
  let main_v185 : IVec S2048x32 1 := broadcastInDim S2048x32 ![0, 1] bcast_S1x32_S2048x32_0_1 main_v169
  let main_v186 : IVec S2048x32 1 := ori main_v185 main_v184
  let main_v187 : IVec S1x2048x32 1 := broadcastInDim S1x2048x32 ![1, 2] bcast_S2048x32_S1x2048x32_1_2 main_v186
  let main_v188 : IVec S2x2048x32 1 := broadcastInDim S2x2048x32 ![0, 1, 2] bcast_S1x2048x32_S2x2048x32_0_1_2 main_v187
  let main_v189 : IVec S1x32 32 := broadcastInDim S1x32 ![1] bcast_S32_S1x32_1 main_v146
  let main_v190 : IVec S2048x1 32 := broadcastInDim S2048x1 ![0] bcast_S2048_S2048x1_0 main_v166
  let main_v191 : IVec S2048x32 32 := broadcastInDim S2048x32 ![0, 1] bcast_S1x32_S2048x32_0_1 main_v189
  let main_v192 : IVec S2048x32 32 := broadcastInDim S2048x32 ![0, 1] bcast_S2048x1_S2048x32_0_1 main_v190
  let main_v193 : IVec S2048x32 1 := cmpi .sle main_v191 main_v192
  let main_cst_29 : FVec F S_ .f32 := constant S_ .f32 0x4E6E6B28#32
  let main_v194 : FVec F S2x2048x32 .f32 := broadcastInDim S2x2048x32 ![] bcast_S_S2x2048x32 main_cst_29
  let main_v195 : FVec F S2x2048x32 .f32 := select main_v188 main_v194 main_v163
  let main_v196 : IVec S1x2048x32 1 := broadcastInDim S1x2048x32 ![1, 2] bcast_S2048x32_S1x2048x32_1_2 main_v193
  let main_v197 : IVec S2x2048x32 1 := broadcastInDim S2x2048x32 ![0, 1, 2] bcast_S1x2048x32_S2x2048x32_0_1_2 main_v196
  let main_cst_30 : FVec F S_ .f32 := constant S_ .f32 0xFF800000#32
  let main_v198 : FVec F S2x2048x32 .f32 := broadcastInDim S2x2048x32 ![] bcast_S_S2x2048x32 main_cst_30
  let main_v199 : FVec F S2x2048x32 .f32 := select main_v197 main_v195 main_v198
  let main_values : FVec F S2x2048x17 .f32 := (fun x => (Host.topK S2x2048x17 2 (FloatOps.cmpfTotal .gt) x sliceFits_S2x2048x32_S2x2048x17).1) main_v199
  let main_indices : IVec S2x2048x17 32 := (fun x => (Host.topK S2x2048x17 2 (FloatOps.cmpfTotal .gt) x sliceFits_S2x2048x32_S2x2048x17).2) main_v199
  let main_v200 : FVec F S2x2048x1 .f32 := (extractStridedSlice S2x2048x1 ![0, 0, 15] · slices_S2x2048x17_S2x2048x1_0_0_15) main_values
  let main_v201 : FVec F S2x2048 .f32 := shapeCast S2x2048 main_v200 shapeCasts_S2x2048x1_S2x2048
  let main_v202 : FVec F S2x2048x1 .f32 := (extractStridedSlice S2x2048x1 ![0, 0, 16] · slices_S2x2048x17_S2x2048x1_0_0_16) main_values
  let main_v203 : FVec F S2x2048 .f32 := shapeCast S2x2048 main_v202 shapeCasts_S2x2048x1_S2x2048
  let main_v204 : IVec S2x2048 1 := cmpf .ogt main_v201 main_v203
  fn_part10 (F := F) main_arg0 main_arg1 main_arg2 main_arg6 main_v110 main_v115 main_values main_v204

def fn_part8 {F : FTy → Type} [FloatOps F] (main_arg0 : FVec F S1x2048x768 .f32) (main_arg1 : FVec F S768x768 .f32) (main_arg2 : FVec F S128x768 .f32) (main_arg6 : FVec F S2x2048x64 .f32) (main_v110 : FVec F S2x6x2048 .f32) (main_v115 : IVec S2x6x2048 1) (main_v146 : IVec S32 32) (main_v163 : FVec F S2x2048x32 .f32) (main_v164 : IVec S2048 32) : IVec S_ 1 :=
  let main_c_25 : IVec S_ 32 := constantI S_ 32 64#32
  let main_v165 : IVec S2048 32 := broadcastInDim S2048 ![] bcast_S_S2048 main_c_25
  let main_v166 : IVec S2048 32 := Host.divsi main_v164 main_v165
  let main_v167 : IVec S1x32 32 := broadcastInDim S1x32 ![1] bcast_S32_S1x32_1 main_v146
  let main_c_26 : IVec S_ 32 := constantI S_ 32 1#32
  let main_v168 : IVec S1x32 32 := broadcastInDim S1x32 ![] bcast_S_S1x32 main_c_26
  let main_v169 : IVec S1x32 1 := cmpi .slt main_v167 main_v168
  let main_v170 : IVec S1x32 32 := broadcastInDim S1x32 ![1] bcast_S32_S1x32_1 main_v146
  let main_v171 : IVec S2048x1 32 := broadcastInDim S2048x1 ![0] bcast_S2048_S2048x1_0 main_v166
  let main_v172 : IVec S2048x32 32 := broadcastInDim S2048x32 ![0, 1] bcast_S1x32_S2048x32_0_1 main_v170
  let main_v173 : IVec S2048x32 32 := broadcastInDim S2048x32 ![0, 1] bcast_S2048x1_S2048x32_0_1 main_v171
  let main_v174 : IVec S2048x32 1 := cmpi .sle main_v172 main_v173
  let main_v175 : IVec S1x32 32 := broadcastInDim S1x32 ![1] bcast_S32_S1x32_1 main_v146
  let main_v176 : IVec S2048x1 32 := broadcastInDim S2048x1 ![0] bcast_S2048_S2048x1_0 main_v166
  let main_c_27 : IVec S_ 32 := constantI S_ 32 2#32
  let main_v177 : IVec S2048x1 32 := broadcastInDim S2048x1 ![] bcast_S_S2048x1 main_c_27
  let main_v178 : IVec S2048x1 32 := subi main_v176 main_v177
  let main_c_28 : IVec S_ 32 := constantI S_ 32 1#32
  let main_v179 : IVec S2048x1 32 := broadcastInDim S2048x1 ![] bcast_S_S2048x1 main_c_28
  let main_v180 : IVec S2048x1 32 := addi main_v178 main_v179
  let main_v181 : IVec S2048x32 32 := broadcastInDim S2048x32 ![0, 1] bcast_S1x32_S2048x32_0_1 main_v175
  let main_v182 : IVec S2048x32 32 := broadcastInDim S2048x32 ![0, 1] bcast_S2048x1_S2048x32_0_1 main_v180
  let main_v183 : IVec S2048x32 1 := cmpi .sge main_v181 main_v182
  let main_v184 : IVec S2048x32 1 := andi main_v174 main_v183
  fn_part9 (F := F) main_arg0 main_arg1 main_arg2 main_arg6 main_v110 main_v115 main_v146 main_v163 main_v166 main_v169 main_v184

def fn_part7 {F : FTy → Type} [FloatOps F] (main_arg0 : FVec F S1x2048x768 .f32) (main_arg1 : FVec F S768x768 .f32) (main_arg2 : FVec F S128x768 .f32) (main_arg6 : FVec F S2x2048x64 .f32) (main_v110 : FVec F S2x6x2048 .f32) (main_v115 : IVec S2x6x2048 1) (main_v144 : FVec F S2x6x2048x127 .f32) : IVec S_ 1 :=
  let main_cst_21 : FVec F S_ .f32 := constant S_ .f32 0x00000000#32
  let main_v145 : FVec F S2x2048x127 .f32 := (fun x v => Host.reduceAdd x v reducesTo_S2x6x2048x127_S2x2048x127_d1 h_S_) main_v144 main_cst_21
  let main_v146 : IVec S32 32 := iotaInDim S32 32 0
  let main_v147 : IVec S127 32 := iotaInDim S127 32 0
  let main_c_22 : IVec S_ 32 := constantI S_ 32 16#32
  let main_v148 : IVec S127 32 := broadcastInDim S127 ![] bcast_S_S127 main_c_22
  let main_v149 : IVec S127 32 := muli main_v147 main_v148
  let main_c_23 : IVec S_ 32 := constantI S_ 32 64#32
  let main_v150 : IVec S127 32 := broadcastInDim S127 ![] bcast_S_S127 main_c_23
  let main_v151 : IVec S127 32 := Host.divsi main_v149 main_v150
  let main_v152 : IVec S127x1 32 := broadcastInDim S127x1 ![0] bcast_S127_S127x1_0 main_v151
  let main_v153 : IVec S1x32 32 := broadcastInDim S1x32 ![1] bcast_S32_S1x32_1 main_v146
  let main_v154 : IVec S127x32 32 := broadcastInDim S127x32 ![0, 1] bcast_S127x1_S127x32_0_1 main_v152
  let main_v155 : IVec S127x32 32 := broadcastInDim S127x32 ![0, 1] bcast_S1x32_S127x32_0_1 main_v153
  let main_v156 : IVec S127x32 1 := cmpi .eq main_v154 main_v155
  let main_v157 : FVec F S127x32 .f32 := uitofp .f32 main_v156
  let main_v158 : FVec F S2x2048x127x1 .f32 := broadcastInDim S2x2048x127x1 ![0, 1, 2] bcast_S2x2048x127_S2x2048x127x1_0_1_2 main_v145
  let main_v159 : FVec F S1x1x127x32 .f32 := broadcastInDim S1x1x127x32 ![2, 3] bcast_S127x32_S1x1x127x32_2_3 main_v157
  let main_v160 : FVec F S2x2048x127x32 .f32 := broadcastInDim S2x2048x127x32 ![0, 1, 2, 3] bcast_S2x2048x127x1_S2x2048x127x32_0_1_2_3 main_v158
  let main_v161 : FVec F S2x2048x127x32 .f32 := broadcastInDim S2x2048x127x32 ![0, 1, 2, 3] bcast_S1x1x127x32_S2x2048x127x32_0_1_2_3 main_v159
  let main_v162 : FVec F S2x2048x127x32 .f32 := mulf main_v160 main_v161
  let main_cst_24 : FVec F S_ .f32 := constant S_ .f32 0x00000000#32
  let main_v163 : FVec F S2x2048x32 .f32 := (fun x v => Host.reduceAdd x v reducesTo_S2x2048x127x32_S2x2048x32_d2 h_S_) main_v162 main_cst_24
  let main_v164 : IVec S2048 32 := iotaInDim S2048 32 0
  fn_part8 (F := F) main_arg0 main_arg1 main_arg2 main_arg6 main_v110 main_v115 main_v146 main_v163 main_v164

def fn_part6 {F : FTy → Type} [FloatOps F] (main_arg0 : FVec F S1x2048x768 .f32) (main_arg1 : FVec F S768x768 .f32) (main_arg2 : FVec F S128x768 .f32) (main_arg6 : FVec F S2x2048x64 .f32) (main_v91 : FVec F S2x6x2048x127 .f32) (main_v110 : FVec F S2x6x2048 .f32) (main_v115 : IVec S2x6x2048 1) (main_v117 : IVec S2048x1 32) (main_v124 : IVec S127 32) : IVec S_ 1 :=
  let main_v125 : IVec S1x127 32 := broadcastInDim S1x127 ![1] bcast_S127_S1x127_1 main_v124
  let main_v126 : IVec S2048x127 32 := broadcastInDim S2048x127 ![0, 1] bcast_S2048x1_S2048x127_0_1 main_v117
  let main_v127 : IVec S2048x127 32 := broadcastInDim S2048x127 ![0, 1] bcast_S1x127_S2048x127_0_1 main_v125
  let main_v128 : IVec S2048x127 1 := cmpi .sge main_v126 main_v127
  let main_v129 : IVec S1x1x2048x127 1 := broadcastInDim S1x1x2048x127 ![2, 3] bcast_S2048x127_S1x1x2048x127_2_3 main_v128
  let main_v130 : IVec S2x6x2048x127 1 := broadcastInDim S2x6x2048x127 ![0, 1, 2, 3] bcast_S1x1x2048x127_S2x6x2048x127_0_1_2_3 main_v129
  let main_cst_17 : FVec F S_ .f32 := constant S_ .f32 0xFF800000#32
  let main_v131 : FVec F S2x6x2048x127 .f32 := broadcastInDim S2x6x2048x127 ![] bcast_S_S2x6x2048x127 main_cst_17
  let main_v132 : FVec F S2x6x2048x127 .f32 := select main_v130 main_v91 main_v131
  let main_cst_18 : FVec F S_ .f32 := constant S_ .f32 0xFF800000#32
  let main_v133 : FVec F S2x6x2048 .f32 := (fun x v => Host.reduce FloatOps.maximumf x v reducesTo_S2x6x2048x127_S2x6x2048_d3 h_S_) main_v132 main_cst_18
  let main_v134 : FVec F S2x6x2048x1 .f32 := broadcastInDim S2x6x2048x1 ![0, 1, 2] bcast_S2x6x2048_S2x6x2048x1_0_1_2 main_v133
  let main_v135 : FVec F S2x6x2048x127 .f32 := broadcastInDim S2x6x2048x127 ![0, 1, 2, 3] bcast_S2x6x2048x1_S2x6x2048x127_0_1_2_3 main_v134
  let main_v136 : FVec F S2x6x2048x127 .f32 := subf main_v132 main_v135
  let main_v137 : FVec F S2x6x2048x127 .f32 := Host.exp main_v136
  let main_cst_19 : FVec F S_ .f32 := constant S_ .f32 0x00000000#32
  let main_v138 : FVec F S2x6x2048 .f32 := (fun x v => Host.reduceAdd x v reducesTo_S2x6x2048x127_S2x6x2048_d3 h_S_) main_v137 main_cst_19
  let main_v139 : FVec F S2x6x2048x1 .f32 := broadcastInDim S2x6x2048x1 ![0, 1, 2] bcast_S2x6x2048_S2x6x2048x1_0_1_2 main_v138
  let main_v140 : FVec F S2x6x2048x127 .f32 := broadcastInDim S2x6x2048x127 ![0, 1, 2, 3] bcast_S2x6x2048x1_S2x6x2048x127_0_1_2_3 main_v139
  let main_v141 : FVec F S2x6x2048x127 .f32 := Host.divf main_v137 main_v140
  let main_v142 : IVec S2x6x2048x127 1 := broadcastInDim S2x6x2048x127 ![0, 1, 2, 3] bcast_S1x1x2048x127_S2x6x2048x127_0_1_2_3 main_v129
  let main_cst_20 : FVec F S_ .f32 := constant S_ .f32 0x00000000#32
  let main_v143 : FVec F S2x6x2048x127 .f32 := broadcastInDim S2x6x2048x127 ![] bcast_S_S2x6x2048x127 main_cst_20
  let main_v144 : FVec F S2x6x2048x127 .f32 := select main_v142 main_v141 main_v143
  fn_part7 (F := F) main_arg0 main_arg1 main_arg2 main_arg6 main_v110 main_v115 main_v144

def fn_part5 {F : FTy → Type} [FloatOps F] (main_arg0 : FVec F S1x2048x768 .f32) (main_arg1 : FVec F S768x768 .f32) (main_arg2 : FVec F S128x768 .f32) (main_arg6 : FVec F S2x2048x64 .f32) (main_v91 : FVec F S2x6x2048x127 .f32) (main_v106 : IVec S2x6x2048x127 1) : IVec S_ 1 :=
  let main_cst_11 : FVec F S_ .f32 := constant S_ .f32 0xFF800000#32
  let main_v107 : FVec F S2x6x2048x127 .f32 := broadcastInDim S2x6x2048x127 ![] bcast_S_S2x6x2048x127 main_cst_11
  let main_v108 : FVec F S2x6x2048x127 .f32 := select main_v106 main_v91 main_v107
  let main_v109 : FVec F S2x6x2048x127 .f32 := Host.exp main_v108
  let main_cst_12 : FVec F S_ .f32 := constant S_ .f32 0x00000000#32
  let main_v110 : FVec F S2x6x2048 .f32 := (fun x v => Host.reduceAdd x v reducesTo_S2x6x2048x127_S2x6x2048_d3 h_S_) main_v109 main_cst_12
  let main_v111 : IVec S2048 32 := iotaInDim S2048 32 0
  let main_c_13 : IVec S_ 32 := constantI S_ 32 31#32
  let main_v112 : IVec S2048 32 := broadcastInDim S2048 ![] bcast_S_S2048 main_c_13
  let main_v113 : IVec S2048 1 := cmpi .slt main_v111 main_v112
  let main_v114 : IVec S1x1x2048 1 := broadcastInDim S1x1x2048 ![2] bcast_S2048_S1x1x2048_2 main_v113
  let main_v115 : IVec S2x6x2048 1 := broadcastInDim S2x6x2048 ![0, 1, 2] bcast_S1x1x2048_S2x6x2048_0_1_2 main_v114
  let main_v116 : IVec S2048 32 := iotaInDim S2048 32 0
  let main_v117 : IVec S2048x1 32 := broadcastInDim S2048x1 ![0] bcast_S2048_S2048x1_0 main_v116
  let main_v118 : IVec S127 32 := iotaInDim S127 32 0
  let main_c_14 : IVec S_ 32 := constantI S_ 32 16#32
  let main_v119 : IVec S127 32 := broadcastInDim S127 ![] bcast_S_S127 main_c_14
  let main_v120 : IVec S127 32 := muli main_v118 main_v119
  let main_c_15 : IVec S_ 32 := constantI S_ 32 32#32
  let main_v121 : IVec S127 32 := broadcastInDim S127 ![] bcast_S_S127 main_c_15
  let main_v122 : IVec S127 32 := addi main_v120 main_v121
  let main_c_16 : IVec S_ 32 := constantI S_ 32 1#32
  let main_v123 : IVec S127 32 := broadcastInDim S127 ![] bcast_S_S127 main_c_16
  let main_v124 : IVec S127 32 := subi main_v122 main_v123
  fn_part6 (F := F) main_arg0 main_arg1 main_arg2 main_arg6 main_v91 main_v110 main_v115 main_v117 main_v124

def fn_part4 {F : FTy → Type} [FloatOps F] (main_arg0 : FVec F S1x2048x768 .f32) (main_arg1 : FVec F S768x768 .f32) (main_arg2 : FVec F S128x768 .f32) (main_arg6 : FVec F S2x2048x64 .f32) (main_v67 : FVec F S2048x2x6x64 .f32) (main_v86 : FVec F S2x64x127 .f32) : IVec S_ 1 :=
  let main_v87 : FVec F S127x2x64 .f32 := (transpose S127x2x64 [2, 0, 1] · transposes_S2x64x127_S127x2x64_2_0_1) main_v86
  let main_v88 : FVec F S2x127x2048x6 .f32 := (fun l r => Host.dotGeneral dot_S127x2x64_S2048x2x6x64_S2x127x2048x6_2_3_0_02_1_1 none l r) main_v87 main_v67
  let main_v89 : FVec F S2x6x2048x127 .f32 := (transpose S2x6x2048x127 [0, 3, 2, 1] · transposes_S2x127x2048x6_S2x6x2048x127_0_3_2_1) main_v88
  let main_cst_7 : FVec F S_ .f32 := constant S_ .f32 0x3E000000#32
  let main_v90 : FVec F S2x6x2048x127 .f32 := broadcastInDim S2x6x2048x127 ![] bcast_S_S2x6x2048x127 main_cst_7
  let main_v91 : FVec F S2x6x2048x127 .f32 := mulf main_v89 main_v90
  let main_v92 : IVec S2048 32 := iotaInDim S2048 32 0
  let main_v93 : IVec S2048x1 32 := broadcastInDim S2048x1 ![0] bcast_S2048_S2048x1_0 main_v92
  let main_v94 : IVec S127 32 := iotaInDim S127 32 0
  let main_c_8 : IVec S_ 32 := constantI S_ 32 16#32
  let main_v95 : IVec S127 32 := broadcastInDim S127 ![] bcast_S_S127 main_c_8
  let main_v96 : IVec S127 32 := muli main_v94 main_v95
  let main_c_9 : IVec S_ 32 := constantI S_ 32 32#32
  let main_v97 : IVec S127 32 := broadcastInDim S127 ![] bcast_S_S127 main_c_9
  let main_v98 : IVec S127 32 := addi main_v96 main_v97
  let main_c_10 : IVec S_ 32 := constantI S_ 32 1#32
  let main_v99 : IVec S127 32 := broadcastInDim S127 ![] bcast_S_S127 main_c_10
  let main_v100 : IVec S127 32 := subi main_v98 main_v99
  let main_v101 : IVec S1x127 32 := broadcastInDim S1x127 ![1] bcast_S127_S1x127_1 main_v100
  let main_v102 : IVec S2048x127 32 := broadcastInDim S2048x127 ![0, 1] bcast_S2048x1_S2048x127_0_1 main_v93
  let main_v103 : IVec S2048x127 32 := broadcastInDim S2048x127 ![0, 1] bcast_S1x127_S2048x127_0_1 main_v101
  let main_v104 : IVec S2048x127 1 := cmpi .sge main_v102 main_v103
  let main_v105 : IVec S1x1x2048x127 1 := broadcastInDim S1x1x2048x127 ![2, 3] bcast_S2048x127_S1x1x2048x127_2_3 main_v104
  let main_v106 : IVec S2x6x2048x127 1 := broadcastInDim S2x6x2048x127 ![0, 1, 2, 3] bcast_S1x1x2048x127_S2x6x2048x127_0_1_2_3 main_v105
  fn_part5 (F := F) main_arg0 main_arg1 main_arg2 main_arg6 main_v91 main_v106

def fn_part3 {F : FTy → Type} [FloatOps F] (main_arg0 : FVec F S1x2048x768 .f32) (main_arg1 : FVec F S768x768 .f32) (main_arg2 : FVec F S128x768 .f32) (main_arg6 : FVec F S2x2048x64 .f32) (main_v33 : FVec F S2048x12x64 .f32) (main_v60 : FVec F S2048x2x32 .f32) (main_v65 : FVec F S2048x2x32 .f32) : IVec S_ 1 :=
  let main_v66 : FVec F S2048x2x64 .f32 := (fun a b => concatenate S2048x2x64 2 [⟨S2048x2x32, a⟩, ⟨S2048x2x32, b⟩] concatenates_S2048x2x32_S2048x2x32_S2048x2x64_d2) main_v60 main_v65
  let main_v67 : FVec F S2048x2x6x64 .f32 := shapeCast S2048x2x6x64 main_v33 shapeCasts_S2048x12x64_S2048x2x6x64
  let main_v68 : IVec S127 32 := iotaInDim S127 32 0
  let main_c : IVec S_ 32 := constantI S_ 32 16#32
  let main_v69 : IVec S127 32 := broadcastInDim S127 ![] bcast_S_S127 main_c
  let main_v70 : IVec S127 32 := muli main_v68 main_v69
  let main_v71 : IVec S127x1 32 := broadcastInDim S127x1 ![0] bcast_S127_S127x1_0 main_v70
  let main_v72 : IVec S32 32 := iotaInDim S32 32 0
  let main_v73 : IVec S1x32 32 := broadcastInDim S1x32 ![1] bcast_S32_S1x32_1 main_v72
  let main_v74 : IVec S127x32 32 := broadcastInDim S127x32 ![0, 1] bcast_S127x1_S127x32_0_1 main_v71
  let main_v75 : IVec S127x32 32 := broadcastInDim S127x32 ![0, 1] bcast_S1x32_S127x32_0_1 main_v73
  let main_v76 : IVec S127x32 32 := addi main_v74 main_v75
  let main_c_5 : IVec S_ 32 := constantI S_ 32 0#32
  let main_v77 : IVec S127x32 32 := broadcastInDim S127x32 ![] bcast_S_S127x32 main_c_5
  let main_v78 : IVec S127x32 1 := cmpi .slt main_v76 main_v77
  let main_c_6 : IVec S_ 32 := constantI S_ 32 2048#32
  let main_v79 : IVec S127x32 32 := broadcastInDim S127x32 ![] bcast_S_S127x32 main_c_6
  let main_v80 : IVec S127x32 32 := addi main_v76 main_v79
  let main_v81 : IVec S127x32 32 := select main_v78 main_v80 main_v76
  let main_v82 : IVec S127x32x1 32 := broadcastInDim S127x32x1 ![0, 1] bcast_S127x32_S127x32x1_0_1 main_v81
  let main_v83 : FVec F S127x32x2x64 .f32 := (fun x i => Host.gather gather_S2048x2x64_S127x32x1_S127x32x2x64_23_0_n_n_0_2_1264 x i) main_v66 main_v82
  let main_v84 : FVec F S127x2x32x64 .f32 := (transpose S127x2x32x64 [0, 2, 1, 3] · transposes_S127x32x2x64_S127x2x32x64_0_2_1_3) main_v83
  let main_v85 : FVec F S127x2x2048 .f32 := shapeCast S127x2x2048 main_v84 shapeCasts_S127x2x32x64_S127x2x2048
  let main_v86 : FVec F S2x64x127 .f32 := (fun l r => Host.dotGeneral dot_S2x2048x64_S127x2x2048_S2x64x127_1_2_2_0_0_1 none l r) main_arg6 main_v85
  fn_part4 (F := F) main_arg0 main_arg1 main_arg2 main_arg6 main_v67 main_v86

def fn_part2 {F : FTy → Type} [FloatOps F] (main_arg0 : FVec F S1x2048x768 .f32) (main_arg1 : FVec F S768x768 .f32) (main_arg2 : FVec F S128x768 .f32) (main_arg6 : FVec F S2x2048x64 .f32) (main_v33 : FVec F S2048x12x64 .f32) (main_v36 : FVec F S2048x2x64 .f32) (main_v41 : FVec F S32 .f32) (main_cst_4 : FVec F S_ .f32) : IVec S_ 1 :=
  let main_v42 : FVec F S32 .f32 := broadcastInDim S32 ![] bcast_S_S32 main_cst_4
  let main_v43 : FVec F S32 .f32 := Host.divf main_v42 main_v41
  let main_v44 : FVec F S2048 .f32 := sitofp .f32 (iotaInDim S2048 32 0)
  let main_v45 : FVec F S2048x1 .f32 := broadcastInDim S2048x1 ![0] bcast_S2048_S2048x1_0 main_v44
  let main_v46 : FVec F S1x32 .f32 := broadcastInDim S1x32 ![1] bcast_S32_S1x32_1 main_v43
  let main_v47 : FVec F S2048x32 .f32 := broadcastInDim S2048x32 ![0, 1] bcast_S2048x1_S2048x32_0_1 main_v45
  let main_v48 : FVec F S2048x32 .f32 := broadcastInDim S2048x32 ![0, 1] bcast_S1x32_S2048x32_0_1 main_v46
  let main_v49 : FVec F S2048x32 .f32 := mulf main_v47 main_v48
  let main_v50 : FVec F S2048x32 .f32 := Host.cos main_v49
  let main_v51 : FVec F S2048x1x32 .f32 := broadcastInDim S2048x1x32 ![0, 2] bcast_S2048x32_S2048x1x32_0_2 main_v50
  let main_v52 : FVec F S2048x32 .f32 := Host.sin main_v49
  let main_v53 : FVec F S2048x1x32 .f32 := broadcastInDim S2048x1x32 ![0, 2] bcast_S2048x32_S2048x1x32_0_2 main_v52
  let main_v54 : FVec F S2048x2x32 .f32 := (extractStridedSlice S2048x2x32 ![0, 0, 0] · slices_S2048x2x64_S2048x2x32_0_0_0) main_v36
  let main_v55 : FVec F S2048x2x32 .f32 := (extractStridedSlice S2048x2x32 ![0, 0, 32] · slices_S2048x2x64_S2048x2x32_0_0_32) main_v36
  let main_v56 : FVec F S2048x2x32 .f32 := broadcastInDim S2048x2x32 ![0, 1, 2] bcast_S2048x1x32_S2048x2x32_0_1_2 main_v51
  let main_v57 : FVec F S2048x2x32 .f32 := mulf main_v54 main_v56
  let main_v58 : FVec F S2048x2x32 .f32 := broadcastInDim S2048x2x32 ![0, 1, 2] bcast_S2048x1x32_S2048x2x32_0_1_2 main_v53
  let main_v59 : FVec F S2048x2x32 .f32 := mulf main_v55 main_v58
  let main_v60 : FVec F S2048x2x32 .f32 := subf main_v57 main_v59
  let main_v61 : FVec F S2048x2x32 .f32 := broadcastInDim S2048x2x32 ![0, 1, 2] bcast_S2048x1x32_S2048x2x32_0_1_2 main_v51
  let main_v62 : FVec F S2048x2x32 .f32 := mulf main_v55 main_v61
  let main_v63 : FVec F S2048x2x32 .f32 := broadcastInDim S2048x2x32 ![0, 1, 2] bcast_S2048x1x32_S2048x2x32_0_1_2 main_v53
  let main_v64 : FVec F S2048x2x32 .f32 := mulf main_v54 main_v63
  let main_v65 : FVec F S2048x2x32 .f32 := addf main_v62 main_v64
  fn_part3 (F := F) main_arg0 main_arg1 main_arg2 main_arg6 main_v33 main_v60 main_v65

def fn_part1 {F : FTy → Type} [FloatOps F] (main_arg0 : FVec F S1x2048x768 .f32) (main_arg1 : FVec F S768x768 .f32) (main_arg2 : FVec F S128x768 .f32) (main_arg6 : FVec F S2x2048x64 .f32) (main_v0 : FVec F S2048x768 .f32) (main_v3 : FVec F S2048x12x64 .f32) (main_v18 : FVec F S2048x1x32 .f32) (main_v20 : FVec F S2048x1x32 .f32) : IVec S_ 1 :=
  let main_v21 : FVec F S2048x12x32 .f32 := (extractStridedSlice S2048x12x32 ![0, 0, 0] · slices_S2048x12x64_S2048x12x32_0_0_0) main_v3
  let main_v22 : FVec F S2048x12x32 .f32 := (extractStridedSlice S2048x12x32 ![0, 0, 32] · slices_S2048x12x64_S2048x12x32_0_0_32) main_v3
  let main_v23 : FVec F S2048x12x32 .f32 := broadcastInDim S2048x12x32 ![0, 1, 2] bcast_S2048x1x32_S2048x12x32_0_1_2 main_v18
  let main_v24 : FVec F S2048x12x32 .f32 := mulf main_v21 main_v23
  let main_v25 : FVec F S2048x12x32 .f32 := broadcastInDim S2048x12x32 ![0, 1, 2] bcast_S2048x1x32_S2048x12x32_0_1_2 main_v20
  let main_v26 : FVec F S2048x12x32 .f32 := mulf main_v22 main_v25
  let main_v27 : FVec F S2048x12x32 .f32 := subf main_v24 main_v26
  let main_v28 : FVec F S2048x12x32 .f32 := broadcastInDim S2048x12x32 ![0, 1, 2] bcast_S2048x1x32_S2048x12x32_0_1_2 main_v18
  let main_v29 : FVec F S2048x12x32 .f32 := mulf main_v22 main_v28
  let main_v30 : FVec F S2048x12x32 .f32 := broadcastInDim S2048x12x32 ![0, 1, 2] bcast_S2048x1x32_S2048x12x32_0_1_2 main_v20
  let main_v31 : FVec F S2048x12x32 .f32 := mulf main_v21 main_v30
  let main_v32 : FVec F S2048x12x32 .f32 := addf main_v29 main_v31
  let main_v33 : FVec F S2048x12x64 .f32 := (fun a b => concatenate S2048x12x64 2 [⟨S2048x12x32, a⟩, ⟨S2048x12x32, b⟩] concatenates_S2048x12x32_S2048x12x32_S2048x12x64_d2) main_v27 main_v32
  let main_v34 : FVec F S768x128 .f32 := (transpose S768x128 [1, 0] · transposes_S128x768_S768x128_1_0) main_arg2
  let main_v35 : FVec F S2048x128 .f32 := (fun l r => Host.dotGeneral dot_S2048x768_S768x128_S2048x128_1_0_0_1_n_n none l r) main_v0 main_v34
  let main_v36 : FVec F S2048x2x64 .f32 := shapeCast S2048x2x64 main_v35 shapeCasts_S2048x128_S2048x2x64
  let main_v37 : FVec F S32 .f32 := sitofp .f32 (iotaInDim S32 32 0)
  let main_cst_2 : FVec F S_ .f32 := constant S_ .f32 0x42000000#32
  let main_v38 : FVec F S32 .f32 := broadcastInDim S32 ![] bcast_S_S32 main_cst_2
  let main_v39 : FVec F S32 .f32 := Host.divf main_v37 main_v38
  let main_cst_3 : FVec F S_ .f32 := constant S_ .f32 0x461C4000#32
  let main_v40 : FVec F S32 .f32 := broadcastInDim S32 ![] bcast_S_S32 main_cst_3
  let main_v41 : FVec F S32 .f32 := Host.powf main_v40 main_v39
  let main_cst_4 : FVec F S_ .f32 := constant S_ .f32 0x3F800000#32
  fn_part2 (F := F) main_arg0 main_arg1 main_arg2 main_arg6 main_v33 main_v36 main_v41 main_cst_4

def fn {F : FTy → Type} [FloatOps F] (main_arg0 : FVec F S1x2048x768 .f32) (main_arg1 : FVec F S768x768 .f32) (main_arg2 : FVec F S128x768 .f32) (main_arg3 : FVec F S128x768 .f32) (main_arg4 : FVec F S768x768 .f32) (main_arg5 : FVec F S3x768 .f32) (main_arg6 : FVec F S2x2048x64 .f32) (main_arg7 : FVec F S2x2048x64 .f32) : IVec S_ 1 :=
  let main_v0 : FVec F S2048x768 .f32 := shapeCast S2048x768 main_arg0 shapeCasts_S1x2048x768_S2048x768
  let main_v1 : FVec F S768x768 .f32 := (transpose S768x768 [1, 0] · transposes_S768x768_S768x768_1_0) main_arg1
  let main_v2 : FVec F S2048x768 .f32 := (fun l r => Host.dotGeneral dot_S2048x768_S768x768_S2048x768_1_0_0_1_n_n none l r) main_v0 main_v1
  let main_v3 : FVec F S2048x12x64 .f32 := shapeCast S2048x12x64 main_v2 shapeCasts_S2048x768_S2048x12x64
  let main_v4 : FVec F S32 .f32 := sitofp .f32 (iotaInDim S32 32 0)
  let main_cst : FVec F S_ .f32 := constant S_ .f32 0x42000000#32
  let main_v5 : FVec F S32 .f32 := broadcastInDim S32 ![] bcast_S_S32 main_cst
  let main_v6 : FVec F S32 .f32 := Host.divf main_v4 main_v5
  let main_cst_0 : FVec F S_ .f32 := constant S_ .f32 0x461C4000#32
  let main_v7 : FVec F S32 .f32 := broadcastInDim S32 ![] bcast_S_S32 main_cst_0
  let main_v8 : FVec F S32 .f32 := Host.powf main_v7 main_v6
  let main_cst_1 : FVec F S_ .f32 := constant S_ .f32 0x3F800000#32
  let main_v9 : FVec F S32 .f32 := broadcastInDim S32 ![] bcast_S_S32 main_cst_1
  let main_v10 : FVec F S32 .f32 := Host.divf main_v9 main_v8
  let main_v11 : FVec F S2048 .f32 := sitofp .f32 (iotaInDim S2048 32 0)
  let main_v12 : FVec F S2048x1 .f32 := broadcastInDim S2048x1 ![0] bcast_S2048_S2048x1_0 main_v11
  let main_v13 : FVec F S1x32 .f32 := broadcastInDim S1x32 ![1] bcast_S32_S1x32_1 main_v10
  let main_v14 : FVec F S2048x32 .f32 := broadcastInDim S2048x32 ![0, 1] bcast_S2048x1_S2048x32_0_1 main_v12
  let main_v15 : FVec F S2048x32 .f32 := broadcastInDim S2048x32 ![0, 1] bcast_S1x32_S2048x32_0_1 main_v13
  let main_v16 : FVec F S2048x32 .f32 := mulf main_v14 main_v15
  let main_v17 : FVec F S2048x32 .f32 := Host.cos main_v16
  let main_v18 : FVec F S2048x1x32 .f32 := broadcastInDim S2048x1x32 ![0, 2] bcast_S2048x32_S2048x1x32_0_2 main_v17
  let main_v19 : FVec F S2048x32 .f32 := Host.sin main_v16
  let main_v20 : FVec F S2048x1x32 .f32 := broadcastInDim S2048x1x32 ![0, 2] bcast_S2048x32_S2048x1x32_0_2 main_v19
  fn_part1 (F := F) main_arg0 main_arg1 main_arg2 main_arg6 main_v0 main_v3 main_v18 main_v20
-- ==== Kernel.lean ====
abbrev S1x2048x768 : Shape := ⟨3, ![1, 2048, 768]⟩
abbrev S768x768 : Shape := ⟨2, ![768, 768]⟩
abbrev S128x768 : Shape := ⟨2, ![128, 768]⟩
abbrev S3x768 : Shape := ⟨2, ![3, 768]⟩
abbrev S2x2048x64 : Shape := ⟨3, ![2, 2048, 64]⟩
abbrev S2048x768 : Shape := ⟨2, ![2048, 768]⟩
abbrev S768x128 : Shape := ⟨2, ![768, 128]⟩
abbrev S_ : Shape := ⟨0, ![]⟩
abbrev S8x768 : Shape := ⟨2, ![8, 768]⟩
abbrev S1 : Shape := ⟨1, ![1]⟩
abbrev S768x8 : Shape := ⟨2, ![768, 8]⟩
abbrev S2048 : Shape := ⟨1, ![2048]⟩
abbrev S32 : Shape := ⟨1, ![32]⟩
abbrev S2048x1 : Shape := ⟨2, ![2048, 1]⟩
abbrev S1x32 : Shape := ⟨2, ![1, 32]⟩
abbrev S2048x32 : Shape := ⟨2, ![2048, 32]⟩
abbrev S12x2048x64 : Shape := ⟨3, ![12, 2048, 64]⟩
abbrev S2048x192 : Shape := ⟨2, ![2048, 192]⟩
abbrev S2048x128 : Shape := ⟨2, ![2048, 128]⟩
abbrev S2048x8 : Shape := ⟨2, ![2048, 8]⟩
abbrev S256x768 : Shape := ⟨2, ![256, 768]⟩
abbrev S256x32 : Shape := ⟨2, ![256, 32]⟩
abbrev S12x256x64 : Shape := ⟨3, ![12, 256, 64]⟩
abbrev S256x192 : Shape := ⟨2, ![256, 192]⟩
abbrev S256x128 : Shape := ⟨2, ![256, 128]⟩
abbrev S256x8 : Shape := ⟨2, ![256, 8]⟩
abbrev S256x64 : Shape := ⟨2, ![256, 64]⟩
abbrev S1x256x64 : Shape := ⟨3, ![1, 256, 64]⟩
abbrev S2048x64 : Shape := ⟨2, ![2048, 64]⟩
abbrev S128x16x2x64 : Shape := ⟨4, ![128, 16, 2, 64]⟩
abbrev S2x128x16x64 : Shape := ⟨4, ![2, 128, 16, 64]⟩
abbrev S2x128x1024 : Shape := ⟨3, ![2, 128, 1024]⟩
abbrev S2x128x64 : Shape := ⟨3, ![2, 128, 64]⟩
abbrev S1x1024 : Shape := ⟨2, ![1, 1024]⟩
abbrev S1x128x1024 : Shape := ⟨3, ![1, 128, 1024]⟩
abbrev S128x1024 : Shape := ⟨2, ![128, 1024]⟩
abbrev S127x1024 : Shape := ⟨2, ![127, 1024]⟩
abbrev S1x1024x64 : Shape := ⟨3, ![1, 1024, 64]⟩
abbrev S1024x64 : Shape := ⟨2, ![1024, 64]⟩
abbrev S128x64 : Shape := ⟨2, ![128, 64]⟩
abbrev S1x128x64 : Shape := ⟨3, ![1, 128, 64]⟩
abbrev S256x1 : Shape := ⟨2, ![256, 1]⟩
abbrev S1536x128 : Shape := ⟨2, ![1536, 128]⟩
abbrev S128x32 : Shape := ⟨2, ![128, 32]⟩
abbrev S256x256 : Shape := ⟨2, ![256, 256]⟩
abbrev S1536x256 : Shape := ⟨2, ![1536, 256]⟩
abbrev S1536x768 : Shape := ⟨2, ![1536, 768]⟩
abbrev S1536x1 : Shape := ⟨2, ![1536, 1]⟩
abbrev S6x256x64 : Shape := ⟨3, ![6, 256, 64]⟩
abbrev S1536x64 : Shape := ⟨2, ![1536, 64]⟩
abbrev S1536 : Shape := ⟨1, ![1536]⟩
abbrev S6x256x128 : Shape := ⟨3, ![6, 256, 128]⟩
abbrev S256x32x1 : Shape := ⟨3, ![256, 32, 1]⟩
abbrev S256x1x32 : Shape := ⟨3, ![256, 1, 32]⟩
abbrev S256x32x32 : Shape := ⟨3, ![256, 32, 32]⟩
abbrev S1536x32 : Shape := ⟨2, ![1536, 32]⟩
abbrev S1536x96 : Shape := ⟨2, ![1536, 96]⟩
abbrev S512x96 : Shape := ⟨2, ![512, 96]⟩
abbrev S512x64 : Shape := ⟨2, ![512, 64]⟩
abbrev S1536x512 : Shape := ⟨2, ![1536, 512]⟩
abbrev S256x96 : Shape := ⟨2, ![256, 96]⟩
abbrev S768x64 : Shape := ⟨2, ![768, 64]⟩
abbrev S64x768 : Shape := ⟨2, ![64, 768]⟩

abbrev nBuf : Space → Nat
  | .hbm => 57
  | .vmem => 35
  | .smem => 0
  | _ => 0

abbrev bufTy : (tb : Table) → Fin (tcTables nBuf tb) → BufTy
  | .hbm, ⟨0, _⟩ => ⟨S1x2048x768, .f32⟩
  | .hbm, ⟨1, _⟩ => ⟨S768x768, .f32⟩
  | .hbm, ⟨2, _⟩ => ⟨S128x768, .f32⟩
  | .hbm, ⟨3, _⟩ => ⟨S128x768, .f32⟩
  | .hbm, ⟨4, _⟩ => ⟨S768x768, .f32⟩
  | .hbm, ⟨5, _⟩ => ⟨S3x768, .f32⟩
  | .hbm, ⟨6, _⟩ => ⟨S2x2048x64, .f32⟩
  | .hbm, ⟨7, _⟩ => ⟨S2x2048x64, .f32⟩
  | .hbm, ⟨8, _⟩ => ⟨S2048x768, .f32⟩
  | .hbm, ⟨9, _⟩ => ⟨S768x768, .f32⟩
  | .hbm, ⟨10, _⟩ => ⟨S768x128, .f32⟩
  | .hbm, ⟨11, _⟩ => ⟨S768x128, .f32⟩
  | .hbm, ⟨12, _⟩ => ⟨S_, .f32⟩
  | .hbm, ⟨13, _⟩ => ⟨S8x768, .f32⟩
  | .hbm, ⟨14, _⟩ => ⟨S_, .i32⟩
  | .hbm, ⟨15, _⟩ => ⟨S1, .i32⟩
  | .hbm, ⟨16, _⟩ => ⟨S8x768, .f32⟩
  | .hbm, ⟨17, _⟩ => ⟨S768x8, .f32⟩
  | .hbm, ⟨18, _⟩ => ⟨S768x768, .f32⟩
  | .hbm, ⟨19, _⟩ => ⟨S2048, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S2048x1, .f32⟩
  | .hbm, ⟨31, _⟩ => ⟨S1x32, .f32⟩
  | .hbm, ⟨32, _⟩ => ⟨S2048x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S_, .f32⟩
  | .hbm, ⟨38, _⟩ => ⟨S768x768, .f32⟩
  | .hbm, ⟨39, _⟩ => ⟨S768x768, .f32⟩
  | .hbm, ⟨40, _⟩ => ⟨S12x2048x64, .f32⟩
  | .hbm, ⟨41, _⟩ => ⟨S2048x192, .f32⟩
  | .hbm, ⟨42, _⟩ => ⟨S2048x128, .f32⟩
  | .hbm, ⟨43, _⟩ => ⟨S2048x8, .f32⟩
  | .hbm, ⟨44, _⟩ => ⟨S2048x64, .f32⟩
  | .hbm, ⟨45, _⟩ => ⟨S2048x64, .f32⟩
  | .hbm, ⟨46, _⟩ => ⟨S2048x128, .f32⟩
  | .hbm, ⟨47, _⟩ => ⟨S128x16x2x64, .f32⟩
  | .hbm, ⟨48, _⟩ => ⟨S2x128x16x64, .f32⟩
  | .hbm, ⟨49, _⟩ => ⟨S2x128x1024, .f32⟩
  | .hbm, ⟨50, _⟩ => ⟨S128x16x2x64, .f32⟩
  | .hbm, ⟨51, _⟩ => ⟨S2x128x16x64, .f32⟩
  | .hbm, ⟨52, _⟩ => ⟨S2x128x1024, .f32⟩
  | .hbm, ⟨53, _⟩ => ⟨S2x128x64, .f32⟩
  | .hbm, ⟨54, _⟩ => ⟨S2x128x64, .f32⟩
  | .hbm, ⟨55, _⟩ => ⟨S2048x768, .f32⟩
  | .hbm, ⟨56, _⟩ => ⟨S1x2048x768, .f32⟩
  | .local _ .vmem, ⟨0, _⟩ => ⟨S256x768, .f32⟩
  | .local _ .vmem, ⟨1, _⟩ => ⟨S256x768, .f32⟩
  | .local _ .vmem, ⟨2, _⟩ => ⟨S768x768, .f32⟩
  | .local _ .vmem, ⟨3, _⟩ => ⟨S768x128, .f32⟩
  | .local _ .vmem, ⟨4, _⟩ => ⟨S768x128, .f32⟩
  | .local _ .vmem, ⟨5, _⟩ => ⟨S768x8, .f32⟩
  | .local _ .vmem, ⟨6, _⟩ => ⟨S256x32, .f32⟩
  | .local _ .vmem, ⟨7, _⟩ => ⟨S256x32, .f32⟩
  | .local _ .vmem, ⟨8, _⟩ => ⟨S256x32, .f32⟩
  | .local _ .vmem, ⟨9, _⟩ => ⟨S256x32, .f32⟩
  | .local _ .vmem, ⟨10, _⟩ => ⟨S12x256x64, .f32⟩
  | .local _ .vmem, ⟨11, _⟩ => ⟨S12x256x64, .f32⟩
  | .local _ .vmem, ⟨12, _⟩ => ⟨S256x192, .f32⟩
  | .local _ .vmem, ⟨13, _⟩ => ⟨S256x192, .f32⟩
  | .local _ .vmem, ⟨14, _⟩ => ⟨S256x128, .f32⟩
  | .local _ .vmem, ⟨15, _⟩ => ⟨S256x128, .f32⟩
  | .local _ .vmem, ⟨16, _⟩ => ⟨S256x8, .f32⟩
  | .local _ .vmem, ⟨17, _⟩ => ⟨S256x8, .f32⟩
  | .local _ .vmem, ⟨18, _⟩ => ⟨S2x128x1024, .f32⟩
  | .local _ .vmem, ⟨19, _⟩ => ⟨S2x128x1024, .f32⟩
  | .local _ .vmem, ⟨20, _⟩ => ⟨S2x2048x64, .f32⟩
  | .local _ .vmem, ⟨21, _⟩ => ⟨S2x2048x64, .f32⟩
  | .local _ .vmem, ⟨22, _⟩ => ⟨S2x128x64, .f32⟩
  | .local _ .vmem, ⟨23, _⟩ => ⟨S2x128x64, .f32⟩
  | .local _ .vmem, ⟨24, _⟩ => ⟨S12x256x64, .f32⟩
  | .local _ .vmem, ⟨25, _⟩ => ⟨S12x256x64, .f32⟩
  | .local _ .vmem, ⟨26, _⟩ => ⟨S2048x192, .f32⟩
  | .local _ .vmem, ⟨27, _⟩ => ⟨S2048x128, .f32⟩
  | .local _ .vmem, ⟨28, _⟩ => ⟨S2x128x64, .f32⟩
  | .local _ .vmem, ⟨29, _⟩ => ⟨S2x128x64, .f32⟩
  | .local _ .vmem, ⟨30, _⟩ => ⟨S256x8, .f32⟩
  | .local _ .vmem, ⟨31, _⟩ => ⟨S256x8, .f32⟩
  | .local _ .vmem, ⟨32, _⟩ => ⟨S768x768, .f32⟩
  | .local _ .vmem, ⟨33, _⟩ => ⟨S256x768, .f32⟩
  | .local _ .vmem, ⟨34, _⟩ => ⟨S256x768, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26_0 : Ref sig .tc := ⟨.hbm, 40, rfl⟩
abbrev main_v26_1 : Ref sig .tc := ⟨.hbm, 41, rfl⟩
abbrev main_v26_2 : Ref sig .tc := ⟨.hbm, 42, rfl⟩
abbrev main_v26_3 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36_0 : Ref sig .tc := ⟨.hbm, 53, rfl⟩
abbrev main_v36_1 : Ref sig .tc := ⟨.hbm, 54, rfl⟩
abbrev main_v37 : Ref sig .tc := ⟨.hbm, 55, rfl⟩
abbrev main_v38 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc1_stg0_0 : Ref sig .tc := ⟨.vmem, 18, rfl⟩
abbrev cc1_stg1_0 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc1_sem0_0 : DmaSem sig := 18
abbrev cc1_sem1_0 : DmaSem sig := 19
abbrev cc1_sem2_0 : DmaSem sig := 20
abbrev cc1_sem3_0 : DmaSem sig := 21
abbrev cc1_sem4_0 : DmaSem sig := 22
abbrev cc1_sem5_0 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem7_0 : DmaSem sig := 33
abbrev cc2_sem7_1 : DmaSem sig := 34

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S12x256x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x8 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 1 → Memref sig .tc .vmem S2x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S2x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2x2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x2048x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2x128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2x128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![8], ![false]⟩

@[reducible] def k2_t1_loop (i : grid2.Coords) : Scf.Loop 32 :=
  let c0_i32_51 : BitVec 32 := 0#32
  let arg0 : BitVec 32 := BitVec.ofNat 32 (i 0).val
  let c0_i32_45 : BitVec 32 := 0#32
  let v165 : BitVec 1 := Scalar.cmpi .sgt arg0 c0_i32_45
  let v166 : BitVec 32 := Scalar.extui v165
  let c0_i32_46 : BitVec 32 := 0#32
  let v167 : BitVec 1 := Scalar.cmpi .slt arg0 c0_i32_46
  let v168 : BitVec 32 := Scalar.extui v167
  let v169 : BitVec 32 := Scalar.subi v166 v168
  let c2_i32_44 : BitVec 32 := 2#32
  let c0_i32_47 : BitVec 32 := 0#32
  let v170 : BitVec 1 := Scalar.cmpi .sgt c2_i32_44 c0_i32_47
  let v171 : BitVec 32 := Scalar.extui v170
  let c0_i32_48 : BitVec 32 := 0#32
  let v172 : BitVec 1 := Scalar.cmpi .slt c2_i32_44 c0_i32_48
  let v173 : BitVec 32 := Scalar.extui v172
  let v174 : BitVec 32 := Scalar.subi v171 v173
  let v175 : BitVec 1 := Scalar.cmpi .ne v169 v174
  let v176 : BitVec 32 := Scalar.remsi arg0 c2_i32_44
  let c0_i32_49 : BitVec 32 := 0#32
  let v177 : BitVec 1 := Scalar.cmpi .ne v176 c0_i32_49
  let v178 : BitVec 1 := Scalar.andi v175 v177
  let v164 : BitVec 32 := Scalar.divsi arg0 c2_i32_44
  let c1_i32_50 : BitVec 32 := 1#32
  let v179 : BitVec 32 := Scalar.subi v164 c1_i32_50
  let v180 : BitVec 32 := Scalar.select v178 v179 v164
  let v181 : BitVec 32 := Scalar.subi v180 c0_i32_51
  let c1_i32_52 : BitVec 32 := 1#32
  let v183 : BitVec 32 := Scalar.divsi v181 c1_i32_52
  let v184 : BitVec 32 := Scalar.muli v183 c1_i32_52
  let v185 : BitVec 32 := Scalar.addi c0_i32_51 v184
  let c1_i32_53 : BitVec 32 := 1#32
  ⟨c0_i32_51, v185, c1_i32_53⟩
def k2_off1 (i : grid2.Coords) (k2_t1 : Fin (k2_t1_loop i).trips) : Fin 2 → Nat :=
  let c0_i32_51 : BitVec 32 := 0#32
  let c1_i32_53 : BitVec 32 := 1#32
  let arg9 : BitVec 32 := Scf.iv c0_i32_51 c1_i32_53 k2_t1
  let c512_i32_155 : BitVec 32 := 512#32
  let v428 : BitVec 32 := Scalar.muli arg9 c512_i32_155
  let v429 : Index := Scalar.indexCast v428
  let c0_156 : Index := 0#32
  ![v429.toNat, 0]
def k2_off2 (i : grid2.Coords) (k2_t1 : Fin (k2_t1_loop i).trips) : Fin 2 → Nat :=
  let c0_i32_51 : BitVec 32 := 0#32
  let c1_i32_53 : BitVec 32 := 1#32
  let arg9 : BitVec 32 := Scf.iv c0_i32_51 c1_i32_53 k2_t1
  let c512_i32_157 : BitVec 32 := 512#32
  let v432 : BitVec 32 := Scalar.muli arg9 c512_i32_157
  let v433 : Index := Scalar.indexCast v432
  let c0_158 : Index := 0#32
  ![v433.toNat, 0]
@[reducible] def k2_t2_loop (i : grid2.Coords) : Scf.Loop 32 :=
  let c0_i32_51 : BitVec 32 := 0#32
  let arg0 : BitVec 32 := BitVec.ofNat 32 (i 0).val
  let c0_i32_45 : BitVec 32 := 0#32
  let v165 : BitVec 1 := Scalar.cmpi .sgt arg0 c0_i32_45
  let v166 : BitVec 32 := Scalar.extui v165
  let c0_i32_46 : BitVec 32 := 0#32
  let v167 : BitVec 1 := Scalar.cmpi .slt arg0 c0_i32_46
  let v168 : BitVec 32 := Scalar.extui v167
  let v169 : BitVec 32 := Scalar.subi v166 v168
  let c2_i32_44 : BitVec 32 := 2#32
  let c0_i32_47 : BitVec 32 := 0#32
  let v170 : BitVec 1 := Scalar.cmpi .sgt c2_i32_44 c0_i32_47
  let v171 : BitVec 32 := Scalar.extui v170
  let c0_i32_48 : BitVec 32 := 0#32
  let v172 : BitVec 1 := Scalar.cmpi .slt c2_i32_44 c0_i32_48
  let v173 : BitVec 32 := Scalar.extui v172
  let v174 : BitVec 32 := Scalar.subi v171 v173
  let v175 : BitVec 1 := Scalar.cmpi .ne v169 v174
  let v176 : BitVec 32 := Scalar.remsi arg0 c2_i32_44
  let c0_i32_49 : BitVec 32 := 0#32
  let v177 : BitVec 1 := Scalar.cmpi .ne v176 c0_i32_49
  let v178 : BitVec 1 := Scalar.andi v175 v177
  let v164 : BitVec 32 := Scalar.divsi arg0 c2_i32_44
  let c1_i32_50 : BitVec 32 := 1#32
  let v179 : BitVec 32 := Scalar.subi v164 c1_i32_50
  let v180 : BitVec 32 := Scalar.select v178 v179 v164
  let v181 : BitVec 32 := Scalar.subi v180 c0_i32_51
  let c1_i32_52 : BitVec 32 := 1#32
  let v183 : BitVec 32 := Scalar.divsi v181 c1_i32_52
  let v184 : BitVec 32 := Scalar.muli v183 c1_i32_52
  let v185 : BitVec 32 := Scalar.addi c0_i32_51 v184
  let v182 : BitVec 32 := Scalar.addi c0_i32_51 v181
  let c1_i32_54 : BitVec 32 := 1#32
  ⟨v185, v182, c1_i32_54⟩
def k2_off3 (i : grid2.Coords) (k2_t2 : Fin (k2_t2_loop i).trips) : Fin 2 → Nat :=
  let c0_i32_51 : BitVec 32 := 0#32
  let arg0 : BitVec 32 := BitVec.ofNat 32 (i 0).val
  let c0_i32_45 : BitVec 32 := 0#32
  let v165 : BitVec 1 := Scalar.cmpi .sgt arg0 c0_i32_45
  let v166 : BitVec 32 := Scalar.extui v165
  let c0_i32_46 : BitVec 32 := 0#32
  let v167 : BitVec 1 := Scalar.cmpi .slt arg0 c0_i32_46
  let v168 : BitVec 32 := Scalar.extui v167
  let v169 : BitVec 32 := Scalar.subi v166 v168
  let c2_i32_44 : BitVec 32 := 2#32
  let c0_i32_47 : BitVec 32 := 0#32
  let v170 : BitVec 1 := Scalar.cmpi .sgt c2_i32_44 c0_i32_47
  let v171 : BitVec 32 := Scalar.extui v170
  let c0_i32_48 : BitVec 32 := 0#32
  let v172 : BitVec 1 := Scalar.cmpi .slt c2_i32_44 c0_i32_48
  let v173 : BitVec 32 := Scalar.extui v172
  let v174 : BitVec 32 := Scalar.subi v171 v173
  let v175 : BitVec 1 := Scalar.cmpi .ne v169 v174
  let v176 : BitVec 32 := Scalar.remsi arg0 c2_i32_44
  let c0_i32_49 : BitVec 32 := 0#32
  let v177 : BitVec 1 := Scalar.cmpi .ne v176 c0_i32_49
  let v178 : BitVec 1 := Scalar.andi v175 v177
  let v164 : BitVec 32 := Scalar.divsi arg0 c2_i32_44
  let c1_i32_50 : BitVec 32 := 1#32
  let v179 : BitVec 32 := Scalar.subi v164 c1_i32_50
  let v180 : BitVec 32 := Scalar.select v178 v179 v164
  let v181 : BitVec 32 := Scalar.subi v180 c0_i32_51
  let c1_i32_52 : BitVec 32 := 1#32
  let v183 : BitVec 32 := Scalar.divsi v181 c1_i32_52
  let v184 : BitVec 32 := Scalar.muli v183 c1_i32_52
  let v185 : BitVec 32 := Scalar.addi c0_i32_51 v184
  let c1_i32_54 : BitVec 32 := 1#32
  let arg9 : BitVec 32 := Scf.iv v185 c1_i32_54 k2_t2
  let c512_i32_155 : BitVec 32 := 512#32
  let v428 : BitVec 32 := Scalar.muli arg9 c512_i32_155
  let v429 : Index := Scalar.indexCast v428
  let c0_156 : Index := 0#32
  ![v429.toNat, 0]
def k2_off4 (i : grid2.Coords) (k2_t2 : Fin (k2_t2_loop i).trips) : Fin 2 → Nat :=
  let c0_i32_51 : BitVec 32 := 0#32
  let arg0 : BitVec 32 := BitVec.ofNat 32 (i 0).val
  let c0_i32_45 : BitVec 32 := 0#32
  let v165 : BitVec 1 := Scalar.cmpi .sgt arg0 c0_i32_45
  let v166 : BitVec 32 := Scalar.extui v165
  let c0_i32_46 : BitVec 32 := 0#32
  let v167 : BitVec 1 := Scalar.cmpi .slt arg0 c0_i32_46
  let v168 : BitVec 32 := Scalar.extui v167
  let v169 : BitVec 32 := Scalar.subi v166 v168
  let c2_i32_44 : BitVec 32 := 2#32
  let c0_i32_47 : BitVec 32 := 0#32
  let v170 : BitVec 1 := Scalar.cmpi .sgt c2_i32_44 c0_i32_47
  let v171 : BitVec 32 := Scalar.extui v170
  let c0_i32_48 : BitVec 32 := 0#32
  let v172 : BitVec 1 := Scalar.cmpi .slt c2_i32_44 c0_i32_48
  let v173 : BitVec 32 := Scalar.extui v172
  let v174 : BitVec 32 := Scalar.subi v171 v173
  let v175 : BitVec 1 := Scalar.cmpi .ne v169 v174
  let v176 : BitVec 32 := Scalar.remsi arg0 c2_i32_44
  let c0_i32_49 : BitVec 32 := 0#32
  let v177 : BitVec 1 := Scalar.cmpi .ne v176 c0_i32_49
  let v178 : BitVec 1 := Scalar.andi v175 v177
  let v164 : BitVec 32 := Scalar.divsi arg0 c2_i32_44
  let c1_i32_50 : BitVec 32 := 1#32
  let v179 : BitVec 32 := Scalar.subi v164 c1_i32_50
  let v180 : BitVec 32 := Scalar.select v178 v179 v164
  let v181 : BitVec 32 := Scalar.subi v180 c0_i32_51
  let c1_i32_52 : BitVec 32 := 1#32
  let v183 : BitVec 32 := Scalar.divsi v181 c1_i32_52
  let v184 : BitVec 32 := Scalar.muli v183 c1_i32_52
  let v185 : BitVec 32 := Scalar.addi c0_i32_51 v184
  let c1_i32_54 : BitVec 32 := 1#32
  let arg9 : BitVec 32 := Scf.iv v185 c1_i32_54 k2_t2
  let c512_i32_157 : BitVec 32 := 512#32
  let v432 : BitVec 32 := Scalar.muli arg9 c512_i32_157
  let v433 : Index := Scalar.indexCast v432
  let c0_158 : Index := 0#32
  ![v433.toNat, 0]
def k2_cond1 (i : grid2.Coords) : BitVec 1 :=
  let arg0 : BitVec 32 := BitVec.ofNat 32 (i 0).val
  let c2_i32_55 : BitVec 32 := 2#32
  let c0_i32_56 : BitVec 32 := 0#32
  let v188 : BitVec 1 := Scalar.cmpi .eq c2_i32_55 c0_i32_56
  let c1_i32_57 : BitVec 32 := 1#32
  let v189 : BitVec 32 := Scalar.select v188 c1_i32_57 c2_i32_55
  let v190 : BitVec 32 := Scalar.remsi arg0 v189
  let c0_i32_59 : BitVec 32 := 0#32
  let v192 : BitVec 1 := Scalar.cmpi .slt v190 c0_i32_59
  let c0_i32_60 : BitVec 32 := 0#32
  let v193 : BitVec 1 := Scalar.cmpi .slt v189 c0_i32_60
  let v194 : BitVec 1 := Scalar.xori v192 v193
  let c0_i32_58 : BitVec 32 := 0#32
  let v191 : BitVec 1 := Scalar.cmpi .ne v190 c0_i32_58
  let v195 : BitVec 1 := Scalar.andi v194 v191
  let v196 : BitVec 32 := Scalar.addi v190 v189
  let v197 : BitVec 32 := Scalar.select v195 v196 v190
  let c1_i32_61 : BitVec 32 := 1#32
  let v198 : BitVec 1 := Scalar.cmpi .eq v197 c1_i32_61
  let v199 : BitVec 32 := Scalar.extui v198
  let c0_i32_62 : BitVec 32 := 0#32
  let v200 : BitVec 1 := Scalar.cmpi .ne v199 c0_i32_62
  v200

def k2_off5 (i : grid2.Coords) : Fin 2 → Nat :=
  let arg0 : BitVec 32 := BitVec.ofNat 32 (i 0).val
  let c1_i32_155 : BitVec 32 := 1#32
  let v428 : BitVec 32 := Scalar.subi arg0 c1_i32_155
  let c256_i32_156 : BitVec 32 := 256#32
  let v429 : BitVec 32 := Scalar.muli v428 c256_i32_156
  let v430 : Index := Scalar.indexCast v429
  let c0_157 : Index := 0#32
  ![v430.toNat, 0]
def k2_off6 (i : grid2.Coords) : Fin 2 → Nat :=
  let arg0 : BitVec 32 := BitVec.ofNat 32 (i 0).val
  let c1_i32_155 : BitVec 32 := 1#32
  let v428 : BitVec 32 := Scalar.subi arg0 c1_i32_155
  let c256_i32_158 : BitVec 32 := 256#32
  let v433 : BitVec 32 := Scalar.muli v428 c256_i32_158
  let v434 : Index := Scalar.indexCast v433
  let c0_159 : Index := 0#32
  ![v434.toNat, 0]
def k2_off7 (i : grid2.Coords) : Fin 2 → Nat :=
  let arg0 : BitVec 32 := BitVec.ofNat 32 (i 0).val
  let c256_i32_63 : BitVec 32 := 256#32
  let v202 : BitVec 32 := Scalar.muli arg0 c256_i32_63
  let v203 : Index := Scalar.indexCast v202
  let c0_64 : Index := 0#32
  ![v203.toNat, 0]
def k2_off8 (i : grid2.Coords) : Fin 2 → Nat :=
  let arg0 : BitVec 32 := BitVec.ofNat 32 (i 0).val
  let c256_i32_65 : BitVec 32 := 256#32
  let v206 : BitVec 32 := Scalar.muli arg0 c256_i32_65
  let v207 : Index := Scalar.indexCast v206
  let c0_66 : Index := 0#32
  ![v207.toNat, 0]
def k2_off9 (i : grid2.Coords) : Fin 2 → Nat :=
  let arg0 : BitVec 32 := BitVec.ofNat 32 (i 0).val
  let c2_i32 : BitVec 32 := 2#32
  let v90 : BitVec 32 := Scalar.subi arg0 c2_i32
  let c0_i32_14 : BitVec 32 := 0#32
  let v91 : BitVec 32 := Scalar.maxsi v90 c0_i32_14
  let c256_i32_15 : BitVec 32 := 256#32
  let v92 : BitVec 32 := Scalar.muli v91 c256_i32_15
  let v220 : Index := Scalar.indexCast v92
  let c0_70 : Index := 0#32
  ![v220.toNat, 0]
def k2_off10 (i : grid2.Coords) : Fin 2 → Nat :=
  let arg0 : BitVec 32 := BitVec.ofNat 32 (i 0).val
  let c2_i32 : BitVec 32 := 2#32
  let v90 : BitVec 32 := Scalar.subi arg0 c2_i32
  let c0_i32_14 : BitVec 32 := 0#32
  let v91 : BitVec 32 := Scalar.maxsi v90 c0_i32_14
  let c256_i32_15 : BitVec 32 := 256#32
  let v92 : BitVec 32 := Scalar.muli v91 c256_i32_15
  let v223 : Index := Scalar.indexCast v92
  let c0_71 : Index := 0#32
  ![v223.toNat, 0]
@[reducible] def k2_t3_loop (i : grid2.Coords) : Scf.Loop 32 :=
  let c0_i32_105 : BitVec 32 := 0#32
  let arg0 : BitVec 32 := BitVec.ofNat 32 (i 0).val
  let c0_i32_99 : BitVec 32 := 0#32
  let v291 : BitVec 1 := Scalar.cmpi .sgt arg0 c0_i32_99
  let v292 : BitVec 32 := Scalar.extui v291
  let c0_i32_100 : BitVec 32 := 0#32
  let v293 : BitVec 1 := Scalar.cmpi .slt arg0 c0_i32_100
  let v294 : BitVec 32 := Scalar.extui v293
  let v295 : BitVec 32 := Scalar.subi v292 v294
  let c2_i32_98 : BitVec 32 := 2#32
  let c0_i32_101 : BitVec 32 := 0#32
  let v296 : BitVec 1 := Scalar.cmpi .sgt c2_i32_98 c0_i32_101
  let v297 : BitVec 32 := Scalar.extui v296
  let c0_i32_102 : BitVec 32 := 0#32
  let v298 : BitVec 1 := Scalar.cmpi .slt c2_i32_98 c0_i32_102
  let v299 : BitVec 32 := Scalar.extui v298
  let v300 : BitVec 32 := Scalar.subi v297 v299
  let v301 : BitVec 1 := Scalar.cmpi .ne v295 v300
  let v302 : BitVec 32 := Scalar.remsi arg0 c2_i32_98
  let c0_i32_103 : BitVec 32 := 0#32
  let v303 : BitVec 1 := Scalar.cmpi .ne v302 c0_i32_103
  let v304 : BitVec 1 := Scalar.andi v301 v303
  let v290 : BitVec 32 := Scalar.divsi arg0 c2_i32_98
  let c1_i32_104 : BitVec 32 := 1#32
  let v305 : BitVec 32 := Scalar.subi v290 c1_i32_104
  let v306 : BitVec 32 := Scalar.select v304 v305 v290
  let v307 : BitVec 32 := Scalar.subi v306 c0_i32_105
  let c1_i32_106 : BitVec 32 := 1#32
  let v309 : BitVec 32 := Scalar.divsi v307 c1_i32_106
  let v310 : BitVec 32 := Scalar.muli v309 c1_i32_106
  let v311 : BitVec 32 := Scalar.addi c0_i32_105 v310
  let c1_i32_107 : BitVec 32 := 1#32
  ⟨c0_i32_105, v311, c1_i32_107⟩
def k2_off11 (i : grid2.Coords) (k2_t3 : Fin (k2_t3_loop i).trips) : Fin 2 → Nat :=
  let c0_i32_105 : BitVec 32 := 0#32
  let c1_i32_107 : BitVec 32 := 1#32
  let arg9 : BitVec 32 := Scf.iv c0_i32_105 c1_i32_107 k2_t3
  let c512_i32_155 : BitVec 32 := 512#32
  let v428 : BitVec 32 := Scalar.muli arg9 c512_i32_155
  let v429 : Index := Scalar.indexCast v428
  let c96_156 : Index := 96#32
  ![v429.toNat, 96]
def k2_off12 (i : grid2.Coords) (k2_t3 : Fin (k2_t3_loop i).trips) : Fin 2 → Nat :=
  let c0_i32_105 : BitVec 32 := 0#32
  let c1_i32_107 : BitVec 32 := 1#32
  let arg9 : BitVec 32 := Scf.iv c0_i32_105 c1_i32_107 k2_t3
  let c512_i32_157 : BitVec 32 := 512#32
  let v432 : BitVec 32 := Scalar.muli arg9 c512_i32_157
  let v433 : Index := Scalar.indexCast v432
  let c64_158 : Index := 64#32
  ![v433.toNat, 64]
@[reducible] def k2_t4_loop (i : grid2.Coords) : Scf.Loop 32 :=
  let c0_i32_105 : BitVec 32 := 0#32
  let arg0 : BitVec 32 := BitVec.ofNat 32 (i 0).val
  let c0_i32_99 : BitVec 32 := 0#32
  let v291 : BitVec 1 := Scalar.cmpi .sgt arg0 c0_i32_99
  let v292 : BitVec 32 := Scalar.extui v291
  let c0_i32_100 : BitVec 32 := 0#32
  let v293 : BitVec 1 := Scalar.cmpi .slt arg0 c0_i32_100
  let v294 : BitVec 32 := Scalar.extui v293
  let v295 : BitVec 32 := Scalar.subi v292 v294
  let c2_i32_98 : BitVec 32 := 2#32
  let c0_i32_101 : BitVec 32 := 0#32
  let v296 : BitVec 1 := Scalar.cmpi .sgt c2_i32_98 c0_i32_101
  let v297 : BitVec 32 := Scalar.extui v296
  let c0_i32_102 : BitVec 32 := 0#32
  let v298 : BitVec 1 := Scalar.cmpi .slt c2_i32_98 c0_i32_102
  let v299 : BitVec 32 := Scalar.extui v298
  let v300 : BitVec 32 := Scalar.subi v297 v299
  let v301 : BitVec 1 := Scalar.cmpi .ne v295 v300
  let v302 : BitVec 32 := Scalar.remsi arg0 c2_i32_98
  let c0_i32_103 : BitVec 32 := 0#32
  let v303 : BitVec 1 := Scalar.cmpi .ne v302 c0_i32_103
  let v304 : BitVec 1 := Scalar.andi v301 v303
  let v290 : BitVec 32 := Scalar.divsi arg0 c2_i32_98
  let c1_i32_104 : BitVec 32 := 1#32
  let v305 : BitVec 32 := Scalar.subi v290 c1_i32_104
  let v306 : BitVec 32 := Scalar.select v304 v305 v290
  let v307 : BitVec 32 := Scalar.subi v306 c0_i32_105
  let c1_i32_106 : BitVec 32 := 1#32
  let v309 : BitVec 32 := Scalar.divsi v307 c1_i32_106
  let v310 : BitVec 32 := Scalar.muli v309 c1_i32_106
  let v311 : BitVec 32 := Scalar.addi c0_i32_105 v310
  let v308 : BitVec 32 := Scalar.addi c0_i32_105 v307
  let c1_i32_108 : BitVec 32 := 1#32
  ⟨v311, v308, c1_i32_108⟩
def k2_off13 (i : grid2.Coords) (k2_t4 : Fin (k2_t4_loop i).trips) : Fin 2 → Nat :=
  let c0_i32_105 : BitVec 32 := 0#32
  let arg0 : BitVec 32 := BitVec.ofNat 32 (i 0).val
  let c0_i32_99 : BitVec 32 := 0#32
  let v291 : BitVec 1 := Scalar.cmpi .sgt arg0 c0_i32_99
  let v292 : BitVec 32 := Scalar.extui v291
  let c0_i32_100 : BitVec 32 := 0#32
  let v293 : BitVec 1 := Scalar.cmpi .slt arg0 c0_i32_100
  let v294 : BitVec 32 := Scalar.extui v293
  let v295 : BitVec 32 := Scalar.subi v292 v294
  let c2_i32_98 : BitVec 32 := 2#32
  let c0_i32_101 : BitVec 32 := 0#32
  let v296 : BitVec 1 := Scalar.cmpi .sgt c2_i32_98 c0_i32_101
  let v297 : BitVec 32 := Scalar.extui v296
  let c0_i32_102 : BitVec 32 := 0#32
  let v298 : BitVec 1 := Scalar.cmpi .slt c2_i32_98 c0_i32_102
  let v299 : BitVec 32 := Scalar.extui v298
  let v300 : BitVec 32 := Scalar.subi v297 v299
  let v301 : BitVec 1 := Scalar.cmpi .ne v295 v300
  let v302 : BitVec 32 := Scalar.remsi arg0 c2_i32_98
  let c0_i32_103 : BitVec 32 := 0#32
  let v303 : BitVec 1 := Scalar.cmpi .ne v302 c0_i32_103
  let v304 : BitVec 1 := Scalar.andi v301 v303
  let v290 : BitVec 32 := Scalar.divsi arg0 c2_i32_98
  let c1_i32_104 : BitVec 32 := 1#32
  let v305 : BitVec 32 := Scalar.subi v290 c1_i32_104
  let v306 : BitVec 32 := Scalar.select v304 v305 v290
  let v307 : BitVec 32 := Scalar.subi v306 c0_i32_105
  let c1_i32_106 : BitVec 32 := 1#32
  let v309 : BitVec 32 := Scalar.divsi v307 c1_i32_106
  let v310 : BitVec 32 := Scalar.muli v309 c1_i32_106
  let v311 : BitVec 32 := Scalar.addi c0_i32_105 v310
  let c1_i32_108 : BitVec 32 := 1#32
  let arg9 : BitVec 32 := Scf.iv v311 c1_i32_108 k2_t4
  let c512_i32_155 : BitVec 32 := 512#32
  let v428 : BitVec 32 := Scalar.muli arg9 c512_i32_155
  let v429 : Index := Scalar.indexCast v428
  let c96_156 : Index := 96#32
  ![v429.toNat, 96]
def k2_off14 (i : grid2.Coords) (k2_t4 : Fin (k2_t4_loop i).trips) : Fin 2 → Nat :=
  let c0_i32_105 : BitVec 32 := 0#32
  let arg0 : BitVec 32 := BitVec.ofNat 32 (i 0).val
  let c0_i32_99 : BitVec 32 := 0#32
  let v291 : BitVec 1 := Scalar.cmpi .sgt arg0 c0_i32_99
  let v292 : BitVec 32 := Scalar.extui v291
  let c0_i32_100 : BitVec 32 := 0#32
  let v293 : BitVec 1 := Scalar.cmpi .slt arg0 c0_i32_100
  let v294 : BitVec 32 := Scalar.extui v293
  let v295 : BitVec 32 := Scalar.subi v292 v294
  let c2_i32_98 : BitVec 32 := 2#32
  let c0_i32_101 : BitVec 32 := 0#32
  let v296 : BitVec 1 := Scalar.cmpi .sgt c2_i32_98 c0_i32_101
  let v297 : BitVec 32 := Scalar.extui v296
  let c0_i32_102 : BitVec 32 := 0#32
  let v298 : BitVec 1 := Scalar.cmpi .slt c2_i32_98 c0_i32_102
  let v299 : BitVec 32 := Scalar.extui v298
  let v300 : BitVec 32 := Scalar.subi v297 v299
  let v301 : BitVec 1 := Scalar.cmpi .ne v295 v300
  let v302 : BitVec 32 := Scalar.remsi arg0 c2_i32_98
  let c0_i32_103 : BitVec 32 := 0#32
  let v303 : BitVec 1 := Scalar.cmpi .ne v302 c0_i32_103
  let v304 : BitVec 1 := Scalar.andi v301 v303
  let v290 : BitVec 32 := Scalar.divsi arg0 c2_i32_98
  let c1_i32_104 : BitVec 32 := 1#32
  let v305 : BitVec 32 := Scalar.subi v290 c1_i32_104
  let v306 : BitVec 32 := Scalar.select v304 v305 v290
  let v307 : BitVec 32 := Scalar.subi v306 c0_i32_105
  let c1_i32_106 : BitVec 32 := 1#32
  let v309 : BitVec 32 := Scalar.divsi v307 c1_i32_106
  let v310 : BitVec 32 := Scalar.muli v309 c1_i32_106
  let v311 : BitVec 32 := Scalar.addi c0_i32_105 v310
  let c1_i32_108 : BitVec 32 := 1#32
  let arg9 : BitVec 32 := Scf.iv v311 c1_i32_108 k2_t4
  let c512_i32_157 : BitVec 32 := 512#32
  let v432 : BitVec 32 := Scalar.muli arg9 c512_i32_157
  let v433 : Index := Scalar.indexCast v432
  let c64_158 : Index := 64#32
  ![v433.toNat, 64]
def k2_cond2 (i : grid2.Coords) : BitVec 1 :=
  let arg0 : BitVec 32 := BitVec.ofNat 32 (i 0).val
  let c2_i32_109 : BitVec 32 := 2#32
  let c0_i32_110 : BitVec 32 := 0#32
  let v314 : BitVec 1 := Scalar.cmpi .eq c2_i32_109 c0_i32_110
  let c1_i32_111 : BitVec 32 := 1#32
  let v315 : BitVec 32 := Scalar.select v314 c1_i32_111 c2_i32_109
  let v316 : BitVec 32 := Scalar.remsi arg0 v315
  let c0_i32_113 : BitVec 32 := 0#32
  let v318 : BitVec 1 := Scalar.cmpi .slt v316 c0_i32_113
  let c0_i32_114 : BitVec 32 := 0#32
  let v319 : BitVec 1 := Scalar.cmpi .slt v315 c0_i32_114
  let v320 : BitVec 1 := Scalar.xori v318 v319
  let c0_i32_112 : BitVec 32 := 0#32
  let v317 : BitVec 1 := Scalar.cmpi .ne v316 c0_i32_112
  let v321 : BitVec 1 := Scalar.andi v320 v317
  let v322 : BitVec 32 := Scalar.addi v316 v315
  let v323 : BitVec 32 := Scalar.select v321 v322 v316
  let c1_i32_115 : BitVec 32 := 1#32
  let v324 : BitVec 1 := Scalar.cmpi .eq v323 c1_i32_115
  let v325 : BitVec 32 := Scalar.extui v324
  let c0_i32_116 : BitVec 32 := 0#32
  let v326 : BitVec 1 := Scalar.cmpi .ne v325 c0_i32_116
  v326

def k2_off15 (i : grid2.Coords) : Fin 2 → Nat :=
  let arg0 : BitVec 32 := BitVec.ofNat 32 (i 0).val
  let c1_i32_155 : BitVec 32 := 1#32
  let v428 : BitVec 32 := Scalar.subi arg0 c1_i32_155
  let c256_i32_156 : BitVec 32 := 256#32
  let v429 : BitVec 32 := Scalar.muli v428 c256_i32_156
  let v430 : Index := Scalar.indexCast v429
  let c96_157 : Index := 96#32
  ![v430.toNat, 96]
def k2_off16 (i : grid2.Coords) : Fin 2 → Nat :=
  let arg0 : BitVec 32 := BitVec.ofNat 32 (i 0).val
  let c1_i32_155 : BitVec 32 := 1#32
  let v428 : BitVec 32 := Scalar.subi arg0 c1_i32_155
  let c256_i32_158 : BitVec 32 := 256#32
  let v433 : BitVec 32 := Scalar.muli v428 c256_i32_158
  let v434 : Index := Scalar.indexCast v433
  let c64_159 : Index := 64#32
  ![v434.toNat, 64]
def k2_off17 (i : grid2.Coords) : Fin 2 → Nat :=
  let arg0 : BitVec 32 := BitVec.ofNat 32 (i 0).val
  let c256_i32_117 : BitVec 32 := 256#32
  let v328 : BitVec 32 := Scalar.muli arg0 c256_i32_117
  let v329 : Index := Scalar.indexCast v328
  let c96 : Index := 96#32
  ![v329.toNat, 96]
def k2_off18 (i : grid2.Coords) : Fin 2 → Nat :=
  let arg0 : BitVec 32 := BitVec.ofNat 32 (i 0).val
  let c256_i32_118 : BitVec 32 := 256#32
  let v332 : BitVec 32 := Scalar.muli arg0 c256_i32_118
  let v333 : Index := Scalar.indexCast v332
  let c64 : Index := 64#32
  ![v333.toNat, 64]
def k2_off19 (i : grid2.Coords) : Fin 2 → Nat :=
  let arg0 : BitVec 32 := BitVec.ofNat 32 (i 0).val
  let c2_i32 : BitVec 32 := 2#32
  let v90 : BitVec 32 := Scalar.subi arg0 c2_i32
  let c0_i32_14 : BitVec 32 := 0#32
  let v91 : BitVec 32 := Scalar.maxsi v90 c0_i32_14
  let c256_i32_15 : BitVec 32 := 256#32
  let v92 : BitVec 32 := Scalar.muli v91 c256_i32_15
  let v346 : Index := Scalar.indexCast v92
  let c96_122 : Index := 96#32
  ![v346.toNat, 96]
def k2_off20 (i : grid2.Coords) : Fin 2 → Nat :=
  let arg0 : BitVec 32 := BitVec.ofNat 32 (i 0).val
  let c2_i32 : BitVec 32 := 2#32
  let v90 : BitVec 32 := Scalar.subi arg0 c2_i32
  let c0_i32_14 : BitVec 32 := 0#32
  let v91 : BitVec 32 := Scalar.maxsi v90 c0_i32_14
  let c256_i32_15 : BitVec 32 := 256#32
  let v92 : BitVec 32 := Scalar.muli v91 c256_i32_15
  let v349 : Index := Scalar.indexCast v92
  let c64_123 : Index := 64#32
  ![v349.toNat, 64]
def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12x256x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2048x192 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2x128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S768x768 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S256x768 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]
-- ==== KernelIdeal.lean ====
variable {F : FTy → Type} [FloatOps F] [Named F]
def κ : String → Option EReal := fun
  | "mask" => some ⊥
  | "pmask" => some ⊤
  | _ => none
-- ==== ReferenceIdeal.lean ====
abbrev S1x2048x768 : Shape := ⟨3, ![1, 2048, 768]⟩
abbrev S768x768 : Shape := ⟨2, ![768, 768]⟩
abbrev S128x768 : Shape := ⟨2, ![128, 768]⟩
abbrev S3x768 : Shape := ⟨2, ![3, 768]⟩
abbrev S2x2048x64 : Shape := ⟨3, ![2, 2048, 64]⟩
abbrev S2048x768 : Shape := ⟨2, ![2048, 768]⟩
abbrev S2048x12x64 : Shape := ⟨3, ![2048, 12, 64]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S2048x12x32 : Shape := ⟨3, ![2048, 12, 32]⟩
abbrev S768x128 : Shape := ⟨2, ![768, 128]⟩
abbrev S2048x128 : Shape := ⟨2, ![2048, 128]⟩
abbrev S2048x2x64 : Shape := ⟨3, ![2048, 2, 64]⟩
abbrev S2048x2x32 : Shape := ⟨3, ![2048, 2, 32]⟩
abbrev S768x3 : Shape := ⟨2, ![768, 3]⟩
abbrev S2048x3 : Shape := ⟨2, ![2048, 3]⟩
abbrev S2048x2x6x64 : Shape := ⟨4, ![2048, 2, 6, 64]⟩
abbrev S127 : Shape := ⟨1, ![127]⟩
abbrev S127x1 : Shape := ⟨2, ![127, 1]⟩
abbrev S127x32 : Shape := ⟨2, ![127, 32]⟩
abbrev S127x32x1 : Shape := ⟨3, ![127, 32, 1]⟩
abbrev S127x32x2x64 : Shape := ⟨4, ![127, 32, 2, 64]⟩
abbrev S127x2x32x64 : Shape := ⟨4, ![127, 2, 32, 64]⟩
abbrev S127x2x2048 : Shape := ⟨3, ![127, 2, 2048]⟩
abbrev S2x64x127 : Shape := ⟨3, ![2, 64, 127]⟩
abbrev S127x2x64 : Shape := ⟨3, ![127, 2, 64]⟩
abbrev S2x127x2048x6 : Shape := ⟨4, ![2, 127, 2048, 6]⟩
abbrev S2x6x2048x127 : Shape := ⟨4, ![2, 6, 2048, 127]⟩
abbrev S1x127 : Shape := ⟨2, ![1, 127]⟩
abbrev S2048x127 : Shape := ⟨2, ![2048, 127]⟩
abbrev S1x1x2048x127 : Shape := ⟨4, ![1, 1, 2048, 127]⟩
abbrev S2x6x2048 : Shape := ⟨3, ![2, 6, 2048]⟩
abbrev S2x6x2048x1 : Shape := ⟨4, ![2, 6, 2048, 1]⟩
abbrev S2x64x6x2048 : Shape := ⟨4, ![2, 64, 6, 2048]⟩
abbrev S2x2048x127 : Shape := ⟨3, ![2, 2048, 127]⟩
abbrev S2x2048x127x1 : Shape := ⟨4, ![2, 2048, 127, 1]⟩
abbrev S1x1x127x32 : Shape := ⟨4, ![1, 1, 127, 32]⟩
abbrev S2x2048x127x32 : Shape := ⟨4, ![2, 2048, 127, 32]⟩
abbrev S2x2048x32 : Shape := ⟨3, ![2, 2048, 32]⟩
abbrev S1x2048x32 : Shape := ⟨3, ![1, 2048, 32]⟩
abbrev S2x2048x16 : Shape := ⟨3, ![2, 2048, 16]⟩
abbrev S2x2048x16x1 : Shape := ⟨4, ![2, 2048, 16, 1]⟩
abbrev S1x1x1x32 : Shape := ⟨4, ![1, 1, 1, 32]⟩
abbrev S2x2048x16x32 : Shape := ⟨4, ![2, 2048, 16, 32]⟩
abbrev S2x2048x32x1 : Shape := ⟨4, ![2, 2048, 32, 1]⟩
abbrev S2x2048x32x64 : Shape := ⟨4, ![2, 2048, 32, 64]⟩
abbrev S2x2048x2048 : Shape := ⟨3, ![2, 2048, 2048]⟩
abbrev S1x2048 : Shape := ⟨2, ![1, 2048]⟩
abbrev S2048x2048 : Shape := ⟨2, ![2048, 2048]⟩
abbrev S1x2048x2048 : Shape := ⟨3, ![1, 2048, 2048]⟩
abbrev S2x2048x2048x6 : Shape := ⟨4, ![2, 2048, 2048, 6]⟩
abbrev S2x6x2048x2048 : Shape := ⟨4, ![2, 6, 2048, 2048]⟩
abbrev S2x1x2048x2048 : Shape := ⟨4, ![2, 1, 2048, 2048]⟩
abbrev S1x1x2048x2048 : Shape := ⟨4, ![1, 1, 2048, 2048]⟩
abbrev S2048x1x1 : Shape := ⟨3, ![2048, 1, 1]⟩

abbrev nBuf : Space → Nat
  | .hbm => 348
  | .vmem => 0
  | .smem => 0
  | _ => 0

abbrev hbmTy0_0 (i : Nat) : BufTy := match i % 128 with
  | 0 => ⟨S1x2048x768, .f32⟩
  | 1 => ⟨S768x768, .f32⟩
  | 2 => ⟨S128x768, .f32⟩
  | 3 => ⟨S128x768, .f32⟩
  | 4 => ⟨S768x768, .f32⟩
  | 5 => ⟨S3x768, .f32⟩
  | 6 => ⟨S2x2048x64, .f32⟩
  | 7 => ⟨S2x2048x64, .f32⟩
  | 8 => ⟨S2048x768, .f32⟩
  | 9 => ⟨S768x768, .f32⟩
  | 10 => ⟨S2048x768, .f32⟩
  | 11 => ⟨S2048x12x64, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S2048, .f32⟩
  | 23 => ⟨S2048x1, .f32⟩
  | 24 => ⟨S1x32, .f32⟩
  | 25 => ⟨S2048x32, .f32⟩
  | 26 => ⟨S2048x32, .f32⟩
  | 27 => ⟨S2048x32, .f32⟩
  | 28 => ⟨S2048x32, .f32⟩
  | 29 => ⟨S2048x1x32, .f32⟩
  | 30 => ⟨S2048x32, .f32⟩
  | 31 => ⟨S2048x1x32, .f32⟩
  | 32 => ⟨S2048x12x32, .f32⟩
  | 33 => ⟨S2048x12x32, .f32⟩
  | 34 => ⟨S2048x12x32, .f32⟩
  | 35 => ⟨S2048x12x32, .f32⟩
  | 36 => ⟨S2048x12x32, .f32⟩
  | 37 => ⟨S2048x12x32, .f32⟩
  | 38 => ⟨S2048x12x32, .f32⟩
  | 39 => ⟨S2048x12x32, .f32⟩
  | 40 => ⟨S2048x12x32, .f32⟩
  | 41 => ⟨S2048x12x32, .f32⟩
  | 42 => ⟨S2048x12x32, .f32⟩
  | 43 => ⟨S2048x12x32, .f32⟩
  | 44 => ⟨S2048x12x64, .f32⟩
  | 45 => ⟨S768x128, .f32⟩
  | 46 => ⟨S2048x128, .f32⟩
  | 47 => ⟨S2048x2x64, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S_, .f32⟩
  | 56 => ⟨S32, .f32⟩
  | 57 => ⟨S32, .f32⟩
  | 58 => ⟨S2048, .f32⟩
  | 59 => ⟨S2048x1, .f32⟩
  | 60 => ⟨S1x32, .f32⟩
  | 61 => ⟨S2048x32, .f32⟩
  | 62 => ⟨S2048x32, .f32⟩
  | 63 => ⟨S2048x32, .f32⟩
  | 64 => ⟨S2048x32, .f32⟩
  | 65 => ⟨S2048x1x32, .f32⟩
  | 66 => ⟨S2048x32, .f32⟩
  | 67 => ⟨S2048x1x32, .f32⟩
  | 68 => ⟨S2048x2x32, .f32⟩
  | 69 => ⟨S2048x2x32, .f32⟩
  | 70 => ⟨S2048x2x32, .f32⟩
  | 71 => ⟨S2048x2x32, .f32⟩
  | 72 => ⟨S2048x2x32, .f32⟩
  | 73 => ⟨S2048x2x32, .f32⟩
  | 74 => ⟨S2048x2x32, .f32⟩
  | 75 => ⟨S2048x2x32, .f32⟩
  | 76 => ⟨S2048x2x32, .f32⟩
  | 77 => ⟨S2048x2x32, .f32⟩
  | 78 => ⟨S2048x2x32, .f32⟩
  | 79 => ⟨S2048x2x32, .f32⟩
  | 80 => ⟨S2048x2x64, .f32⟩
  | 81 => ⟨S768x128, .f32⟩
  | 82 => ⟨S2048x128, .f32⟩
  | 83 => ⟨S2048x2x64, .f32⟩
  | 84 => ⟨S768x3, .f32⟩
  | 85 => ⟨S2048x3, .f32⟩
  | 86 => ⟨S2048x3, .f32⟩
  | 87 => ⟨S2048x3, .f32⟩
  | 88 => ⟨S_, .f32⟩
  | 89 => ⟨S2048x3, .f32⟩
  | 90 => ⟨S2048x3, .f32⟩
  | 91 => ⟨S_, .f32⟩
  | 92 => ⟨S2048x3, .f32⟩
  | 93 => ⟨S2048x3, .f32⟩
  | 94 => ⟨S2048x2x6x64, .f32⟩
  | 95 => ⟨S127, .i32⟩
  | 96 => ⟨S_, .i32⟩
  | 97 => ⟨S127, .i32⟩
  | 98 => ⟨S127, .i32⟩
  | 99 => ⟨S127x1, .i32⟩
  | 100 => ⟨S32, .i32⟩
  | 101 => ⟨S1x32, .i32⟩
  | 102 => ⟨S127x32, .i32⟩
  | 103 => ⟨S127x32, .i32⟩
  | 104 => ⟨S127x32, .i32⟩
  | 105 => ⟨S_, .i32⟩
  | 106 => ⟨S127x32, .i32⟩
  | 107 => ⟨S127x32, .i1⟩
  | 108 => ⟨S_, .i32⟩
  | 109 => ⟨S127x32, .i32⟩
  | 110 => ⟨S127x32, .i32⟩
  | 111 => ⟨S127x32, .i32⟩
  | 112 => ⟨S127x32x1, .i32⟩
  | 113 => ⟨S127x32x2x64, .f32⟩
  | 114 => ⟨S127x2x32x64, .f32⟩
  | 115 => ⟨S127x2x2048, .f32⟩
  | 116 => ⟨S2x64x127, .f32⟩
  | 117 => ⟨S127x2x64, .f32⟩
  | 118 => ⟨S2x127x2048x6, .f32⟩
  | 119 => ⟨S2x6x2048x127, .f32⟩
  | 120 => ⟨S_, .f32⟩
  | 121 => ⟨S2x6x2048x127, .f32⟩
  | 122 => ⟨S2x6x2048x127, .f32⟩
  | 123 => ⟨S2048, .i32⟩
  | 124 => ⟨S2048x1, .i32⟩
  | 125 => ⟨S127, .i32⟩
  | 126 => ⟨S_, .i32⟩
  | 127 => ⟨S127, .i32⟩
  | _ => ⟨S1x2048x768, .f32⟩

abbrev hbmTy0_1 (i : Nat) : BufTy := match i % 128 with
  | 0 => ⟨S127, .i32⟩
  | 1 => ⟨S_, .i32⟩
  | 2 => ⟨S127, .i32⟩
  | 3 => ⟨S127, .i32⟩
  | 4 => ⟨S_, .i32⟩
  | 5 => ⟨S127, .i32⟩
  | 6 => ⟨S127, .i32⟩
  | 7 => ⟨S1x127, .i32⟩
  | 8 => ⟨S2048x127, .i32⟩
  | 9 => ⟨S2048x127, .i32⟩
  | 10 => ⟨S2048x127, .i1⟩
  | 11 => ⟨S1x1x2048x127, .i1⟩
  | 12 => ⟨S2x6x2048x127, .i1⟩
  | 13 => ⟨S_, .f32⟩
  | 14 => ⟨S2x6x2048x127, .f32⟩
  | 15 => ⟨S2x6x2048x127, .f32⟩
  | 16 => ⟨S_, .f32⟩
  | 17 => ⟨S2x6x2048, .f32⟩
  | 18 => ⟨S2x6x2048x1, .f32⟩
  | 19 => ⟨S2x6x2048x127, .f32⟩
  | 20 => ⟨S2x6x2048x127, .f32⟩
  | 21 => ⟨S2x6x2048x127, .f32⟩
  | 22 => ⟨S_, .f32⟩
  | 23 => ⟨S2x6x2048, .f32⟩
  | 24 => ⟨S2x6x2048x1, .f32⟩
  | 25 => ⟨S2x6x2048x127, .f32⟩
  | 26 => ⟨S2x6x2048x127, .f32⟩
  | 27 => ⟨S2x6x2048x127, .i1⟩
  | 28 => ⟨S_, .f32⟩
  | 29 => ⟨S2x6x2048x127, .f32⟩
  | 30 => ⟨S2x6x2048x127, .f32⟩
  | 31 => ⟨S127, .i32⟩
  | 32 => ⟨S_, .i32⟩
  | 33 => ⟨S127, .i32⟩
  | 34 => ⟨S127, .i32⟩
  | 35 => ⟨S127x1, .i32⟩
  | 36 => ⟨S32, .i32⟩
  | 37 => ⟨S1x32, .i32⟩
  | 38 => ⟨S127x32, .i32⟩
  | 39 => ⟨S127x32, .i32⟩
  | 40 => ⟨S127x32, .i32⟩
  | 41 => ⟨S_, .i32⟩
  | 42 => ⟨S127x32, .i32⟩
  | 43 => ⟨S127x32, .i1⟩
  | 44 => ⟨S_, .i32⟩
  | 45 => ⟨S127x32, .i32⟩
  | 46 => ⟨S127x32, .i32⟩
  | 47 => ⟨S127x32, .i32⟩
  | 48 => ⟨S127x32x1, .i32⟩
  | 49 => ⟨S127x32x2x64, .f32⟩
  | 50 => ⟨S127x2x32x64, .f32⟩
  | 51 => ⟨S127x2x2048, .f32⟩
  | 52 => ⟨S2x64x127, .f32⟩
  | 53 => ⟨S127x2x64, .f32⟩
  | 54 => ⟨S2x64x6x2048, .f32⟩
  | 55 => ⟨S2048x2x6x64, .f32⟩
  | 56 => ⟨S2048x12x64, .f32⟩
  | 57 => ⟨S32, .i32⟩
  | 58 => ⟨S_, .f32⟩
  | 59 => ⟨S2x2048x127, .f32⟩
  | 60 => ⟨S32, .i32⟩
  | 61 => ⟨S127, .i32⟩
  | 62 => ⟨S_, .i32⟩
  | 63 => ⟨S127, .i32⟩
  | 64 => ⟨S127, .i32⟩
  | 65 => ⟨S_, .i32⟩
  | 66 => ⟨S127, .i32⟩
  | 67 => ⟨S127, .i32⟩
  | 68 => ⟨S127x1, .i32⟩
  | 69 => ⟨S1x32, .i32⟩
  | 70 => ⟨S127x32, .i32⟩
  | 71 => ⟨S127x32, .i32⟩
  | 72 => ⟨S127x32, .i1⟩
  | 73 => ⟨S127x32, .f32⟩
  | 74 => ⟨S2x2048x127x1, .f32⟩
  | 75 => ⟨S1x1x127x32, .f32⟩
  | 76 => ⟨S2x2048x127x32, .f32⟩
  | 77 => ⟨S2x2048x127x32, .f32⟩
  | 78 => ⟨S2x2048x127x32, .f32⟩
  | 79 => ⟨S_, .f32⟩
  | 80 => ⟨S2x2048x32, .f32⟩
  | 81 => ⟨S2048, .i32⟩
  | 82 => ⟨S_, .i32⟩
  | 83 => ⟨S2048, .i32⟩
  | 84 => ⟨S2048, .i32⟩
  | 85 => ⟨S1x32, .i32⟩
  | 86 => ⟨S_, .i32⟩
  | 87 => ⟨S1x32, .i32⟩
  | 88 => ⟨S1x32, .i1⟩
  | 89 => ⟨S1x32, .i32⟩
  | 90 => ⟨S2048x1, .i32⟩
  | 91 => ⟨S2048x32, .i32⟩
  | 92 => ⟨S2048x32, .i32⟩
  | 93 => ⟨S2048x32, .i1⟩
  | 94 => ⟨S1x32, .i32⟩
  | 95 => ⟨S2048x1, .i32⟩
  | 96 => ⟨S_, .i32⟩
  | 97 => ⟨S2048x1, .i32⟩
  | 98 => ⟨S2048x1, .i32⟩
  | 99 => ⟨S_, .i32⟩
  | 100 => ⟨S2048x1, .i32⟩
  | 101 => ⟨S2048x1, .i32⟩
  | 102 => ⟨S2048x32, .i32⟩
  | 103 => ⟨S2048x32, .i32⟩
  | 104 => ⟨S2048x32, .i1⟩
  | 105 => ⟨S2048x32, .i1⟩
  | 106 => ⟨S2048x32, .i1⟩
  | 107 => ⟨S2048x32, .i1⟩
  | 108 => ⟨S1x2048x32, .i1⟩
  | 109 => ⟨S2x2048x32, .i1⟩
  | 110 => ⟨S1x32, .i32⟩
  | 111 => ⟨S2048x1, .i32⟩
  | 112 => ⟨S2048x32, .i32⟩
  | 113 => ⟨S2048x32, .i32⟩
  | 114 => ⟨S2048x32, .i1⟩
  | 115 => ⟨S_, .f32⟩
  | 116 => ⟨S2x2048x32, .f32⟩
  | 117 => ⟨S2x2048x32, .f32⟩
  | 118 => ⟨S1x2048x32, .i1⟩
  | 119 => ⟨S2x2048x32, .i1⟩
  | 120 => ⟨S_, .f32⟩
  | 121 => ⟨S2x2048x32, .f32⟩
  | 122 => ⟨S2x2048x32, .f32⟩
  | 123 => ⟨S2x2048x16, .f32⟩
  | 124 => ⟨S2x2048x16, .i32⟩
  | 125 => ⟨S_, .f32⟩
  | 126 => ⟨S2x2048x16, .f32⟩
  | 127 => ⟨S2x2048x16, .i1⟩
  | _ => ⟨S1x2048x768, .f32⟩

abbrev hbmTy0_2 (i : Nat) : BufTy := match i % 128 with
  | 0 => ⟨S2x2048x16x1, .i32⟩
  | 1 => ⟨S1x1x1x32, .i32⟩
  | 2 => ⟨S2x2048x16x32, .i32⟩
  | 3 => ⟨S2x2048x16x32, .i32⟩
  | 4 => ⟨S2x2048x16x32, .i1⟩
  | 5 => ⟨S2x2048x16x1, .i1⟩
  | 6 => ⟨S2x2048x16x32, .i1⟩
  | 7 => ⟨S2x2048x16x32, .i1⟩
  | 8 => ⟨S_, .i1⟩
  | 9 => ⟨S2x2048x32, .i1⟩
  | 10 => ⟨S2048, .i32⟩
  | 11 => ⟨S2x2048x32x1, .i1⟩
  | 12 => ⟨S2x2048x32x64, .i1⟩
  | 13 => ⟨S2x2048x2048, .i1⟩
  | 14 => ⟨S1x2048, .i32⟩
  | 15 => ⟨S2048x1, .i32⟩
  | 16 => ⟨S2048x2048, .i32⟩
  | 17 => ⟨S2048x2048, .i32⟩
  | 18 => ⟨S2048x2048, .i1⟩
  | 19 => ⟨S1x2048x2048, .i1⟩
  | 20 => ⟨S2x2048x2048, .i1⟩
  | 21 => ⟨S2x2048x2048, .i1⟩
  | 22 => ⟨S2x2048x2048x6, .f32⟩
  | 23 => ⟨S2x6x2048x2048, .f32⟩
  | 24 => ⟨S_, .f32⟩
  | 25 => ⟨S2x6x2048x2048, .f32⟩
  | 26 => ⟨S2x6x2048x2048, .f32⟩
  | 27 => ⟨S2x1x2048x2048, .i1⟩
  | 28 => ⟨S2x6x2048x2048, .i1⟩
  | 29 => ⟨S_, .f32⟩
  | 30 => ⟨S2x6x2048x2048, .f32⟩
  | 31 => ⟨S2x6x2048x2048, .f32⟩
  | 32 => ⟨S_, .f32⟩
  | 33 => ⟨S2x6x2048, .f32⟩
  | 34 => ⟨S2x6x2048x1, .f32⟩
  | 35 => ⟨S2x6x2048x2048, .f32⟩
  | 36 => ⟨S2x6x2048x2048, .f32⟩
  | 37 => ⟨S2x6x2048x2048, .f32⟩
  | 38 => ⟨S_, .f32⟩
  | 39 => ⟨S2x6x2048, .f32⟩
  | 40 => ⟨S2x6x2048x1, .f32⟩
  | 41 => ⟨S2x6x2048x2048, .f32⟩
  | 42 => ⟨S2x6x2048x2048, .f32⟩
  | 43 => ⟨S2x64x6x2048, .f32⟩
  | 44 => ⟨S2048x2x6x64, .f32⟩
  | 45 => ⟨S2048x12x64, .f32⟩
  | 46 => ⟨S2048x1, .i32⟩
  | 47 => ⟨S1x2048, .i32⟩
  | 48 => ⟨S2048x2048, .i32⟩
  | 49 => ⟨S2048x2048, .i32⟩
  | 50 => ⟨S2048x2048, .i32⟩
  | 51 => ⟨S_, .i32⟩
  | 52 => ⟨S2048x2048, .i32⟩
  | 53 => ⟨S2048x2048, .i1⟩
  | 54 => ⟨S2048x2048, .i1⟩
  | 55 => ⟨S1x1x2048x2048, .i1⟩
  | 56 => ⟨S2x6x2048x2048, .i1⟩
  | 57 => ⟨S_, .f32⟩
  | 58 => ⟨S2x6x2048x2048, .f32⟩
  | 59 => ⟨S2x6x2048x2048, .f32⟩
  | 60 => ⟨S_, .f32⟩
  | 61 => ⟨S2x6x2048, .f32⟩
  | 62 => ⟨S2x6x2048x1, .f32⟩
  | 63 => ⟨S2x6x2048x2048, .f32⟩
  | 64 => ⟨S2x6x2048x2048, .f32⟩
  | 65 => ⟨S2x6x2048x2048, .f32⟩
  | 66 => ⟨S_, .f32⟩
  | 67 => ⟨S2x6x2048, .f32⟩
  | 68 => ⟨S2x6x2048x1, .f32⟩
  | 69 => ⟨S2x6x2048x2048, .f32⟩
  | 70 => ⟨S2x6x2048x2048, .f32⟩
  | 71 => ⟨S2x64x6x2048, .f32⟩
  | 72 => ⟨S2048x2x6x64, .f32⟩
  | 73 => ⟨S2048x12x64, .f32⟩
  | 74 => ⟨S2048x1, .f32⟩
  | 75 => ⟨S2048x1x1, .f32⟩
  | 76 => ⟨S2048x12x64, .f32⟩
  | 77 => ⟨S2048x12x64, .f32⟩
  | 78 => ⟨S2048x1, .f32⟩
  | 79 => ⟨S2048x1x1, .f32⟩
  | 80 => ⟨S2048x12x64, .f32⟩
  | 81 => ⟨S2048x12x64, .f32⟩
  | 82 => ⟨S2048x12x64, .f32⟩
  | 83 => ⟨S2048x1, .f32⟩
  | 84 => ⟨S2048x1x1, .f32⟩
  | 85 => ⟨S2048x12x64, .f32⟩
  | 86 => ⟨S2048x12x64, .f32⟩
  | 87 => ⟨S2048x12x64, .f32⟩
  | 88 => ⟨S2048x768, .f32⟩
  | 89 => ⟨S768x768, .f32⟩
  | 90 => ⟨S2048x768, .f32⟩
  | 91 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_cst_4 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_5 : Ref sig .tc := ⟨.hbm, 88, rfl⟩
abbrev main_v74 : Ref sig .tc := ⟨.hbm, 89, rfl⟩
abbrev main_v75 : Ref sig .tc := ⟨.hbm, 90, rfl⟩
abbrev main_cst_6 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_c : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_c_7 : Ref sig .tc := ⟨.hbm, 105, rfl⟩
abbrev main_v88 : Ref sig .tc := ⟨.hbm, 106, rfl⟩
abbrev main_v89 : Ref sig .tc := ⟨.hbm, 107, rfl⟩
abbrev main_c_8 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_cst_9 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_c_10 : Ref sig .tc := ⟨.hbm, 126, rfl⟩
abbrev main_v106 : Ref sig .tc := ⟨.hbm, 127, rfl⟩
abbrev main_v107 : Ref sig .tc := ⟨.hbm, 128, rfl⟩
abbrev main_c_11 : Ref sig .tc := ⟨.hbm, 129, rfl⟩
abbrev main_v108 : Ref sig .tc := ⟨.hbm, 130, rfl⟩
abbrev main_v109 : Ref sig .tc := ⟨.hbm, 131, rfl⟩
abbrev main_c_12 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_13 : Ref sig .tc := ⟨.hbm, 141, rfl⟩
abbrev main_v118 : Ref sig .tc := ⟨.hbm, 142, rfl⟩
abbrev main_v119 : Ref sig .tc := ⟨.hbm, 143, rfl⟩
abbrev main_cst_14 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_cst_15 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_16 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_c_17 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_c_18 : Ref sig .tc := ⟨.hbm, 169, rfl⟩
abbrev main_v141 : Ref sig .tc := ⟨.hbm, 170, rfl⟩
abbrev main_v142 : Ref sig .tc := ⟨.hbm, 171, rfl⟩
abbrev main_c_19 : Ref sig .tc := ⟨.hbm, 172, rfl⟩
abbrev main_v143 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_v154 : Ref sig .tc := ⟨.hbm, 184, rfl⟩
abbrev main_v155 : Ref sig .tc := ⟨.hbm, 185, rfl⟩
abbrev main_cst_20 : Ref sig .tc := ⟨.hbm, 186, rfl⟩
abbrev main_v156 : Ref sig .tc := ⟨.hbm, 187, rfl⟩
abbrev main_v157 : Ref sig .tc := ⟨.hbm, 188, rfl⟩
abbrev main_v158 : Ref sig .tc := ⟨.hbm, 189, rfl⟩
abbrev main_c_21 : Ref sig .tc := ⟨.hbm, 190, rfl⟩
abbrev main_v159 : Ref sig .tc := ⟨.hbm, 191, rfl⟩
abbrev main_v160 : Ref sig .tc := ⟨.hbm, 192, rfl⟩
abbrev main_c_22 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_v169 : Ref sig .tc := ⟨.hbm, 202, rfl⟩
abbrev main_v170 : Ref sig .tc := ⟨.hbm, 203, rfl⟩
abbrev main_v171 : Ref sig .tc := ⟨.hbm, 204, rfl⟩
abbrev main_v172 : Ref sig .tc := ⟨.hbm, 205, rfl⟩
abbrev main_v173 : Ref sig .tc := ⟨.hbm, 206, rfl⟩
abbrev main_cst_23 : Ref sig .tc := ⟨.hbm, 207, rfl⟩
abbrev main_v174 : Ref sig .tc := ⟨.hbm, 208, rfl⟩
abbrev main_v175 : Ref sig .tc := ⟨.hbm, 209, rfl⟩
abbrev main_c_24 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_c_25 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_c_26 : Ref sig .tc := ⟨.hbm, 224, rfl⟩
abbrev main_v188 : Ref sig .tc := ⟨.hbm, 225, rfl⟩
abbrev main_v189 : Ref sig .tc := ⟨.hbm, 226, rfl⟩
abbrev main_c_27 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩
abbrev main_v202 : Ref sig .tc := ⟨.hbm, 240, rfl⟩
abbrev main_v203 : Ref sig .tc := ⟨.hbm, 241, rfl⟩
abbrev main_v204 : Ref sig .tc := ⟨.hbm, 242, rfl⟩
abbrev main_cst_28 : Ref sig .tc := ⟨.hbm, 243, rfl⟩
abbrev main_v205 : Ref sig .tc := ⟨.hbm, 244, rfl⟩
abbrev main_v206 : Ref sig .tc := ⟨.hbm, 245, rfl⟩
abbrev main_v207 : Ref sig .tc := ⟨.hbm, 246, rfl⟩
abbrev main_v208 : Ref sig .tc := ⟨.hbm, 247, rfl⟩
abbrev main_cst_29 : Ref sig .tc := ⟨.hbm, 248, rfl⟩
abbrev main_v209 : Ref sig .tc := ⟨.hbm, 249, rfl⟩
abbrev main_v210 : Ref sig .tc := ⟨.hbm, 250, rfl⟩
abbrev main_values : Ref sig .tc := ⟨.hbm, 251, rfl⟩
abbrev main_indices : Ref sig .tc := ⟨.hbm, 252, rfl⟩
abbrev main_cst_30 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_v216 : Ref sig .tc := ⟨.hbm, 259, rfl⟩
abbrev main_v217 : Ref sig .tc := ⟨.hbm, 260, rfl⟩
abbrev main_v218 : Ref sig .tc := ⟨.hbm, 261, rfl⟩
abbrev main_v219 : Ref sig .tc := ⟨.hbm, 262, rfl⟩
abbrev main_v220 : Ref sig .tc := ⟨.hbm, 263, rfl⟩
abbrev main_c_31 : Ref sig .tc := ⟨.hbm, 264, rfl⟩
abbrev main_v221 : Ref sig .tc := ⟨.hbm, 265, rfl⟩
abbrev main_v222 : Ref sig .tc := ⟨.hbm, 266, rfl⟩
abbrev main_v223 : Ref sig .tc := ⟨.hbm, 267, rfl⟩
abbrev main_v224 : Ref sig .tc := ⟨.hbm, 268, rfl⟩
abbrev main_v225 : Ref sig .tc := ⟨.hbm, 269, rfl⟩
abbrev main_v226 : Ref sig .tc := ⟨.hbm, 270, rfl⟩
abbrev main_v227 : Ref sig .tc := ⟨.hbm, 271, rfl⟩
abbrev main_v228 : Ref sig .tc := ⟨.hbm, 272, rfl⟩
abbrev main_v229 : Ref sig .tc := ⟨.hbm, 273, rfl⟩
abbrev main_v230 : Ref sig .tc := ⟨.hbm, 274, rfl⟩
abbrev main_v231 : Ref sig .tc := ⟨.hbm, 275, rfl⟩
abbrev main_v232 : Ref sig .tc := ⟨.hbm, 276, rfl⟩
abbrev main_v233 : Ref sig .tc := ⟨.hbm, 277, rfl⟩
abbrev main_v234 : Ref sig .tc := ⟨.hbm, 278, rfl⟩
abbrev main_v235 : Ref sig .tc := ⟨.hbm, 279, rfl⟩
abbrev main_cst_32 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_cst_33 : Ref sig .tc := ⟨.hbm, 285, rfl⟩
abbrev main_v240 : Ref sig .tc := ⟨.hbm, 286, rfl⟩
abbrev main_v241 : Ref sig .tc := ⟨.hbm, 287, rfl⟩
abbrev main_cst_34 : Ref sig .tc := ⟨.hbm, 288, rfl⟩
abbrev main_v242 : Ref sig .tc := ⟨.hbm, 289, rfl⟩
abbrev main_v243 : Ref sig .tc := ⟨.hbm, 290, rfl⟩
abbrev main_v244 : Ref sig .tc := ⟨.hbm, 291, rfl⟩
abbrev main_v245 : Ref sig .tc := ⟨.hbm, 292, rfl⟩
abbrev main_v246 : Ref sig .tc := ⟨.hbm, 293, rfl⟩
abbrev main_cst_35 : Ref sig .tc := ⟨.hbm, 294, rfl⟩
abbrev main_v247 : Ref sig .tc := ⟨.hbm, 295, rfl⟩
abbrev main_v248 : Ref sig .tc := ⟨.hbm, 296, rfl⟩
abbrev main_v249 : Ref sig .tc := ⟨.hbm, 297, rfl⟩
abbrev main_v250 : Ref sig .tc := ⟨.hbm, 298, rfl⟩
abbrev main_v251 : Ref sig .tc := ⟨.hbm, 299, rfl⟩
abbrev main_v252 : Ref sig .tc := ⟨.hbm, 300, rfl⟩
abbrev main_v253 : Ref sig .tc := ⟨.hbm, 301, rfl⟩
abbrev main_v254 : Ref sig .tc := ⟨.hbm, 302, rfl⟩
abbrev main_v255 : Ref sig .tc := ⟨.hbm, 303, rfl⟩
abbrev main_v256 : Ref sig .tc := ⟨.hbm, 304, rfl⟩
abbrev main_v257 : Ref sig .tc := ⟨.hbm, 305, rfl⟩
abbrev main_v258 : Ref sig .tc := ⟨.hbm, 306, rfl⟩
abbrev main_c_36 : Ref sig .tc := ⟨.hbm, 307, rfl⟩
abbrev main_v259 : Ref sig .tc := ⟨.hbm, 308, rfl⟩
abbrev main_v260 : Ref sig .tc := ⟨.hbm, 309, rfl⟩
abbrev main_v261 : Ref sig .tc := ⟨.hbm, 310, rfl⟩
abbrev main_v262 : Ref sig .tc := ⟨.hbm, 311, rfl⟩
abbrev main_v263 : Ref sig .tc := ⟨.hbm, 312, rfl⟩
abbrev main_cst_37 : Ref sig .tc := ⟨.hbm, 313, rfl⟩
abbrev main_v264 : Ref sig .tc := ⟨.hbm, 314, rfl⟩
abbrev main_v265 : Ref sig .tc := ⟨.hbm, 315, rfl⟩
abbrev main_cst_38 : Ref sig .tc := ⟨.hbm, 316, rfl⟩
abbrev main_v266 : Ref sig .tc := ⟨.hbm, 317, rfl⟩
abbrev main_v267 : Ref sig .tc := ⟨.hbm, 318, rfl⟩
abbrev main_v268 : Ref sig .tc := ⟨.hbm, 319, rfl⟩
abbrev main_v269 : Ref sig .tc := ⟨.hbm, 320, rfl⟩
abbrev main_v270 : Ref sig .tc := ⟨.hbm, 321, rfl⟩
abbrev main_cst_39 : Ref sig .tc := ⟨.hbm, 322, rfl⟩
abbrev main_v271 : Ref sig .tc := ⟨.hbm, 323, rfl⟩
abbrev main_v272 : Ref sig .tc := ⟨.hbm, 324, rfl⟩
abbrev main_v273 : Ref sig .tc := ⟨.hbm, 325, rfl⟩
abbrev main_v274 : Ref sig .tc := ⟨.hbm, 326, rfl⟩
abbrev main_v275 : Ref sig .tc := ⟨.hbm, 327, rfl⟩
abbrev main_v276 : Ref sig .tc := ⟨.hbm, 328, rfl⟩
abbrev main_v277 : Ref sig .tc := ⟨.hbm, 329, rfl⟩
abbrev main_v278 : Ref sig .tc := ⟨.hbm, 330, rfl⟩
abbrev main_v279 : Ref sig .tc := ⟨.hbm, 331, rfl⟩
abbrev main_v280 : Ref sig .tc := ⟨.hbm, 332, rfl⟩
abbrev main_v281 : Ref sig .tc := ⟨.hbm, 333, rfl⟩
abbrev main_v282 : Ref sig .tc := ⟨.hbm, 334, rfl⟩
abbrev main_v283 : Ref sig .tc := ⟨.hbm, 335, rfl⟩
abbrev main_v284 : Ref sig .tc := ⟨.hbm, 336, rfl⟩
abbrev main_v285 : Ref sig .tc := ⟨.hbm, 337, rfl⟩
abbrev main_v286 : Ref sig .tc := ⟨.hbm, 338, rfl⟩
abbrev main_v287 : Ref sig .tc := ⟨.hbm, 339, rfl⟩
abbrev main_v288 : Ref sig .tc := ⟨.hbm, 340, rfl⟩
abbrev main_v289 : Ref sig .tc := ⟨.hbm, 341, rfl⟩
abbrev main_v290 : Ref sig .tc := ⟨.hbm, 342, rfl⟩
abbrev main_v291 : Ref sig .tc := ⟨.hbm, 343, rfl⟩
abbrev main_v292 : Ref sig .tc := ⟨.hbm, 344, rfl⟩
abbrev main_v293 : Ref sig .tc := ⟨.hbm, 345, rfl⟩
abbrev main_v294 : Ref sig .tc := ⟨.hbm, 346, rfl⟩
abbrev main_v295 : Ref sig .tc := ⟨.hbm, 347, rfl⟩

abbrev nD : Nat := 1
abbrev τ : Topo := Topo.v7x

variable {F : FTy → Type} [FloatOps F]
-- ==== Proof.IdealRegion0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__proj_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S256x768 := Rect.unit (s := S256x768) ![0, 0] S256x768.size inb_S256x768_S256x768_0_0
abbrev r0_1 : Rect S768x768 := Rect.unit (s := S768x768) ![0, 0] S768x768.size inb_S768x768_S768x768_0_0
abbrev r0_2 : Rect S768x128 := Rect.unit (s := S768x128) ![0, 0] S768x128.size inb_S768x128_S768x128_0_0
abbrev r0_3 : Rect S256x128 := Rect.unit (s := S256x128) ![0, 0] S256x128.size inb_S256x128_S256x128_0_0
abbrev r0_4 : Rect S768x8 := Rect.unit (s := S768x8) ![0, 0] S768x8.size inb_S768x8_S768x8_0_0
abbrev r0_5 : Rect S256x8 := Rect.unit (s := S256x8) ![0, 0] S256x8.size inb_S256x8_S256x8_0_0
abbrev r0_6 : Rect S256x32 := Rect.unit (s := S256x32) ![0, 0] S256x32.size inb_S256x32_S256x32_0_0
abbrev r0_7 : Rect S12x256x64 := Rect.unit (s := S12x256x64) ![0, 0, 0] S1x256x64.size inb_S12x256x64_S1x256x64_0_0_0
abbrev r0_8 : Rect S12x256x64 := Rect.unit (s := S12x256x64) ![1, 0, 0] S1x256x64.size inb_S12x256x64_S1x256x64_1_0_0
abbrev r0_9 : Rect S12x256x64 := Rect.unit (s := S12x256x64) ![2, 0, 0] S1x256x64.size inb_S12x256x64_S1x256x64_2_0_0
abbrev r0_10 : Rect S12x256x64 := Rect.unit (s := S12x256x64) ![3, 0, 0] S1x256x64.size inb_S12x256x64_S1x256x64_3_0_0
abbrev r0_11 : Rect S12x256x64 := Rect.unit (s := S12x256x64) ![4, 0, 0] S1x256x64.size inb_S12x256x64_S1x256x64_4_0_0
abbrev r0_12 : Rect S12x256x64 := Rect.unit (s := S12x256x64) ![5, 0, 0] S1x256x64.size inb_S12x256x64_S1x256x64_5_0_0
abbrev r0_13 : Rect S12x256x64 := Rect.unit (s := S12x256x64) ![6, 0, 0] S1x256x64.size inb_S12x256x64_S1x256x64_6_0_0
abbrev r0_14 : Rect S12x256x64 := Rect.unit (s := S12x256x64) ![7, 0, 0] S1x256x64.size inb_S12x256x64_S1x256x64_7_0_0
abbrev r0_15 : Rect S12x256x64 := Rect.unit (s := S12x256x64) ![8, 0, 0] S1x256x64.size inb_S12x256x64_S1x256x64_8_0_0
abbrev r0_16 : Rect S12x256x64 := Rect.unit (s := S12x256x64) ![9, 0, 0] S1x256x64.size inb_S12x256x64_S1x256x64_9_0_0
abbrev r0_17 : Rect S12x256x64 := Rect.unit (s := S12x256x64) ![10, 0, 0] S1x256x64.size inb_S12x256x64_S1x256x64_10_0_0
abbrev r0_18 : Rect S12x256x64 := Rect.unit (s := S12x256x64) ![11, 0, 0] S1x256x64.size inb_S12x256x64_S1x256x64_11_0_0
abbrev r0_19 : Rect S256x192 := Rect.unit (s := S256x192) ![0, 0] S256x192.size inb_S256x192_S256x192_0_0

/-! ## What the body leaves in each output window's buffer -/

/-! ### Values of the body that the stores' payloads, spelt out, would write more than once

    Each is a vector the body binds (often a part call's result), stated over the input windows' blocks and
    numbered on from the skeleton's payload functions (`k0_pay30` …, after `k0_pay29`), so that
    `out0_W` and the values after it name it instead of spelling it out (`unfold_out out0_W` opens a canon
    with them, `unfold_payloads` opens them with the payloads); the comment after each is the printed function's
    name for the value (a count appended where that name is bound again). -/

def k0_pay30 (i : grid0.Coords) (x0 : Vec F S256x768 .f32) (x1 : Vec F S768x768 .f32) (x2 : Vec F S768x128 .f32) (x3 : Vec F S768x128 .f32) (x4 : Vec F S768x8 .f32) (x5 : Vec F S256x32 .f32) (x6 : Vec F S256x32 .f32) : FVec F S256x768 .f32 :=
  k0_pay2 (View.ld x0 r0_0) (View.ld x1 r0_1) -- `v5`
def k0_pay31 (i : grid0.Coords) (x0 : Vec F S256x768 .f32) (x1 : Vec F S768x768 .f32) (x2 : Vec F S768x128 .f32) (x3 : Vec F S768x128 .f32) (x4 : Vec F S768x8 .f32) (x5 : Vec F S256x32 .f32) (x6 : Vec F S256x32 .f32) : FVec F S256x32 .f32 :=
  k0_pay6 (View.ld x5 r0_6) -- `v19`
def k0_pay32 (i : grid0.Coords) (x0 : Vec F S256x768 .f32) (x1 : Vec F S768x768 .f32) (x2 : Vec F S768x128 .f32) (x3 : Vec F S768x128 .f32) (x4 : Vec F S768x8 .f32) (x5 : Vec F S256x32 .f32) (x6 : Vec F S256x32 .f32) : FVec F S256x32 .f32 :=
  k0_pay7 (View.ld x6 r0_6) -- `v21`

/-- Window 7's staging buffer after the body, from the input windows' blocks: its 12 stores as pieces, LAST
    FIRST (Lib/Pipeline/FrameBody.lean `View.canon`; the payloads are the skeleton's and the values stated above). -/
def out0_7 (i : grid0.Coords) (x0 : Vec F S256x768 .f32) (x1 : Vec F S768x768 .f32) (x2 : Vec F S768x128 .f32) (x3 : Vec F S768x128 .f32) (x4 : Vec F S768x8 .f32) (x5 : Vec F S256x32 .f32) (x6 : Vec F S256x32 .f32) : Vec F S12x256x64 .f32 :=
  View.canon [⟨r0_18, k0_pay28 (k0_pay30 i x0 x1 x2 x3 x4 x5 x6) (k0_pay31 i x0 x1 x2 x3 x4 x5 x6) (k0_pay32 i x0 x1 x2 x3 x4 x5 x6)⟩,
    ⟨r0_17, k0_pay27 (k0_pay30 i x0 x1 x2 x3 x4 x5 x6) (k0_pay31 i x0 x1 x2 x3 x4 x5 x6) (k0_pay32 i x0 x1 x2 x3 x4 x5 x6)⟩,
    ⟨r0_16, k0_pay26 (k0_pay30 i x0 x1 x2 x3 x4 x5 x6) (k0_pay31 i x0 x1 x2 x3 x4 x5 x6) (k0_pay32 i x0 x1 x2 x3 x4 x5 x6)⟩,
    ⟨r0_15, k0_pay25 (k0_pay31 i x0 x1 x2 x3 x4 x5 x6) (k0_pay32 i x0 x1 x2 x3 x4 x5 x6) (k0_pay21 (k0_pay30 i x0 x1 x2 x3 x4 x5 x6)) (k0_pay22 (k0_pay30 i x0 x1 x2 x3 x4 x5 x6)) (k0_pay23 (k0_pay30 i x0 x1 x2 x3 x4 x5 x6) (k0_pay31 i x0 x1 x2 x3 x4 x5 x6)) (k0_pay24 (k0_pay30 i x0 x1 x2 x3 x4 x5 x6) (k0_pay32 i x0 x1 x2 x3 x4 x5 x6))⟩,
    ⟨r0_14, k0_pay20 (k0_pay30 i x0 x1 x2 x3 x4 x5 x6) (k0_pay31 i x0 x1 x2 x3 x4 x5 x6) (k0_pay32 i x0 x1 x2 x3 x4 x5 x6)⟩,
    ⟨r0_13, k0_pay19 (k0_pay30 i x0 x1 x2 x3 x4 x5 x6) (k0_pay31 i x0 x1 x2 x3 x4 x5 x6) (k0_pay32 i x0 x1 x2 x3 x4 x5 x6)⟩,
    ⟨r0_12, k0_pay18 (k0_pay30 i x0 x1 x2 x3 x4 x5 x6) (k0_pay31 i x0 x1 x2 x3 x4 x5 x6) (k0_pay32 i x0 x1 x2 x3 x4 x5 x6)⟩,
    ⟨r0_11, k0_pay17 (k0_pay15 (k0_pay30 i x0 x1 x2 x3 x4 x5 x6) (k0_pay31 i x0 x1 x2 x3 x4 x5 x6) (k0_pay32 i x0 x1 x2 x3 x4 x5 x6)) (k0_pay16 (k0_pay30 i x0 x1 x2 x3 x4 x5 x6) (k0_pay31 i x0 x1 x2 x3 x4 x5 x6) (k0_pay32 i x0 x1 x2 x3 x4 x5 x6))⟩,
    ⟨r0_10, k0_pay12 (k0_pay30 i x0 x1 x2 x3 x4 x5 x6) (k0_pay31 i x0 x1 x2 x3 x4 x5 x6) (k0_pay32 i x0 x1 x2 x3 x4 x5 x6)⟩,
    ⟨r0_9, k0_pay11 (k0_pay30 i x0 x1 x2 x3 x4 x5 x6) (k0_pay31 i x0 x1 x2 x3 x4 x5 x6) (k0_pay32 i x0 x1 x2 x3 x4 x5 x6)⟩,
    ⟨r0_8, k0_pay10 (k0_pay30 i x0 x1 x2 x3 x4 x5 x6) (k0_pay31 i x0 x1 x2 x3 x4 x5 x6) (k0_pay32 i x0 x1 x2 x3 x4 x5 x6)⟩,
    ⟨r0_7, k0_pay9 (k0_pay8 (View.ld x0 r0_0) (View.ld x1 r0_1) (View.ld x5 r0_6) (View.ld x6 r0_6))⟩]

/-- Its stores tile the buffer (checked by evaluation), so they cover it. -/
theorem cover0_7 (p0 : Vec F S1x256x64 .f32) (p1 : Vec F S1x256x64 .f32) (p2 : Vec F S1x256x64 .f32) (p3 : Vec F S1x256x64 .f32) (p4 : Vec F S1x256x64 .f32) (p5 : Vec F S1x256x64 .f32) (p6 : Vec F S1x256x64 .f32) (p7 : Vec F S1x256x64 .f32) (p8 : Vec F S1x256x64 .f32) (p9 : Vec F S1x256x64 .f32) (p10 : Vec F S1x256x64 .f32) (p11 : Vec F S1x256x64 .f32) (y : S12x256x64.Idx) :
    ∃ pc ∈ ([⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩] : List (View.Piece (Elt F) S12x256x64 .f32)), y ∈ pc.1.set :=
  View.cover_of_tiled [⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩] S1x256x64.size (by rfl) y

/-- Window 8's staging buffer after the body, from the input windows' blocks: its 1 store as pieces, LAST
    FIRST (Lib/Pipeline/FrameBody.lean `View.canon`; the payloads are the skeleton's and the values stated above). -/
def out0_8 (i : grid0.Coords) (x0 : Vec F S256x768 .f32) (x1 : Vec F S768x768 .f32) (x2 : Vec F S768x128 .f32) (x3 : Vec F S768x128 .f32) (x4 : Vec F S768x8 .f32) (x5 : Vec F S256x32 .f32) (x6 : Vec F S256x32 .f32) : Vec F S256x192 .f32 :=
  View.canon [⟨r0_19, k0_pay29 (Scalar.muli (BitVec.ofNat 32 (i 0).val) 256#32) (k0_pay3 (View.ld x0 r0_0) (View.ld x2 r0_2)) (k0_pay31 i x0 x1 x2 x3 x4 x5 x6) (k0_pay32 i x0 x1 x2 x3 x4 x5 x6)⟩]

/-- Its stores tile the buffer (checked by evaluation), so they cover it. -/
theorem cover0_8 (p0 : Vec F S256x192 .f32) (y : S256x192.Idx) :
    ∃ pc ∈ ([⟨r0_19, p0⟩] : List (View.Piece (Elt F) S256x192 .f32)), y ∈ pc.1.set :=
  View.cover_of_tiled [⟨r0_19, p0⟩] S256x192.size (by rfl) y

/-- Window 9's staging buffer after the body, from the input windows' blocks: its 1 store as pieces, LAST
    FIRST (Lib/Pipeline/FrameBody.lean `View.canon`; the payloads are the skeleton's and the values stated above). -/
def out0_9 (i : grid0.Coords) (x0 : Vec F S256x768 .f32) (x1 : Vec F S768x768 .f32) (x2 : Vec F S768x128 .f32) (x3 : Vec F S768x128 .f32) (x4 : Vec F S768x8 .f32) (x5 : Vec F S256x32 .f32) (x6 : Vec F S256x32 .f32) : Vec F S256x128 .f32 :=
  View.canon [⟨r0_3, k0_pay4 (View.ld x0 r0_0) (View.ld x3 r0_2)⟩]

/-- Its stores tile the buffer (checked by evaluation), so they cover it. -/
theorem cover0_9 (p0 : Vec F S256x128 .f32) (y : S256x128.Idx) :
    ∃ pc ∈ ([⟨r0_3, p0⟩] : List (View.Piece (Elt F) S256x128 .f32)), y ∈ pc.1.set :=
  View.cover_of_tiled [⟨r0_3, p0⟩] S256x128.size (by rfl) y

/-- Window 10's staging buffer after the body, from the input windows' blocks: its 1 store as pieces, LAST
    FIRST (Lib/Pipeline/FrameBody.lean `View.canon`; the payloads are the skeleton's and the values stated above). -/
def out0_10 (i : grid0.Coords) (x0 : Vec F S256x768 .f32) (x1 : Vec F S768x768 .f32) (x2 : Vec F S768x128 .f32) (x3 : Vec F S768x128 .f32) (x4 : Vec F S768x8 .f32) (x5 : Vec F S256x32 .f32) (x6 : Vec F S256x32 .f32) : Vec F S256x8 .f32 :=
  View.canon [⟨r0_5, k0_pay5 (View.ld x0 r0_0) (View.ld x4 r0_4)⟩]

/-- Its stores tile the buffer (checked by evaluation), so they cover it. -/
theorem cover0_10 (p0 : Vec F S256x8 .f32) (y : S256x8.Idx) :
    ∃ pc ∈ ([⟨r0_5, p0⟩] : List (View.Piece (Elt F) S256x8 .f32)), y ∈ pc.1.set :=
  View.cover_of_tiled [⟨r0_5, p0⟩] S256x8.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S256x768 .f32) (harg1 : arg1.IsWhole) (arg2 : Memref sig .tc .vmem S768x768 .f32) (harg2 : arg2.IsWhole) (arg3 : Memref sig .tc .vmem S768x128 .f32) (harg3 : arg3.IsWhole) (arg4 : Memref sig .tc .vmem S768x128 .f32) (harg4 : arg4.IsWhole) (arg5 : Memref sig .tc .vmem S768x8 .f32) (harg5 : arg5.IsWhole) (arg6 : Memref sig .tc .vmem S256x32 .f32) (harg6 : arg6.IsWhole) (arg7 : Memref sig .tc .vmem S256x32 .f32) (harg7 : arg7.IsWhole) (arg8 : Memref sig .tc .vmem S12x256x64 .f32) (harg8 : arg8.IsWhole) (arg9 : Memref sig .tc .vmem S256x192 .f32) (harg9 : arg9.IsWhole) (arg10 : Memref sig .tc .vmem S256x128 .f32) (harg10 : arg10.IsWhole) (arg11 : Memref sig .tc .vmem S256x8 .f32) (harg11 : arg11.IsWhole)
    (x0 : Vec F S256x768 .f32) (x1 : Vec F S768x768 .f32) (x2 : Vec F S768x128 .f32) (x3 : Vec F S768x128 .f32) (x4 : Vec F S768x8 .f32) (x5 : Vec F S256x32 .f32) (x6 : Vec F S256x32 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 i x0 x1 x2 x3 x4 x5 x6) ∗ owns (c : Thread nD τ) arg9 fullShare (out0_8 i x0 x1 x2 x3 x4 x5 x6) ∗ owns (c : Thread nD τ) arg10 fullShare (out0_9 i x0 x1 x2 x3 x4 x5 x6) ∗ owns (c : Thread nD τ) arg11 fullShare (out0_10 i x0 x1 x2 x3 x4 x5 x6)) -∗ K ⟨⟩))
      ⊢ wp frame (wpE (defs₀ (F := F)) Variants.none c none) E (cc0__proj_kernel i arg1 harg1 arg2 harg2 arg3 harg3 arg4 harg4 arg5 harg5 arg6 harg6 arg7 harg7 arg8 harg8 arg9 harg9 arg10 harg10 arg11 harg11) K := by
  simp only [cc0__proj_kernel_eq_skeleton]; unfold cc0__proj_kernel_skel
  simp only [k0_part5_eq_skeleton, k0_part1_eq_skeleton, k0_part2_eq_skeleton, k0_part3_eq_skeleton, k0_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover0_7 _ _ _ _ _ _ _ _ _ _ _ _)).trans ?_
    rfl
  isplitl [H8]
  · iexists _; isplitr
    swap; · iexact H8
    ipureintro
    refine (View.read_writes_eq_canon _ _ _ (cover0_8 _)).trans ?_
    rfl
  isplitl [H9]
  · iexists _; isplitr
    swap; · iexact H9
    ipureintro
    refine (View.read_writes_eq_canon _ _ _ (cover0_9 _)).trans ?_
    rfl
  iexists _; isplitr
  swap; · iexact H10
  ipureintro
  refine (View.read_writes_eq_canon _ _ _ (cover0_10 _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (grid0.coords t) (iblk0 V c 0 t) (iblk0 V c 1 t) (iblk0 V c 2 t) (iblk0 V c 3 t) (iblk0 V c 4 t) (iblk0 V c 5 t) (iblk0 V c 6 t)
    | ⟨8, _⟩ => out0_8 (grid0.coords t) (iblk0 V c 0 t) (iblk0 V c 1 t) (iblk0 V c 2 t) (iblk0 V c 3 t) (iblk0 V c 4 t) (iblk0 V c 5 t) (iblk0 V c 6 t)
    | ⟨9, _⟩ => out0_9 (grid0.coords t) (iblk0 V c 0 t) (iblk0 V c 1 t) (iblk0 V c 2 t) (iblk0 V c 3 t) (iblk0 V c 4 t) (iblk0 V c 5 t) (iblk0 V c 6 t)
    | ⟨10, _⟩ => out0_10 (grid0.coords t) (iblk0 V c 0 t) (iblk0 V c 1 t) (iblk0 V c 2 t) (iblk0 V c 3 t) (iblk0 V c 4 t) (iblk0 V c 5 t) (iblk0 V c 6 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (grid0.coords t) (iblk0 V c 0 t) (iblk0 V c 1 t) (iblk0 V c 2 t) (iblk0 V c 3 t) (iblk0 V c 4 t) (iblk0 V c 5 t) (iblk0 V c 6 t) := by dsimp only [dat0]
theorem after0_8 (c : Dev nD) (t : Fin cfg0.N) : (dat0 V c).after 8 t = out0_8 (grid0.coords t) (iblk0 V c 0 t) (iblk0 V c 1 t) (iblk0 V c 2 t) (iblk0 V c 3 t) (iblk0 V c 4 t) (iblk0 V c 5 t) (iblk0 V c 6 t) := by dsimp only [dat0]
theorem after0_9 (c : Dev nD) (t : Fin cfg0.N) : (dat0 V c).after 9 t = out0_9 (grid0.coords t) (iblk0 V c 0 t) (iblk0 V c 1 t) (iblk0 V c 2 t) (iblk0 V c 3 t) (iblk0 V c 4 t) (iblk0 V c 5 t) (iblk0 V c 6 t) := by dsimp only [dat0]
theorem after0_10 (c : Dev nD) (t : Fin cfg0.N) : (dat0 V c).after 10 t = out0_10 (grid0.coords t) (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel0 c Set.univ (grid0.coords t) _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Run

end
-- ==== Proof.IdealRegion1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 1 of @main: custom_call 1, `cc1__compress_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S2x128x1024 := Rect.unit (s := S2x128x1024) ![0, 0, 0] S1x128x1024.size inb_S2x128x1024_S1x128x1024_0_0_0
abbrev r1_1 : Rect S2x2048x64 := Rect.unit (s := S2x2048x64) ![0, 0, 0] S1x1024x64.size inb_S2x2048x64_S1x1024x64_0_0_0
abbrev r1_2 : Rect S2x2048x64 := Rect.unit (s := S2x2048x64) ![0, 1024, 0] S1x1024x64.size inb_S2x2048x64_S1x1024x64_0_1024_0
abbrev r1_3 : Rect S2x128x64 := Rect.unit (s := S2x128x64) ![0, 0, 0] S1x128x64.size inb_S2x128x64_S1x128x64_0_0_0
abbrev r1_4 : Rect S2x128x1024 := Rect.unit (s := S2x128x1024) ![1, 0, 0] S1x128x1024.size inb_S2x128x1024_S1x128x1024_1_0_0
abbrev r1_5 : Rect S2x2048x64 := Rect.unit (s := S2x2048x64) ![1, 0, 0] S1x1024x64.size inb_S2x2048x64_S1x1024x64_1_0_0
abbrev r1_6 : Rect S2x2048x64 := Rect.unit (s := S2x2048x64) ![1, 1024, 0] S1x1024x64.size inb_S2x2048x64_S1x1024x64_1_1024_0
abbrev r1_7 : Rect S2x128x64 := Rect.unit (s := S2x128x64) ![1, 0, 0] S1x128x64.size inb_S2x128x64_S1x128x64_1_0_0

/-! ## What the body leaves in each output window's buffer -/

/-! ### Values of the body that the stores' payloads, spelt out, would write more than once

    Each is a vector the body binds (often a part call's result), stated over the input windows' blocks and
    numbered on from the skeleton's payload functions (`k1_pay6` …, after `k1_pay5`), so that
    `out1_W` and the values after it name it instead of spelling it out (`unfold_out out1_W` opens a canon
    with them, `unfold_payloads` opens them with the payloads); the comment after each is the printed function's
    name for the value (a count appended where that name is bound again). -/

def k1_pay6 (x0 : Vec F S2x128x1024 .f32) (x1 : Vec F S2x128x1024 .f32) (x2 : Vec F S2x2048x64 .f32) (x3 : Vec F S2x2048x64 .f32) : FVec F S1x1024 .f32 :=
  k1_pay1 (F := F) -- `v0`

/-- Window 4's staging buffer after the body, from the input windows' blocks: its 2 stores as pieces, LAST
    FIRST (Lib/Pipeline/FrameBody.lean `View.canon`; the payloads are the skeleton's and the values stated above). -/
def out1_4 (x0 : Vec F S2x128x1024 .f32) (x1 : Vec F S2x128x1024 .f32) (x2 : Vec F S2x2048x64 .f32) (x3 : Vec F S2x2048x64 .f32) : Vec F S2x128x64 .f32 :=
  View.canon [⟨r1_7, k1_pay4 (k1_pay6 x0 x1 x2 x3) (View.ld x0 r1_4) (View.ld x2 r1_5) (View.ld x2 r1_6)⟩,
    ⟨r1_3, k1_pay2 (View.ld x0 r1_0) (View.ld x2 r1_1) (View.ld x2 r1_2)⟩]

/-- Its stores tile the buffer (checked by evaluation), so they cover it. -/
theorem cover1_4 (p0 : Vec F S1x128x64 .f32) (p1 : Vec F S1x128x64 .f32) (y : S2x128x64.Idx) :
    ∃ pc ∈ ([⟨r1_7, p0⟩, ⟨r1_3, p1⟩] : List (View.Piece (Elt F) S2x128x64 .f32)), y ∈ pc.1.set :=
  View.cover_of_tiled [⟨r1_7, p0⟩, ⟨r1_3, p1⟩] S1x128x64.size (by rfl) y

/-- Window 5's staging buffer after the body, from the input windows' blocks: its 2 stores as pieces, LAST
    FIRST (Lib/Pipeline/FrameBody.lean `View.canon`; the payloads are the skeleton's and the values stated above). -/
def out1_5 (x0 : Vec F S2x128x1024 .f32) (x1 : Vec F S2x128x1024 .f32) (x2 : Vec F S2x2048x64 .f32) (x3 : Vec F S2x2048x64 .f32) : Vec F S2x128x64 .f32 :=
  View.canon [⟨r1_7, k1_pay5 (k1_pay6 x0 x1 x2 x3) (View.ld x1 r1_4) (View.ld x3 r1_5) (View.ld x3 r1_6)⟩,
    ⟨r1_3, k1_pay3 (View.ld x1 r1_0) (View.ld x3 r1_1) (View.ld x3 r1_2)⟩]

/-- Its stores tile the buffer (checked by evaluation), so they cover it. -/
theorem cover1_5 (p0 : Vec F S1x128x64 .f32) (p1 : Vec F S1x128x64 .f32) (y : S2x128x64.Idx) :
    ∃ pc ∈ ([⟨r1_7, p0⟩, ⟨r1_3, p1⟩] : List (View.Piece (Elt F) S2x128x64 .f32)), y ∈ pc.1.set :=
  View.cover_of_tiled [⟨r1_7, p0⟩, ⟨r1_3, p1⟩] S1x128x64.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (i : grid1.Coords) (arg1 : Memref sig .tc .vmem S2x128x1024 .f32) (harg1 : arg1.IsWhole) (arg2 : Memref sig .tc .vmem S2x128x1024 .f32) (harg2 : arg2.IsWhole) (arg3 : Memref sig .tc .vmem S2x2048x64 .f32) (harg3 : arg3.IsWhole) (arg4 : Memref sig .tc .vmem S2x2048x64 .f32) (harg4 : arg4.IsWhole) (arg5 : Memref sig .tc .vmem S2x128x64 .f32) (harg5 : arg5.IsWhole) (arg6 : Memref sig .tc .vmem S2x128x64 .f32) (harg6 : arg6.IsWhole)
    (x0 : Vec F S2x128x1024 .f32) (x1 : Vec F S2x128x1024 .f32) (x2 : Vec F S2x2048x64 .f32) (x3 : Vec F S2x2048x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out1_4 x0 x1 x2 x3) ∗ owns (c : Thread nD τ) arg6 fullShare (out1_5 x0 x1 x2 x3)) -∗ K ⟨⟩))
      ⊢ wp frame (wpE (defs₀ (F := F)) Variants.none c none) E (cc1__compress_kernel i arg1 harg1 arg2 harg2 arg3 harg3 arg4 harg4 arg5 harg5 arg6 harg6) K := by
  simp only [cc1__compress_kernel_eq_skeleton]; unfold cc1__compress_kernel_skel
  simp only [k1_part2_eq_skeleton, k1_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_4 _ _)).trans ?_
    rfl
  iexists _; isplitr
  swap; · iexact H5
  ipureintro
  refine (View.read_writes_eq_canon _ _ _ (cover1_5 _ _)).trans ?_
  rfl

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Run

end
-- ==== Proof.IdealRegion2.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__attn_kernel` (pipeline 2), at the entry contents `V` -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## What the body leaves in the output window's buffer -/

/-- The two carried vectors (a running sum of weights, a running weighted sum of values) after `n` trips of the
    first half's loop over 512 keys at a time, from `s`. -/
def carry1 (i : grid2.Coords) (w : FVec F S1536x96 .f32) (x1 : Vec F S2048x192 .f32) (x2 : Vec F S2048x128 .f32)
    (s : FVec F S1536x1 .f32 × FVec F S1536x64 .f32) : ℕ → FVec F S1536x1 .f32 × FVec F S1536x64 .f32
  | 0 => s
  | n + 1 => if h : n < (k2_t1_loop i).trips then
      (k2_pay21 w (carry1 i w x1 x2 s n).1 (View.ld x1 (Rect.unit (s := S2048x192) (k2_off1 i ⟨n, h⟩) S512x96.size (k2_off1_inb i ⟨n, h⟩))),
       k2_pay22 w (carry1 i w x1 x2 s n).2 (View.ld x1 (Rect.unit (s := S2048x192) (k2_off1 i ⟨n, h⟩) S512x96.size (k2_off1_inb i ⟨n, h⟩)))
        (View.ld x2 (Rect.unit (s := S2048x128) (k2_off2 i ⟨n, h⟩) S512x64.size (k2_off2_inb i ⟨n, h⟩))))
    else carry1 i w x1 x2 s n

/-- The same for the loop's remainder (it has no trip). -/
def carry2 (i : grid2.Coords) (w : FVec F S1536x96 .f32) (x1 : Vec F S2048x192 .f32) (x2 : Vec F S2048x128 .f32)
    (s : FVec F S1536x1 .f32 × FVec F S1536x64 .f32) : ℕ → FVec F S1536x1 .f32 × FVec F S1536x64 .f32
  | 0 => s
  | n + 1 => if h : n < (k2_t2_loop i).trips then
      (k2_pay24 w (carry2 i w x1 x2 s n).1 (View.ld x1 (Rect.unit (s := S2048x192) (k2_off3 i ⟨n, h⟩) S512x96.size (k2_off3_inb i ⟨n, h⟩))),
       k2_pay25 w (carry2 i w x1 x2 s n).2 (View.ld x1 (Rect.unit (s := S2048x192) (k2_off3 i ⟨n, h⟩) S512x96.size (k2_off3_inb i ⟨n, h⟩)))
        (View.ld x2 (Rect.unit (s := S2048x128) (k2_off4 i ⟨n, h⟩) S512x64.size (k2_off4_inb i ⟨n, h⟩))))
    else carry2 i w x1 x2 s n

/-- `carry1` for the second half. -/
def carry3 (i : grid2.Coords) (w : FVec F S1536x96 .f32) (x1 : Vec F S2048x192 .f32) (x2 : Vec F S2048x128 .f32)
    (s : FVec F S1536x1 .f32 × FVec F S1536x64 .f32) : ℕ → FVec F S1536x1 .f32 × FVec F S1536x64 .f32
  | 0 => s
  | n + 1 => if h : n < (k2_t3_loop i).trips then
      (k2_pay41 w (carry3 i w x1 x2 s n).1 (View.ld x1 (Rect.unit (s := S2048x192) (k2_off11 i ⟨n, h⟩) S512x96.size (k2_off11_inb i ⟨n, h⟩))),
       k2_pay42 w (carry3 i w x1 x2 s n).2 (View.ld x1 (Rect.unit (s := S2048x192) (k2_off11 i ⟨n, h⟩) S512x96.size (k2_off11_inb i ⟨n, h⟩)))
        (View.ld x2 (Rect.unit (s := S2048x128) (k2_off12 i ⟨n, h⟩) S512x64.size (k2_off12_inb i ⟨n, h⟩))))
    else carry3 i w x1 x2 s n

/-- `carry2` for the second half. -/
def carry4 (i : grid2.Coords) (w : FVec F S1536x96 .f32) (x1 : Vec F S2048x192 .f32) (x2 : Vec F S2048x128 .f32)
    (s : FVec F S1536x1 .f32 × FVec F S1536x64 .f32) : ℕ → FVec F S1536x1 .f32 × FVec F S1536x64 .f32
  | 0 => s
  | n + 1 => if h : n < (k2_t4_loop i).trips then
      (k2_pay44 w (carry4 i w x1 x2 s n).1 (View.ld x1 (Rect.unit (s := S2048x192) (k2_off13 i ⟨n, h⟩) S512x96.size (k2_off13_inb i ⟨n, h⟩))),
       k2_pay45 w (carry4 i w x1 x2 s n).2 (View.ld x1 (Rect.unit (s := S2048x192) (k2_off13 i ⟨n, h⟩) S512x96.size (k2_off13_inb i ⟨n, h⟩)))
        (View.ld x2 (Rect.unit (s := S2048x128) (k2_off14 i ⟨n, h⟩) S512x64.size (k2_off14_inb i ⟨n, h⟩))))
    else carry4 i w x1 x2 s n

/-- The grid coordinate as the kernel's word. -/
abbrev gw (i : grid2.Coords) : BitVec 32 := BitVec.ofNat 32 (i 0).val
/-- The first key of the window band, as the kernel's word. -/
abbrev w92 (i : grid2.Coords) : BitVec 32 := Scalar.muli (Scalar.maxsi (Scalar.subi (gw i) 2#32) 0#32) 256#32

/-- The query heads of the first half, and of the second. -/
abbrev q_0 (x0 : Vec F S12x256x64 .f32) : Vec F S6x256x64 .f32 := View.ld x0 (Rect.unit (s := S12x256x64) ![0, 0, 0] S6x256x64.size inb_S12x256x64_S6x256x64_0_0_0)
abbrev q_1 (x0 : Vec F S12x256x64 .f32) : Vec F S6x256x64 .f32 := View.ld x0 (Rect.unit (s := S12x256x64) ![6, 0, 0] S6x256x64.size inb_S12x256x64_S6x256x64_6_0_0)
/-- A half's compressed keys or values. -/
abbrev c_0 (x : Vec F S2x128x64 .f32) : Vec F S1x128x64 .f32 := View.ld x (Rect.unit (s := S2x128x64) ![0, 0, 0] S1x128x64.size inb_S2x128x64_S1x128x64_0_0_0)
abbrev c_1 (x : Vec F S2x128x64 .f32) : Vec F S1x128x64 .f32 := View.ld x (Rect.unit (s := S2x128x64) ![1, 0, 0] S1x128x64.size inb_S2x128x64_S1x128x64_1_0_0)
/-- The gates' block. -/
abbrev g_0 (x : Vec F S256x8 .f32) : Vec F S256x8 .f32 := View.ld x (Rect.unit (s := S256x8) ![0, 0] S256x8.size inb_S256x8_S256x8_0_0)

/-- The queries with the block selection's mask beside them, first half. -/
def qc_0 (i : grid2.Coords) (x0 : Vec F S12x256x64 .f32) (x3 : Vec F S2x128x64 .f32) : FVec F S1536x96 .f32 :=
  k2_pay17 k2_pay4 (k2_pay6 (k2_pay2 i) 64#32) (k2_pay7 (k2_pay2 i) 64#32) (k2_pay14 (q_0 x0)) (k2_pay15 (k2_pay3 i) (q_0 x0) (c_0 x3))
/-- and second half. -/
def qc_1 (i : grid2.Coords) (x0 : Vec F S12x256x64 .f32) (x3 : Vec F S2x128x64 .f32) : FVec F S1536x96 .f32 :=
  k2_pay37 k2_pay4 (k2_pay6 (k2_pay2 i) 64#32) (k2_pay7 (k2_pay2 i) 64#32) (k2_pay33 (q_1 x0)) (k2_pay34 (k2_pay3 i) (q_1 x0) (c_1 x3))

/-- The carried pair after the first half's loop and its conditional block. -/
def far_0 (i : grid2.Coords) (w : FVec F S1536x96 .f32) (x1 : Vec F S2048x192 .f32) (x2 : Vec F S2048x128 .f32) : FVec F S1536x1 .f32 × FVec F S1536x64 .f32 :=
  let s1 := carry1 i w x1 x2 (k2_pay18, k2_pay19) (k2_t1_loop i).trips
  let s := carry2 i w x1 x2 (s1.1, s1.2) (k2_t2_loop i).trips
  if h : k2_cond1 i = 1#1 then
    (k2_pay27 w s.1 (View.ld x1 (Rect.unit (s := S2048x192) (k2_off5 i) S256x96.size (k2_off5_inb i h))),
     k2_pay28 w s.2 (View.ld x1 (Rect.unit (s := S2048x192) (k2_off5 i) S256x96.size (k2_off5_inb i h)))
      (View.ld x2 (Rect.unit (s := S2048x128) (k2_off6 i) S256x64.size (k2_off6_inb i h))))
  else (s.1, s.2)

/-- The carried pair after the second half's loop and its conditional block. -/
def far_1 (i : grid2.Coords) (w : FVec F S1536x96 .f32) (x1 : Vec F S2048x192 .f32) (x2 : Vec F S2048x128 .f32) : FVec F S1536x1 .f32 × FVec F S1536x64 .f32 :=
  let s1 := carry3 i w x1 x2 (k2_pay38, k2_pay39) (k2_t3_loop i).trips
  let s := carry4 i w x1 x2 (s1.1, s1.2) (k2_t4_loop i).trips
  if h : k2_cond2 i = 1#1 then
    (k2_pay47 w s.1 (View.ld x1 (Rect.unit (s := S2048x192) (k2_off15 i) S256x96.size (k2_off15_inb i h))),
     k2_pay48 w s.2 (View.ld x1 (Rect.unit (s := S2048x192) (k2_off15 i) S256x96.size (k2_off15_inb i h)))
      (View.ld x2 (Rect.unit (s := S2048x128) (k2_off16 i) S256x64.size (k2_off16_inb i h))))
  else (s.1, s.2)

/-- The first half's six heads: compressed, selected and window attention under their gates. -/
def half_0 (i : grid2.Coords) (x0 : Vec F S12x256x64 .f32) (x1 : Vec F S2048x192 .f32) (x2 : Vec F S2048x128 .f32) (x3 : Vec F S2x128x64 .f32) (x4 : Vec F S2x128x64 .f32) (x5 : Vec F S256x8 .f32) : FVec F S1536x64 .f32 :=
  let kd := View.ld x1 (Rect.unit (s := S2048x192) (k2_off7 i) S256x96.size (k2_off7_inb i))
  let vd := View.ld x2 (Rect.unit (s := S2048x128) (k2_off8 i) S256x64.size (k2_off8_inb i))
  let kw := View.ld x1 (Rect.unit (s := S2048x192) (k2_off9 i) S768x64.size (k2_off9_inb i))
  let vw := View.ld x2 (Rect.unit (s := S2048x128) (k2_off10 i) S768x64.size (k2_off10_inb i))
  k2_pay32 (k2_pay9 (Scalar.muli (gw i) 256#32) (w92 i)) (k2_pay11 (g_0 x5)) (k2_pay12 (g_0 x5)) (k2_pay13 (g_0 x5)) (k2_pay14 (q_0 x0))
    (k2_pay16 (k2_pay3 i) (q_0 x0) (c_0 x3) (c_0 x4)) (far_0 i (qc_0 i x0 x3) x1 x2).2
    (k2_pay30 k2_pay8 (qc_0 i x0 x3) (far_0 i (qc_0 i x0 x3) x1 x2).1 kd) (k2_pay31 k2_pay8 (qc_0 i x0 x3) kd vd) kw vw

/-- The second half's six heads. -/
def half_1 (i : grid2.Coords) (x0 : Vec F S12x256x64 .f32) (x1 : Vec F S2048x192 .f32) (x2 : Vec F S2048x128 .f32) (x3 : Vec F S2x128x64 .f32) (x4 : Vec F S2x128x64 .f32) (x5 : Vec F S256x8 .f32) : FVec F S1536x64 .f32 :=
  let kd := View.ld x1 (Rect.unit (s := S2048x192) (k2_off17 i) S256x96.size (k2_off17_inb i))
  let vd := View.ld x2 (Rect.unit (s := S2048x128) (k2_off18 i) S256x64.size (k2_off18_inb i))
  let kw := View.ld x1 (Rect.unit (s := S2048x192) (k2_off19 i) S768x64.size (k2_off19_inb i))
  let vw := View.ld x2 (Rect.unit (s := S2048x128) (k2_off20 i) S768x64.size (k2_off20_inb i))
  k2_pay52 (k2_pay9 (Scalar.muli (gw i) 256#32) (w92 i)) (k2_pay11 (g_0 x5)) (k2_pay12 (g_0 x5)) (k2_pay13 (g_0 x5)) (k2_pay33 (q_1 x0))
    (k2_pay36 (k2_pay34 (k2_pay3 i) (q_1 x0) (c_1 x3)) (k2_pay35 (c_1 x4))) (far_1 i (qc_1 i x0 x3) x1 x2).2
    (k2_pay49 vd) (k2_pay50 k2_pay8 (qc_1 i x0 x3) kd) (k2_pay51 k2_pay8 (qc_1 i x0 x3) (far_1 i (qc_1 i x0 x3) x1 x2).1 kd) kw vw

/-- The output projection of the twelve heads' rows. -/
def proj_out (h0 : FVec F S1536x64 .f32) (h1 : FVec F S1536x64 .f32) (x6 : Vec F S768x768 .f32) : FVec F S256x768 .f32 :=
  k2_pay1
    (k2_pay56 h0 h1
      (k2_pay53 h0 (View.ld x6 (Rect.unit (s := S768x768) ![0, 0] S64x768.size inb_S768x768_S64x768_0_0))
        (View.ld x6 (Rect.unit (s := S768x768) ![64, 0] S64x768.size inb_S768x768_S64x768_64_0))
        (View.ld x6 (Rect.unit (s := S768x768) ![128, 0] S64x768.size inb_S768x768_S64x768_128_0)))
      (k2_pay54 h0) (k2_pay55 (View.ld x6 (Rect.unit (s := S768x768) ![192, 0] S64x768.size inb_S768x768_S64x768_192_0)))
      (View.ld x6 (Rect.unit (s := S768x768) ![256, 0] S64x768.size inb_S768x768_S64x768_256_0))
      (View.ld x6 (Rect.unit (s := S768x768) ![320, 0] S64x768.size inb_S768x768_S64x768_320_0))
      (View.ld x6 (Rect.unit (s := S768x768) ![384, 0] S64x768.size inb_S768x768_S64x768_384_0))
      (View.ld x6 (Rect.unit (s := S768x768) ![448, 0] S64x768.size inb_S768x768_S64x768_448_0))
      (View.ld x6 (Rect.unit (s := S768x768) ![512, 0] S64x768.size inb_S768x768_S64x768_512_0))
      (View.ld x6 (Rect.unit (s := S768x768) ![576, 0] S64x768.size inb_S768x768_S64x768_576_0))
      (View.ld x6 (Rect.unit (s := S768x768) ![640, 0] S64x768.size inb_S768x768_S64x768_640_0)))
    (k2_pay57 h1) (View.ld x6 (Rect.unit (s := S768x768) ![704, 0] S64x768.size inb_S768x768_S64x768_704_0))

abbrev r2_6 : Rect S256x768 := Rect.unit (s := S256x768) ![0, 0] S256x768.size inb_S256x768_S256x768_0_0

/-- The output window's staging buffer after the body, from the input windows' blocks: its one store. -/
def out2_7 (i : grid2.Coords) (x0 : Vec F S12x256x64 .f32) (x1 : Vec F S2048x192 .f32) (x2 : Vec F S2048x128 .f32) (x3 : Vec F S2x128x64 .f32) (x4 : Vec F S2x128x64 .f32) (x5 : Vec F S256x8 .f32) (x6 : Vec F S768x768 .f32) : Vec F S256x768 .f32 :=
  View.canon [⟨r2_6, proj_out (half_0 i x0 x1 x2 x3 x4 x5) (half_1 i x0 x1 x2 x3 x4 x5) x6⟩]

/-- The store covers the buffer. -/
theorem cover2_7 (p0 : Vec F S256x768 .f32) (y : S256x768.Idx) :
    ∃ pc ∈ ([⟨r2_6, p0⟩] : List (View.Piece (Elt F) S256x768 .f32)), y ∈ pc.1.set :=
  View.cover_of_tiled [⟨r2_6, p0⟩] S256x768.size (by rfl) y

/-! ## The loops -/

/-- The state the run carries through loop 1 is `carry1`. -/
theorem st1_eq (c : Dev nD) (i : grid2.Coords) (arg1 : Memref sig .tc .vmem S12x256x64 .f32) (harg1 : arg1.IsWhole) (arg2 : Memref sig .tc .vmem S2048x192 .f32) (harg2 : arg2.IsWhole) (arg3 : Memref sig .tc .vmem S2048x128 .f32) (harg3 : arg3.IsWhole) (arg4 : Memref sig .tc .vmem S2x128x64 .f32) (harg4 : arg4.IsWhole) (arg5 : Memref sig .tc .vmem S2x128x64 .f32) (harg5 : arg5.IsWhole) (arg6 : Memref sig .tc .vmem S256x8 .f32) (harg6 : arg6.IsWhole) (arg7 : Memref sig .tc .vmem S768x768 .f32) (harg7 : arg7.IsWhole) (arg8 : Memref sig .tc .vmem S256x768 .f32) (harg8 : arg8.IsWhole) (arg0 : BitVec 32) (v89 : FVec F S1536x256 .f32) (w : FVec F S1536x96 .f32) (l : FVec F S1536x1 .f32) (a : FVec F S1536x64 .f32) (v164 : BitVec 32) (v175 : BitVec 1) (v176 : BitVec 32) (c0_i32_49 : BitVec 32)
    (X2 : BufTy.Contents (Elt F) arg2.view.ty) (X3 : BufTy.Contents (Elt F) arg3.view.ty) (s : FVec F S1536x1 .f32 × FVec F S1536x64 .f32) (n : ℕ) :
    st_k2_t1 (F := F) Variants.none c none i arg1 harg1 arg2 harg2 arg3 harg3 arg4 harg4 arg5 harg5 arg6 harg6 arg7 harg7 arg8 harg8 arg0 v89 w l a v164 v175 v176 c0_i32_49 X2 X3 s n
      = carry1 i w (arg2.view.read (Elt F) X2) (arg3.view.read (Elt F) X3) s n := by
  induction n with
  | zero => rfl
  | succ n ih =>
    rw [st_k2_t1.eq_2, carry1.eq_2]
    unfold st_k2_t1Step
    split
    · rw [ih]; unfold tripR_k2_t1; unfold trip_k2_t1; rfl
    · exact ih

/-- The state the run carries through loop 2 is `carry2`. -/
theorem st2_eq (c : Dev nD) (i : grid2.Coords) (arg1 : Memref sig .tc .vmem S12x256x64 .f32) (harg1 : arg1.IsWhole) (arg2 : Memref sig .tc .vmem S2048x192 .f32) (harg2 : arg2.IsWhole) (arg3 : Memref sig .tc .vmem S2048x128 .f32) (harg3 : arg3.IsWhole) (arg4 : Memref sig .tc .vmem S2x128x64 .f32) (harg4 : arg4.IsWhole) (arg5 : Memref sig .tc .vmem S2x128x64 .f32) (harg5 : arg5.IsWhole) (arg6 : Memref sig .tc .vmem S256x8 .f32) (harg6 : arg6.IsWhole) (arg7 : Memref sig .tc .vmem S768x768 .f32) (harg7 : arg7.IsWhole) (arg8 : Memref sig .tc .vmem S256x768 .f32) (harg8 : arg8.IsWhole) (arg0 : BitVec 32) (v89 : FVec F S1536x256 .f32) (w : FVec F S1536x96 .f32) (l : FVec F S1536x1 .f32) (a : FVec F S1536x64 .f32) (v164 : BitVec 32) (v175 : BitVec 1) (v176 : BitVec 32) (c0_i32_49 : BitVec 32)
    (X2 : BufTy.Contents (Elt F) arg2.view.ty) (X3 : BufTy.Contents (Elt F) arg3.view.ty) (s : FVec F S1536x1 .f32 × FVec F S1536x64 .f32) (n : ℕ) :
    st_k2_t2 (F := F) Variants.none c none i arg1 harg1 arg2 harg2 arg3 harg3 arg4 harg4 arg5 harg5 arg6 harg6 arg7 harg7 arg8 harg8 arg0 v89 w l a v164 v175 v176 c0_i32_49 X2 X3 s n
      = carry2 i w (arg2.view.read (Elt F) X2) (arg3.view.read (Elt F) X3) s n := by
  induction n with
  | zero => rfl
  | succ n ih =>
    rw [st_k2_t2.eq_2, carry2.eq_2]
    unfold st_k2_t2Step
    split
    · rw [ih]; unfold tripR_k2_t2; unfold trip_k2_t2; rfl
    · exact ih

/-- The state the run carries through loop 3 is `carry3`. -/
theorem st3_eq (c : Dev nD) (i : grid2.Coords) (arg1 : Memref sig .tc .vmem S12x256x64 .f32) (harg1 : arg1.IsWhole) (arg2 : Memref sig .tc .vmem S2048x192 .f32) (harg2 : arg2.IsWhole) (arg3 : Memref sig .tc .vmem S2048x128 .f32) (harg3 : arg3.IsWhole) (arg4 : Memref sig .tc .vmem S2x128x64 .f32) (harg4 : arg4.IsWhole) (arg5 : Memref sig .tc .vmem S2x128x64 .f32) (harg5 : arg5.IsWhole) (arg6 : Memref sig .tc .vmem S256x8 .f32) (harg6 : arg6.IsWhole) (arg7 : Memref sig .tc .vmem S768x768 .f32) (harg7 : arg7.IsWhole) (arg8 : Memref sig .tc .vmem S256x768 .f32) (harg8 : arg8.IsWhole) (arg0 : BitVec 32) (v89 : FVec F S1536x256 .f32) (w : FVec F S1536x96 .f32) (l : FVec F S1536x1 .f32) (a : FVec F S1536x64 .f32) (c2_i32_98 : BitVec 32) (v290 : BitVec 32) (v301 : BitVec 1)
    (X2 : BufTy.Contents (Elt F) arg2.view.ty) (X3 : BufTy.Contents (Elt F) arg3.view.ty) (s : FVec F S1536x1 .f32 × FVec F S1536x64 .f32) (n : ℕ) :
    st_k2_t3 (F := F) Variants.none c none i arg1 harg1 arg2 harg2 arg3 harg3 arg4 harg4 arg5 harg5 arg6 harg6 arg7 harg7 arg8 harg8 arg0 v89 w l a c2_i32_98 v290 v301 X2 X3 s n
      = carry3 i w (arg2.view.read (Elt F) X2) (arg3.view.read (Elt F) X3) s n := by
  induction n with
  | zero => rfl
  | succ n ih =>
    rw [st_k2_t3.eq_2, carry3.eq_2]
    unfold st_k2_t3Step
    split
    · rw [ih]; unfold tripR_k2_t3; unfold trip_k2_t3; rfl
    · exact ih

/-- The state the run carries through loop 4 is `carry4`. -/
theorem st4_eq (c : Dev nD) (i : grid2.Coords) (arg1 : Memref sig .tc .vmem S12x256x64 .f32) (harg1 : arg1.IsWhole) (arg2 : Memref sig .tc .vmem S2048x192 .f32) (harg2 : arg2.IsWhole) (arg3 : Memref sig .tc .vmem S2048x128 .f32) (harg3 : arg3.IsWhole) (arg4 : Memref sig .tc .vmem S2x128x64 .f32) (harg4 : arg4.IsWhole) (arg5 : Memref sig .tc .vmem S2x128x64 .f32) (harg5 : arg5.IsWhole) (arg6 : Memref sig .tc .vmem S256x8 .f32) (harg6 : arg6.IsWhole) (arg7 : Memref sig .tc .vmem S768x768 .f32) (harg7 : arg7.IsWhole) (arg8 : Memref sig .tc .vmem S256x768 .f32) (harg8 : arg8.IsWhole) (arg0 : BitVec 32) (v89 : FVec F S1536x256 .f32) (w : FVec F S1536x96 .f32) (l : FVec F S1536x1 .f32) (a : FVec F S1536x64 .f32) (c2_i32_98 : BitVec 32) (v290 : BitVec 32) (v301 : BitVec 1)
    (X2 : BufTy.Contents (Elt F) arg2.view.ty) (X3 : BufTy.Contents (Elt F) arg3.view.ty) (s : FVec F S1536x1 .f32 × FVec F S1536x64 .f32) (n : ℕ) :
    st_k2_t4 (F := F) Variants.none c none i arg1 harg1 arg2 harg2 arg3 harg3 arg4 harg4 arg5 harg5 arg6 harg6 arg7 harg7 arg8 harg8 arg0 v89 w l a c2_i32_98 v290 v301 X2 X3 s n
      = carry4 i w (arg2.view.read (Elt F) X2) (arg3.view.read (Elt F) X3) s n := by
  induction n with
  | zero => rfl
  | succ n ih =>
    rw [st_k2_t4.eq_2, carry4.eq_2]
    unfold st_k2_t4Step
    split
    · rw [ih]; unfold tripR_k2_t4; unfold trip_k2_t4; rfl
    · exact ih

/-! ## The body's triple -/

set_option maxHeartbeats 1000000 in
/-- The kernel body on whole staging memrefs, the inputs' at read contents `xW` and the outputs' at anything, runs to
    the continuation holding the inputs' as they were and each output's at `out2_W` of the inputs': the printed functions
    are their skeletons (`Gen.*_eq_skeleton`), which `sl_exec` runs (Lib/Exec.lean), through every part call. -/
theorem sound_kernel2 (c : Dev nD) (E : Set ℕ) (i : grid2.Coords) (arg1 : Memref sig .tc .vmem S12x256x64 .f32) (harg1 : arg1.IsWhole) (arg2 : Memref sig .tc .vmem S2048x192 .f32) (harg2 : arg2.IsWhole) (arg3 : Memref sig .tc .vmem S2048x128 .f32) (harg3 : arg3.IsWhole) (arg4 : Memref sig .tc .vmem S2x128x64 .f32) (harg4 : arg4.IsWhole) (arg5 : Memref sig .tc .vmem S2x128x64 .f32) (harg5 : arg5.IsWhole) (arg6 : Memref sig .tc .vmem S256x8 .f32) (harg6 : arg6.IsWhole) (arg7 : Memref sig .tc .vmem S768x768 .f32) (harg7 : arg7.IsWhole) (arg8 : Memref sig .tc .vmem S256x768 .f32) (harg8 : arg8.IsWhole)
    (x0 : Vec F S12x256x64 .f32) (x1 : Vec F S2048x192 .f32) (x2 : Vec F S2048x128 .f32) (x3 : Vec F S2x128x64 .f32) (x4 : Vec F S2x128x64 .f32) (x5 : Vec F S256x8 .f32) (x6 : Vec F S768x768 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 i x0 x1 x2 x3 x4 x5 x6)) -∗ K ⟨⟩))
      ⊢ wp frame (wpE (defs₀ (F := F)) Variants.none c none) E (cc2__attn_kernel i arg1 harg1 arg2 harg2 arg3 harg3 arg4 harg4 arg5 harg5 arg6 harg6 arg7 harg7 arg8 harg8) K := by
  simp only [cc2__attn_kernel_eq_skeleton]; unfold cc2__attn_kernel_skel
  simp only [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  by_cases hc1 : k2_cond1 i = 1#1
  · have hc2 : k2_cond2 i = 1#1 := hc1
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    refine (View.read_writes_eq_canon _ _ _ (cover2_7 _)).trans ?_
    unfold out2_7 half_0 half_1 far_0 far_1
    simp only [dif_pos hc1, dif_pos hc2]
    try delta sound_kernel2.sl.r_28
    try delta sound_kernel2.sl.r_27
    try delta sound_kernel2.sl.r_26
    try delta sound_kernel2.sl.r_25
    try delta sound_kernel2.sl.r_24
    try delta sound_kernel2.sl.r_23
    try delta sound_kernel2.sl.r_22
    try delta sound_kernel2.sl.r_21
    try delta sound_kernel2.sl.r_20
    try delta sound_kernel2.sl.r_19
    try delta sound_kernel2.sl.r_18
    try delta sound_kernel2.sl.r_17
    try delta sound_kernel2.sl.r_16
    try delta sound_kernel2.sl.r_15
    try delta sound_kernel2.sl.r_14
    try delta sound_kernel2.sl.r_13
    try delta sound_kernel2.sl.r_12
    try delta sound_kernel2.sl.r_11
    try delta sound_kernel2.sl.r_10
    try delta sound_kernel2.sl.r_9
    try delta sound_kernel2.sl.r_8
    try delta sound_kernel2.sl.r_7
    try delta sound_kernel2.sl.r_6
    try delta sound_kernel2.sl.r_5
    try delta sound_kernel2.sl.r_4
    try delta sound_kernel2.sl.r_3
    try delta sound_kernel2.sl.r_2
    try delta sound_kernel2.sl.r_1
    try delta sound_kernel2.sl.r
    rw [st1_eq]
    rw [st2_eq, st3_eq, st4_eq]
    rfl
  · have hc2 : ¬ k2_cond2 i = 1#1 := hc1
    sl_exec
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    iexists _; isplitr
    swap; · iexact H7
    ipureintro
    refine (View.read_writes_eq_canon _ _ _ (cover2_7 _)).trans ?_
    unfold out2_7 half_0 half_1 far_0 far_1
    simp only [dif_neg hc1, dif_neg hc2]
    try delta sound_kernel2.sl.r_58
    try delta sound_kernel2.sl.r_57
    try delta sound_kernel2.sl.r_56
    try delta sound_kernel2.sl.r_55
    try delta sound_kernel2.sl.r_54
    try delta sound_kernel2.sl.r_53
    try delta sound_kernel2.sl.r_52
    try delta sound_kernel2.sl.r_51
    try delta sound_kernel2.sl.r_50
    try delta sound_kernel2.sl.r_49
    try delta sound_kernel2.sl.r_48
    try delta sound_kernel2.sl.r_47
    try delta sound_kernel2.sl.r_46
    try delta sound_kernel2.sl.r_45
    try delta sound_kernel2.sl.r_44
    try delta sound_kernel2.sl.r_43
    try delta sound_kernel2.sl.r_42
    try delta sound_kernel2.sl.r_41
    try delta sound_kernel2.sl.r_40
    try delta sound_kernel2.sl.r_39
    try delta sound_kernel2.sl.r_38
    try delta sound_kernel2.sl.r_37
    try delta sound_kernel2.sl.r_36
    try delta sound_kernel2.sl.r_35
    try delta sound_kernel2.sl.r_34
    try delta sound_kernel2.sl.r_33
    try delta sound_kernel2.sl.r_32
    try delta sound_kernel2.sl.r_31
    try delta sound_kernel2.sl.r_30
    try delta sound_kernel2.sl.r_29
    rw [st1_eq]
    rw [st2_eq, st3_eq, st4_eq]
    rfl

/-! ## The pipeline's proof data -/

/-- The proof data of pipeline 2 on core `c`: the arrays as the region finds them (`V`); after the body at
    point `t` each input's buffer at its block and each output's at `out2_W` of the input blocks; the invariant the
    class's (Lib/Pipeline/Frame.lean `ΦA`: the scoped rest and the generator register, untouched); nothing owed;
    full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (grid2.coords t) (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`, never `rfl`: Lib/Pipeline.lean `Dat`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (grid2.coords t) (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' memrefs hold their blocks (`before2_W`), so `sound_kernel2` applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Run

end
-- ==== Proof.IdealRun.lean ====
module

public import proofs.«01_k».proof.Proof.IdealRegion0
public import proofs.«01_k».proof.Proof.IdealRegion1
public import proofs.«01_k».proof.Proof.IdealRegion2
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0, main_v1, main_v2, main_v3, main_cst, main_v4, main_c, main_v5, main_v6, main_v7, main_v8, main_v9, main_v10, main_cst_0, main_v11, main_v12, main_cst_1, main_v13, main_v14, main_cst_2, main_v15, main_v16, main_v17, main_v18, main_v19, main_v20, main_v21, main_v22, main_v23, main_cst_3, main_v24, main_v25]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_v27, main_v28, main_v29, main_v30, main_v31, main_v32, main_v33, main_v34, main_v35]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps3` allocates a buffer. -/
theorem hostOps3_fresh : (hostOps3 : List (HloOp τ sig (Elt F))).Forall fun op => op.fresh = ∅ := by
  simp only [List.Forall]; repeat' constructor
/-- The reference each operation of `hostOps3` writes, in order. -/
abbrev hostOps3_W : List (Ref sig .tc) := [main_v38]
theorem hostOps3_writes : (hostOps3 : List (HloOp τ sig (Elt F))).Forall fun op => op.writes ⊆ (hostOps3_W.map (Proc.devRef (τ := τ) .tc)).toFinset :=
  StableHlo.forall_writes_sub_of_map rfl
/-- `hostOps3` writes none of the argument arrays (checked: each argument against each reference it writes). -/
theorem hostOps3_args : ∀ a ∈ argRefs, a ∉ hostOps3_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`) (region 2's entry). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- At region 2's exit: its arrays at what the pipeline leaves (the inputs as entered, each output's write-backs
    folded: `Dat.arrAt … N`), every other buffer as entered (Lib/Pipeline/FrameSuffix.lean `withArrays`). -/
def W5 (c : Dev nD) : Valuation τ sig (Elt F) :=
  Pipeline.withArrays spec2 c (W4 m ρ c) fun w => (dat2 (V4 m ρ) c).arrAt w cfg2.N
theorem W5_arr (c : Dev nD) (w : Fin cfg2.W) :
    W5 m ρ c (Proc.devRef .tc (Pipeline.arrRef spec2 w)) = (dat2 (V4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- A reference that is none of region 2's OUTPUT arrays keeps its entry contents across it: an input window's
    array is never written back (`Dat.arrAt_in`, `A_eq2`); any other buffer is left as is. -/
theorem W5_of (c : Dev nD) (r : Ref sig .tc) (h : ∀ w : Fin cfg2.W, Pipeline.arrRef spec2 w = r → (cfg2.win w).isOut = false) :
    W5 m ρ c (Proc.devRef .tc r) = W4 m ρ c (Proc.devRef .tc r) := by
  by_cases hw : ∃ w : Fin cfg2.W, Pipeline.arrRef spec2 w = r
  · obtain ⟨w, rfl⟩ := hw
    exact (W5_arr m ρ c w).trans (((dat2 (V4 m ρ) c).arrAt_in w (h w rfl) _).trans (A_eq2 (V4 m ρ) c w))
  · exact W5_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn2 a ha)).trans (W4_args m ρ c a ha)
/-- The same read at the TensorCore's references (region 2's exit contents). -/
abbrev V5 : (c : Dev nD) → (b : Ref sig .tc) → Buf (Elt F) ((c : Thread nD τ).loc b) := fun c b => W5 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V4 m ρ) c).arrAt w cfg2.N = V5 m ρ c (Pipeline.arrRef spec2 w) :=
  (W5_arr m ρ c w).symm
theorem hrest2 (c : Dev nD) : ∀ b, b ∉ Finset.univ.image (Pipeline.arrRef spec2) → V5 m ρ c b = V4 m ρ c b :=
  fun b hb => W5_of_ne m ρ c b fun w e => hb (Finset.mem_image.mpr ⟨w, Finset.mem_univ _, e⟩)

/-- After `hostOps3`. -/
abbrev W6 : Dev nD → Valuation τ sig (Elt F) := fun c => StableHlo.after hostOps3 (W5 m ρ c)
/-- A reference `hostOps3` does not write keeps its contents across it. -/
theorem W6_of (c : Dev nD) (r : Ref sig .tc) (h : r ∉ hostOps3_W) : W6 m ρ c (Proc.devRef .tc r) = W5 m ρ c (Proc.devRef .tc r) :=
  StableHlo.after_of_writes_sub hostOps3 _ hostOps3_writes h
theorem W6_args (c : Dev nD) : ∀ a ∈ argRefs, W6 m ρ c (Proc.devRef .tc a) = m ((c : Thread nD τ).loc a) :=
  fun a ha => (W6_of m ρ c a (hostOps3_args a ha)).trans (W5_args m ρ c a ha)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W4`, left at `W5`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ L lv 2 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V4 m ρ c) (A_eq2 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V4 m ρ c) (V5 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .region (reg2 m ρ),
    .host (hseg hostOps3 hostOps3_sub hostOps3_fresh (W5 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN, at any `F`: at the compiled mesh, from any memory with zero counters, every weakly fair execution of @main on the
    TensorCores terminates, nothing faulting; every final state has the result array at what the fold through @main gives it
    (`W6`), the argument arrays as launched and every semaphore counter of the machine at zero: the kit's launch over the
    segments, the last thread state read against the final state (`pointsTo_read_all`); the kit shows every counter at zero
    except the TensorCores' unscoped ones, of which there are none. -/
theorem final : θ_run defs (onTc (τ := τ) (main (F := F))) ⟨m, fun _ => 0, ρ⟩ (fun r => (∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩), funext fun g => hz g (.inr (no_unscoped g.2))⟩)

/-- THE FRAME: `final` without the result. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => (h.1 c).2, h.2⟩) (final m ρ)

end Cert.KernelIdeal.Run

end
-- ==== Proof.KPos.lean ====
/-
  Where the attention kernel reads: the offsets of its loads, the number of trips of its loops, and the condition under
  which its `cond` takes one more block, at grid point `b`.
-/
module

public import proofs.«01_k».proof.Proof.IdealRegion2

@[expose] public section

noncomputable section

namespace Cert.KVal

open Cert.KernelIdeal Cert.KernelIdeal.Gen Cert.KernelIdeal.Run Idealize.ShloMosaic

theorem trips1 : ∀ i : grid2.Coords, (k2_t1_loop i).trips = (i 0).val / 2 := by decide +kernel
theorem trips2 : ∀ i : grid2.Coords, (k2_t2_loop i).trips = 0 := by decide +kernel
theorem trips3 : ∀ i : grid2.Coords, (k2_t3_loop i).trips = (i 0).val / 2 := by decide +kernel
theorem trips4 : ∀ i : grid2.Coords, (k2_t4_loop i).trips = 0 := by decide +kernel
theorem off1_eq : ∀ (i : grid2.Coords) (k : Fin (k2_t1_loop i).trips), k2_off1 i k = ![512 * k.val, 0] := by decide +kernel
theorem off2_eq : ∀ (i : grid2.Coords) (k : Fin (k2_t1_loop i).trips), k2_off2 i k = ![512 * k.val, 0] := by decide +kernel
theorem off11_eq : ∀ (i : grid2.Coords) (k : Fin (k2_t3_loop i).trips), k2_off11 i k = ![512 * k.val, 96] := by decide +kernel
theorem off12_eq : ∀ (i : grid2.Coords) (k : Fin (k2_t3_loop i).trips), k2_off12 i k = ![512 * k.val, 64] := by decide +kernel
theorem cond1_iff : ∀ i : grid2.Coords, k2_cond1 i = 1#1 ↔ (i 0).val % 2 = 1 := by decide +kernel
theorem cond2_iff : ∀ i : grid2.Coords, k2_cond2 i = 1#1 ↔ (i 0).val % 2 = 1 := by decide +kernel
theorem off5_eq : ∀ i : grid2.Coords, k2_cond1 i = 1#1 → k2_off5 i = ![256 * ((i 0).val - 1), 0] := by decide +kernel
theorem off6_eq : ∀ i : grid2.Coords, k2_cond1 i = 1#1 → k2_off6 i = ![256 * ((i 0).val - 1), 0] := by decide +kernel
theorem off15_eq : ∀ i : grid2.Coords, k2_cond2 i = 1#1 → k2_off15 i = ![256 * ((i 0).val - 1), 96] := by decide +kernel
theorem off16_eq : ∀ i : grid2.Coords, k2_cond2 i = 1#1 → k2_off16 i = ![256 * ((i 0).val - 1), 64] := by decide +kernel
theorem off7_eq : ∀ i : grid2.Coords, k2_off7 i = ![256 * (i 0).val, 0] := by decide +kernel
theorem off8_eq : ∀ i : grid2.Coords, k2_off8 i = ![256 * (i 0).val, 0] := by decide +kernel
theorem off17_eq : ∀ i : grid2.Coords, k2_off17 i = ![256 * (i 0).val, 96] := by decide +kernel
theorem off18_eq : ∀ i : grid2.Coords, k2_off18 i = ![256 * (i 0).val, 64] := by decide +kernel
theorem off9_eq : ∀ i : grid2.Coords, k2_off9 i = ![256 * ((i 0).val - 2), 0] := by decide +kernel
theorem off10_eq : ∀ i : grid2.Coords, k2_off10 i = ![256 * ((i 0).val - 2), 0] := by decide +kernel
theorem off19_eq : ∀ i : grid2.Coords, k2_off19 i = ![256 * ((i 0).val - 2), 96] := by decide +kernel
theorem off20_eq : ∀ i : grid2.Coords, k2_off20 i = ![256 * ((i 0).val - 2), 64] := by decide +kernel
theorem gw_eq : ∀ i : grid2.Coords, Scalar.muli (gw i) 256#32 = BitVec.ofNat 32 ((i 0).val * 256) := by decide +kernel
theorem w92_eq : ∀ i : grid2.Coords, w92 i = BitVec.ofNat 32 (256 * ((i 0).val - 2)) := by decide +kernel

end Cert.KVal

end
-- ==== Proof.Spec.lean ====
/-
  The attention as mathematics, scores over the reals and values over the extended reals: what both programs compute,
  stated once. Every array is a function of natural numbers, so that an index is never more than arithmetic.
-/
module

public import Idealize.ShloMosaic.PureOps.Ideal
public import Idealize.ShloMosaic.PureOps.Ideal.Laws
public import Idealize.ShloMosaic.Lib.IdealHost

@[expose] public section

noncomputable section

namespace Cert.Spec

open Idealize.ShloMosaic

/-- The inputs: the activations, the three projections' weights, the two compressions' weights, and the rotation's
    cosines and sines. What the scores depend on is real; the weights of the values are any extended reals. -/
structure Data where
  x : ℕ → ℕ → ℝ
  wq : ℕ → ℕ → ℝ
  wk : ℕ → ℕ → ℝ
  wv : ℕ → ℕ → EReal
  wck : ℕ → ℕ → ℕ → ℝ
  wcv : ℕ → ℕ → ℕ → EReal
  cs : ℕ → ℕ → ℝ
  sn : ℕ → ℕ → ℝ

namespace Data
variable (D : Data)

/-- Column `c` of row `s` of a linear projection. -/
def lin (w : ℕ → ℕ → ℝ) (s c : ℕ) : ℝ := ∑ i : Fin 768, D.x s i * w c i

/-- The rotary embedding of a head's 64 numbers at position `s`. -/
def rope (y : ℕ → ℝ) (s d : ℕ) : ℝ :=
  if d < 32 then y d * D.cs s d - y (d + 32) * D.sn s d
  else y d * D.cs s (d - 32) + y (d - 32) * D.sn s (d - 32)

/-- Queries, keys and values. -/
def q (h s d : ℕ) : ℝ := D.rope (fun e => D.lin D.wq s (h * 64 + e)) s d
def k (h s d : ℕ) : ℝ := D.rope (fun e => D.lin D.wk s (h * 64 + e)) s d
def vlin (s c : ℕ) : EReal := ∑ i : Fin 768, (D.x s i : EReal) * D.wv c i
def v (h s d : ℕ) : EReal := D.vlin s (h * 64 + d)

/-- Window `t` covers the 32 rows from row `16 t`; its compressed key and value. -/
def ck (h t d : ℕ) : ℝ := ∑ f : Fin 2048, D.k h (t * 16 + f / 64) (f % 64) * D.wck h f d
def cv (h t d : ℕ) : EReal := ∑ f : Fin 2048, D.v h (t * 16 + f / 64) (f % 64) * D.wcv h f d

/-- The compressed score of query head `h` and window `t`, and its weight: zero while the window is not complete. -/
def sc (h s t : ℕ) : ℝ := (∑ d : Fin 64, D.q h s d * D.ck (h / 6) t d) * (1 / 8)
def wt (h s t : ℕ) : ℝ := if t * 16 + 31 ≤ s then Real.exp (D.sc h s t) else 0
def tot (h s : ℕ) : ℝ := ∑ t : Fin 127, D.wt h s t
def pc (h s t : ℕ) : ℝ := D.wt h s t / D.tot h s
def cmp (h s d : ℕ) : EReal := ∑ t : Fin 127, (D.pc h s t : EReal) * D.cv (h / 6) t d

/-- The weight of block `n` (64 keys) for key head `h`, and the score the selection ranks it by. -/
def blk (h s n : ℕ) : ℝ := ∑ t : Fin 127, (∑ g : Fin 6, D.pc (h * 6 + g) s t) * (if (t : ℕ) / 4 = n then 1 else 0)
def cand (h s n : ℕ) : EReal :=
  if n ≤ s / 64 then (if n < 1 ∨ s / 64 ≤ n + 1 then ((1000000000 : ℝ) : EReal) else (D.blk h s n : EReal)) else ⊥

open Classical in
/-- How many blocks have a greater score. -/
def above (h s n : ℕ) : ℕ := (Finset.univ.filter fun m : Fin 32 => D.cand h s n < D.cand h s m).card

/-- Block `n` is selected: a causal block that fewer than sixteen exceed. -/
def sel (h s n : ℕ) : Prop := D.above h s n < 16 ∧ n ≤ s / 64

/-- The score of query head `h` at row `s` and key `j`. -/
def z (h s j : ℕ) : ℝ := (∑ d : Fin 64, D.q h s d * D.k (h / 6) j d) * (1 / 8)

open Classical in
/-- The softmax weight of key `j` among the keys of a set. -/
def prob (A : ℕ → Prop) (h s j : ℕ) : ℝ :=
  (if A j then Real.exp (D.z h s j) else 0) / ∑ k : Fin 2048, if A k.val then Real.exp (D.z h s k.val) else 0

/-- Softmax attention over the keys of a set. -/
def att (A : ℕ → Prop) (h s d : ℕ) : EReal := ∑ j : Fin 2048, (D.prob A h s j.val : EReal) * D.v (h / 6) j.val d

/-- The keys of the selected blocks, and those of the sliding window. -/
def spKey (h s j : ℕ) : Prop := D.sel h s (j / 64) ∧ j ≤ s
def swKey (s j : ℕ) : Prop := j ≤ s ∧ s - j ≤ 512

def osp (h s d : ℕ) : EReal := D.att (D.spKey (h / 6) s) h s d
def osw (h s d : ℕ) : EReal := D.att (swKey s) h s d

/-- The gated combination of the three attentions, and its projection. -/
def comb (g : ℕ → ℕ → EReal) (h s d : ℕ) : EReal :=
  g s 0 * D.cmp h s d + g s 1 * D.osp h s d + g s 2 * D.osw h s d
def out (g wo : ℕ → ℕ → EReal) (s c : ℕ) : EReal :=
  ∑ e : Fin 768, D.comb g (e / 64) s (e % 64) * wo c e

/-- Where a row has a complete window, its weights sum to at least this. -/
def Bounded (lo : ℝ) : Prop := ∀ h s, h < 12 → s < 2048 → 31 ≤ s → lo ≤ D.tot h s

end Data

/-! ### Extended reals -/

/-- The literal of the ideal reading is a real number. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul]
  congr 1

theorem exp_coe (a : ℝ) : Ideal.exp (a : EReal) = (Real.exp a : EReal) := rfl
theorem exp_bot : Ideal.exp ⊥ = 0 := rfl

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A weighted sum of extended reals over the weights' positive total is the sum with each weight over it. -/
theorem div_sum {ι : Type} (s : Finset ι) (w : ι → ℝ) (v : ι → EReal) (W : ℝ) (hW : 0 < W) :
    Ideal.div (∑ j ∈ s, (w j : EReal) * v j) (W : EReal) = ∑ j ∈ s, ((w j / W : ℝ) : EReal) * v j := by
  unfold Ideal.div
  rw [if_neg (by exact_mod_cast hW.ne'), ← EReal.coe_inv]
  have h0 : (0 : EReal) ≤ ((W⁻¹ : ℝ) : EReal) := by exact_mod_cast (inv_pos.mpr hW).le
  classical
  induction s using Finset.induction_on with
  | empty => rw [Finset.sum_empty, Finset.sum_empty, zero_mul]
  | insert a s ha ih =>
    rw [Finset.sum_insert ha, Finset.sum_insert ha, EReal.right_distrib_of_nonneg_of_ne_top h0 (EReal.coe_ne_top _), ih]
    refine congrArg (· + _) ?_
    rw [div_eq_mul_inv, EReal.coe_mul, mul_right_comm]

/-- A sum over 768 columns is one over twelve heads of 64. -/
theorem sum_heads (f : ℕ → EReal) : ∑ e : Fin 768, f e = ∑ h : Fin 12, ∑ d : Fin 64, f (h * 64 + d) := by
  rw [← Fintype.sum_prod_type', ← Equiv.sum_comp (finProdFinEquiv (m := 12) (n := 64))]
  refine Finset.sum_congr rfl fun p _ => ?_
  congr 1
  simp [finProdFinEquiv]; omega

end Cert.Spec

end
-- ==== Proof.Soft.lean ====
/-
  The softmax of a masked row of real scores on the extended reals: subtracting the row's maximum changes nothing, and a
  masked key weighs zero.
-/
module

public import proofs.«01_k».proof.Proof.Spec
public import Mathlib.Data.Finset.Fold

@[expose] public section

noncomputable section

namespace Cert.Spec

open Idealize.ShloMosaic

/-- The maximum of a row with a real entry and no infinite one is real. -/
theorem max_real {n : ℕ} (f : Fin n → EReal) (hlt : ∀ k, f k < ⊤) (k₀ : Fin n) (h₀ : f k₀ ≠ ⊥) :
    ∃ m : ℝ, Finset.univ.fold max ⊥ f = (m : EReal) := by
  have h1 : Finset.univ.fold max ⊥ f < ⊤ := (Finset.fold_max_lt _).mpr ⟨bot_lt_top, fun k _ => hlt k⟩
  have h2 : f k₀ ≤ Finset.univ.fold max ⊥ f := (Finset.le_fold_max _).mpr (Or.inr ⟨k₀, Finset.mem_univ _, le_rfl⟩)
  have h3 : Finset.univ.fold max ⊥ f ≠ ⊥ := fun e => h₀ (le_bot_iff.mp (h2.trans e.le))
  exact ⟨_, (EReal.coe_toReal h1.ne h3).symm⟩

section
variable {n : ℕ} (A : Fin n → Prop) [DecidablePred A] (r : Fin n → ℝ) (m : ℝ)

theorem exp_masked (j : Fin n) :
    Ideal.exp ((if A j then (r j : EReal) else ⊥) - (m : EReal))
      = ((if A j then Real.exp (r j - m) else 0 : ℝ) : EReal) := by
  by_cases h : A j
  · rw [if_pos h, if_pos h, ← EReal.coe_sub, exp_coe]
  · rw [if_neg h, if_neg h, EReal.bot_sub, exp_bot]; rfl

theorem sum_shift :
    (∑ k, if A k then Real.exp (r k - m) else 0) = (∑ k, if A k then Real.exp (r k) else 0) * Real.exp (-m) := by
  rw [Finset.sum_mul]
  refine Finset.sum_congr rfl fun k _ => ?_
  by_cases h : A k
  · rw [if_pos h, if_pos h, sub_eq_add_neg, Real.exp_add]
  · rw [if_neg h, if_neg h, zero_mul]

theorem sum_pos (k₀ : Fin n) (h₀ : A k₀) : 0 < ∑ k, if A k then Real.exp (r k) else 0 := by
  refine Finset.sum_pos' (fun k _ => ?_) ⟨k₀, Finset.mem_univ _, ?_⟩
  · split
    · exact (Real.exp_pos _).le
    · exact le_rfl
  · rw [if_pos h₀]; exact Real.exp_pos _

/-- One weight of the softmax. -/
theorem soft (k₀ : Fin n) (h₀ : A k₀) (j : Fin n) :
    Ideal.div (Ideal.exp ((if A j then (r j : EReal) else ⊥) - (m : EReal)))
        (0 + ∑ k, Ideal.exp ((if A k then (r k : EReal) else ⊥) - (m : EReal)))
      = (((if A j then Real.exp (r j) else 0) / ∑ k, if A k then Real.exp (r k) else 0 : ℝ) : EReal) := by
  simp only [exp_masked, zero_add]
  rw [← coe_sum, sum_shift, div_coe _ _ (mul_pos (sum_pos A r k₀ h₀) (Real.exp_pos _)).ne']
  congr 1
  have hs := (sum_pos A r k₀ h₀).ne'
  have he := (Real.exp_pos (-m)).ne'
  by_cases h : A j
  · rw [if_pos h, if_pos h, sub_eq_add_neg, Real.exp_add, mul_div_mul_right _ _ he]
  · rw [if_neg h, if_neg h, zero_div, zero_div]

end

/-- The literals of both programs. -/
theorem lit_eighth : Ideal.ofBits .f32 0x3E000000#32 = ((1 / 8 : ℝ) : EReal) := by
  simp [Ideal.ofBits, Ideal.ieee, -EReal.coe_mul]; norm_num
theorem lit_bot : Ideal.ofBits .f32 0xFF800000#32 = ⊥ := by
  simp [Ideal.ofBits, Ideal.ieee, -EReal.coe_mul]
theorem lit_top : Ideal.ofBits .f32 0x7F800000#32 = ⊤ := by
  simp [Ideal.ofBits, Ideal.ieee, -EReal.coe_mul]
theorem lit_forced : Ideal.ofBits .f32 0x4E6E6B28#32 = ((1000000000 : ℝ) : EReal) := by
  simp [Ideal.ofBits, Ideal.ieee, -EReal.coe_mul]; norm_num
theorem lit_sixteen : Ideal.ofBits .f32 0x41800000#32 = ((16 : ℝ) : EReal) := by
  simp [Ideal.ofBits, Ideal.ieee, -EReal.coe_mul]; norm_num

/-- The bound below which a block score counts as masked. -/
def low : ℝ := -(10587912 * 2 ^ 73)
theorem lit_low : Ideal.ofBits .f32 0xEFA18F08#32 = (low : EReal) := by
  simp [Ideal.ofBits, Ideal.ieee, low, -EReal.coe_mul]
theorem low_neg : low < 0 := by unfold low; norm_num

/-- The floor under the compressed weights' total. -/
def floor : ℝ := 10633824 / 2 ^ 123
theorem lit_floor : Ideal.ofBits .f32 0x0DA24260#32 = (floor : EReal) := by
  simp [Ideal.ofBits, Ideal.ieee, floor, -EReal.coe_mul]; norm_num
theorem floor_pos : 0 < floor := by unfold floor; norm_num

end Cert.Spec

end
-- ==== Proof.RefProj.lean ====
/-
  The reference's projections, read as mathematics: the rotated queries and keys, the values, and the gates.
-/
module

public import proofs.«01_k».proof.Proof.Gen.ReferenceIdeal.Read
public import proofs.«01_k».proof.Proof.Soft
public import Idealize.ShloMosaic.Lib.Tactic
public import Idealize.ShloMosaic.Lib.WordCmp
public import Idealize.ShloMosaic.Lib.Routing.Words

@[expose] public section

noncomputable section

namespace Cert.Ref

open Cert.ReferenceIdeal Cert.ReferenceIdeal.Read Idealize.ShloMosaic Idealize.ShloMosaic.TcCoe Idealize.SL.Sem
open Idealize.ShloMosaic.StableHlo Cert.Spec

/-- An argument or a result as the ideal program holds it. -/
abbrev Arr (s : Shape) := (⟨s, .f32⟩ : BufTy).Contents (Elt Ideal)

/-- Index words add and multiply as numbers do. -/
theorem muli_word (a b : ℕ) : IntOp.muli (BitVec.ofNat 32 a) (BitVec.ofNat 32 b) = BitVec.ofNat 32 (a * b) :=
  (BitVec.ofNat_mul ..).symm
theorem addi_word (a b : ℕ) : IntOp.addi (BitVec.ofNat 32 a) (BitVec.ofNat 32 b) = BitVec.ofNat 32 (a + b) :=
  (BitVec.ofNat_add ..).symm

/-- The arguments hold the inputs `D`. -/
structure Holds (D : Data) (x0 : Arr S1x2048x768) (x1 : Arr S768x768) (x2 x3 : Arr S128x768) (x6 x7 : Arr S2x2048x64) :
    Prop where
  x : ∀ i, x0 i = (D.x (i 1).val (i 2).val : EReal)
  wq : ∀ i, x1 i = (D.wq (i 0).val (i 1).val : EReal)
  wk : ∀ i, x2 i = (D.wk (i 0).val (i 1).val : EReal)
  wv : ∀ i, x3 i = D.wv (i 0).val (i 1).val
  wck : ∀ i, x6 i = (D.wck (i 0).val (i 1).val (i 2).val : EReal)
  wcv : ∀ i, x7 i = D.wcv (i 0).val (i 1).val (i 2).val
  cs : ∀ i, val_main_v17 (F := Ideal) i = (D.cs (i 0).val (i 1).val : EReal)
  sn : ∀ i, val_main_v19 (F := Ideal) i = (D.sn (i 0).val (i 1).val : EReal)

variable {D : Data} {x0 : Arr S1x2048x768} {x1 : Arr S768x768} {x2 x3 : Arr S128x768} {x6 x7 : Arr S2x2048x64}
  (H : Holds D x0 x1 x2 x3 x6 x7)
include H

theorem x_at (i : S2048x768.Idx) : val_main_v0 (F := Ideal) x0 i = (D.x (i 0).val (i 1).val : EReal) := by
  rw [val_main_v0_apply, H.x]
  have h0 : (i 0).val < 2048 := (i 0).isLt
  have h1 : (i 1).val < 768 := (i 1).isLt
  congr 2
  · show ((i 0).val * 768 + (i 1).val) / 768 % 2048 = _
    omega
  · show ((i 0).val * 768 + (i 1).val) % 768 = _
    omega

theorem q_lin (i : S2048x768.Idx) :
    val_main_v2 (F := Ideal) x0 x1 i = (D.lin D.wq (i 0).val (i 1).val : EReal) := by
  rw [val_main_v2_apply]
  unfold Data.lin
  rw [coe_sum]
  refine Finset.sum_congr rfl fun k _ => ?_
  rw [x_at H, val_main_v1_apply, H.wq, ← EReal.coe_mul]

theorem k_lin (i : S2048x128.Idx) :
    val_main_v35 (F := Ideal) x0 x2 i = (D.lin D.wk (i 0).val (i 1).val : EReal) := by
  rw [val_main_v35_apply]
  unfold Data.lin
  rw [coe_sum]
  refine Finset.sum_congr rfl fun k _ => ?_
  rw [x_at H, val_main_v34_apply, H.wk, ← EReal.coe_mul]

theorem v_lin (i : S2048x128.Idx) :
    val_main_v68 (F := Ideal) x0 x3 i = D.vlin (i 0).val (i 1).val := by
  rw [val_main_v68_apply]
  unfold Data.vlin
  refine Finset.sum_congr rfl fun k _ => ?_
  rw [x_at H, val_main_v67_apply, H.wv]

theorem v_at (i : S2048x2x64.Idx) :
    val_main_v69 (F := Ideal) x0 x3 i = D.v (i 1).val (i 0).val (i 2).val := by
  rw [val_main_v69_apply, v_lin H]
  have h0 : (i 0).val < 2048 := (i 0).isLt
  have h1 : (i 1).val < 2 := (i 1).isLt
  have h2 : (i 2).val < 64 := (i 2).isLt
  unfold Data.v
  congr 1
  · show (((i 0).val * 2 + (i 1).val) * 64 + (i 2).val) / 128 = _
    omega
  · show (((i 0).val * 2 + (i 1).val) * 64 + (i 2).val) % 128 = _
    omega

theorem q_lo (i : S2048x12x32.Idx) :
    val_main_v27 (F := Ideal) x0 x1 i = (D.q (i 1).val (i 0).val (i 2).val : EReal) := by
  have h0 : (i 0).val < 2048 := (i 0).isLt
  have h1 : (i 1).val < 12 := (i 1).isLt
  have h2 : (i 2).val < 32 := (i 2).isLt
  have a1 : (((i 0).val * 12 + (i 1).val) * 64 + (i 2).val) / 768 = (i 0).val := by omega
  have a2 : (((i 0).val * 12 + (i 1).val) * 64 + (i 2).val) % 768 = (i 1).val * 64 + (i 2).val := by omega
  have a3 : (((i 0).val * 12 + (i 1).val) * 64 + (32 + (i 2).val)) / 768 = (i 0).val := by omega
  have a4 : (((i 0).val * 12 + (i 1).val) * 64 + (32 + (i 2).val)) % 768 = (i 1).val * 64 + ((i 2).val + 32) := by omega
  simp only [val_main_v27_apply, val_main_v24_apply, val_main_v26_apply, val_main_v21_apply, val_main_v22_apply,
    val_main_v3_apply, q_lin H, val_main_v23_apply, val_main_v25_apply, val_main_v18_apply, val_main_v20_apply, H.cs, H.sn]
  unfold Data.q Data.rope
  rw [if_pos h2]
  simp only [a1, a2, a3, a4]
  rfl

theorem q_hi (i : S2048x12x32.Idx) :
    val_main_v32 (F := Ideal) x0 x1 i = (D.q (i 1).val (i 0).val (32 + (i 2).val) : EReal) := by
  have h0 : (i 0).val < 2048 := (i 0).isLt
  have h1 : (i 1).val < 12 := (i 1).isLt
  have h2 : (i 2).val < 32 := (i 2).isLt
  have a1 : (((i 0).val * 12 + (i 1).val) * 64 + (i 2).val) / 768 = (i 0).val := by omega
  have a2 : (((i 0).val * 12 + (i 1).val) * 64 + (i 2).val) % 768 = (i 1).val * 64 + (i 2).val := by omega
  have a3 : (((i 0).val * 12 + (i 1).val) * 64 + (32 + (i 2).val)) / 768 = (i 0).val := by omega
  have a4 : (((i 0).val * 12 + (i 1).val) * 64 + (32 + (i 2).val)) % 768 = (i 1).val * 64 + (32 + (i 2).val) := by omega
  have a5 : 32 + (i 2).val - 32 = (i 2).val := by omega
  simp only [val_main_v32_apply, val_main_v29_apply, val_main_v31_apply, val_main_v21_apply, val_main_v22_apply,
    val_main_v3_apply, q_lin H, val_main_v28_apply, val_main_v30_apply, val_main_v18_apply, val_main_v20_apply, H.cs, H.sn]
  unfold Data.q Data.rope
  rw [if_neg (by omega)]
  simp only [a1, a2, a3, a4, a5]
  rfl

theorem q_at (i : S2048x12x64.Idx) :
    val_main_v33 (F := Ideal) x0 x1 i = (D.q (i 1).val (i 0).val (i 2).val : EReal) := by
  have h2 : (i 2).val < 64 := (i 2).isLt
  unfold val_main_v33
  by_cases h : (i 2).val < 32
  · refine (concatenate_pair_apply_left (t := S2048x12x64) (s₁ := S2048x12x32) (s₂ := S2048x12x32) 2 _ _ _ i rfl
      (fun b => match b with
        | ⟨0, _⟩ => i 0
        | ⟨1, _⟩ => i 1
        | ⟨2, _⟩ => ⟨(i 2).val, h⟩)
      (fun b => match b with
        | ⟨0, _⟩ => rfl
        | ⟨1, _⟩ => rfl
        | ⟨2, _⟩ => rfl)).trans (q_lo H _)
  · have hh : (i 2).val - 32 < 32 := by omega
    refine (concatenate_pair_apply_right (t := S2048x12x64) (s₁ := S2048x12x32) (s₂ := S2048x12x32) 2 _ _ _ i rfl rfl
      (fun b => match b with
        | ⟨0, _⟩ => i 0
        | ⟨1, _⟩ => i 1
        | ⟨2, _⟩ => ⟨(i 2).val - 32, hh⟩)
      (fun b hb => match b, hb with
        | ⟨0, _⟩, _ => rfl
        | ⟨1, _⟩, _ => rfl
        | ⟨2, _⟩, hb => absurd rfl hb)
      (show (i 2).val - 32 + 32 = (i 2).val by omega)).trans ((q_hi H _).trans ?_)
    show ((D.q (i 1).val (i 0).val (32 + ((i 2).val - 32)) : ℝ) : EReal) = _
    rw [show 32 + ((i 2).val - 32) = (i 2).val by omega]

theorem k_lo (i : S2048x2x32.Idx) :
    val_main_v60 (F := Ideal) x0 x2 i = (D.k (i 1).val (i 0).val (i 2).val : EReal) := by
  have h0 : (i 0).val < 2048 := (i 0).isLt
  have h1 : (i 1).val < 2 := (i 1).isLt
  have h2 : (i 2).val < 32 := (i 2).isLt
  have hc : val_main_v50 (F := Ideal) = val_main_v17 := rfl
  have hs : val_main_v52 (F := Ideal) = val_main_v19 := rfl
  have a1 : (((i 0).val * 2 + (i 1).val) * 64 + (i 2).val) / 128 = (i 0).val := by omega
  have a2 : (((i 0).val * 2 + (i 1).val) * 64 + (i 2).val) % 128 = (i 1).val * 64 + (i 2).val := by omega
  have a3 : (((i 0).val * 2 + (i 1).val) * 64 + (32 + (i 2).val)) / 128 = (i 0).val := by omega
  have a4 : (((i 0).val * 2 + (i 1).val) * 64 + (32 + (i 2).val)) % 128 = (i 1).val * 64 + ((i 2).val + 32) := by omega
  simp only [val_main_v60_apply, val_main_v57_apply, val_main_v59_apply, val_main_v54_apply, val_main_v55_apply, hc, hs,
    val_main_v36_apply, k_lin H, val_main_v56_apply, val_main_v58_apply, val_main_v51_apply, val_main_v53_apply, H.cs, H.sn]
  unfold Data.k Data.rope
  rw [if_pos h2]
  simp only [a1, a2, a3, a4]
  rfl

theorem k_hi (i : S2048x2x32.Idx) :
    val_main_v65 (F := Ideal) x0 x2 i = (D.k (i 1).val (i 0).val (32 + (i 2).val) : EReal) := by
  have h0 : (i 0).val < 2048 := (i 0).isLt
  have h1 : (i 1).val < 2 := (i 1).isLt
  have h2 : (i 2).val < 32 := (i 2).isLt
  have hc : val_main_v50 (F := Ideal) = val_main_v17 := rfl
  have hs : val_main_v52 (F := Ideal) = val_main_v19 := rfl
  have a1 : (((i 0).val * 2 + (i 1).val) * 64 + (i 2).val) / 128 = (i 0).val := by omega
  have a2 : (((i 0).val * 2 + (i 1).val) * 64 + (i 2).val) % 128 = (i 1).val * 64 + (i 2).val := by omega
  have a3 : (((i 0).val * 2 + (i 1).val) * 64 + (32 + (i 2).val)) / 128 = (i 0).val := by omega
  have a4 : (((i 0).val * 2 + (i 1).val) * 64 + (32 + (i 2).val)) % 128 = (i 1).val * 64 + (32 + (i 2).val) := by omega
  have a5 : 32 + (i 2).val - 32 = (i 2).val := by omega
  simp only [val_main_v65_apply, val_main_v62_apply, val_main_v64_apply, val_main_v54_apply, val_main_v55_apply, hc, hs,
    val_main_v36_apply, k_lin H, val_main_v61_apply, val_main_v63_apply, val_main_v51_apply, val_main_v53_apply, H.cs, H.sn]
  unfold Data.k Data.rope
  rw [if_neg (by omega)]
  simp only [a1, a2, a3, a4, a5]
  rfl

theorem k_at (i : S2048x2x64.Idx) :
    val_main_v66 (F := Ideal) x0 x2 i = (D.k (i 1).val (i 0).val (i 2).val : EReal) := by
  have h2 : (i 2).val < 64 := (i 2).isLt
  unfold val_main_v66
  by_cases h : (i 2).val < 32
  · refine (concatenate_pair_apply_left (t := S2048x2x64) (s₁ := S2048x2x32) (s₂ := S2048x2x32) 2 _ _ _ i rfl
      (fun b => match b with
        | ⟨0, _⟩ => i 0
        | ⟨1, _⟩ => i 1
        | ⟨2, _⟩ => ⟨(i 2).val, h⟩)
      (fun b => match b with
        | ⟨0, _⟩ => rfl
        | ⟨1, _⟩ => rfl
        | ⟨2, _⟩ => rfl)).trans (k_lo H _)
  · have hh : (i 2).val - 32 < 32 := by omega
    refine (concatenate_pair_apply_right (t := S2048x2x64) (s₁ := S2048x2x32) (s₂ := S2048x2x32) 2 _ _ _ i rfl rfl
      (fun b => match b with
        | ⟨0, _⟩ => i 0
        | ⟨1, _⟩ => i 1
        | ⟨2, _⟩ => ⟨(i 2).val - 32, hh⟩)
      (fun b hb => match b, hb with
        | ⟨0, _⟩, _ => rfl
        | ⟨1, _⟩, _ => rfl
        | ⟨2, _⟩, hb => absurd rfl hb)
      (show (i 2).val - 32 + 32 = (i 2).val by omega)).trans ((k_hi H _).trans ?_)
    show ((D.k (i 1).val (i 0).val (32 + ((i 2).val - 32)) : ℝ) : EReal) = _
    rw [show 32 + ((i 2).val - 32) = (i 2).val by omega]

omit H in
/-- Row `16 t + f` of a key head's array, as the gathers take it. -/
theorem rows_at {α : Type} (x : S2048x2x64.Idx → α) (idx : IVec S127x32x1 32)
    (hidx : ∀ j, (idx j).toInt.toNat = (j 0).val * 16 + (j 1).val) (y : S127x32x2x64.Idx) :
    Host.gather gather_S2048x2x64_S127x32x1_S127x32x2x64_23_0_n_n_0_2_1264 x idx y
      = x (fun a => match a with
          | ⟨0, _⟩ => ⟨(y 0).val * 16 + (y 1).val, by
              have h0 : (y 0).val < 127 := (y 0).isLt
              have h1 : (y 1).val < 32 := (y 1).isLt
              show (y 0).val * 16 + (y 1).val < 2048
              omega⟩
          | ⟨1, _⟩ => y 2
          | ⟨2, _⟩ => y 3) := by
  unfold Host.gather
  congr 1
  funext a
  refine Fin.ext ?_
  have h0 : (y 0).val < 127 := (y 0).isLt
  have h1 : (y 1).val < 32 := (y 1).isLt
  show gather_S2048x2x64_S127x32x1_S127x32x2x64_23_0_n_n_0_2_1264.start y idx a
    + gather_S2048x2x64_S127x32x1_S127x32x2x64_23_0_n_n_0_2_1264.batchCoord y a
    + gather_S2048x2x64_S127x32x1_S127x32x2x64_23_0_n_n_0_2_1264.offCoord y a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S2048x2x64_S127x32x1_S127x32x2x64_23_0_n_n_0_2_1264.startIndexMap
      from List.mem_singleton.mpr rfl)]
    show min (idx _).toInt.toNat (2048 - 1) = _
    rw [hidx]
    show min ((y 0).val * 16 + (y 1).val) 2047 = (y 0).val * 16 + (y 1).val
    omega
  · show (if h : _ then _ else _) + 0 + (if h : _ then _ else _) = _
    rw [dif_neg (by decide), dif_pos (by decide)]
    simp only [Nat.zero_add]
    rfl
  · show (if h : _ then _ else _) + 0 + (if h : _ then _ else _) = _
    rw [dif_neg (by decide), dif_pos (by decide)]
    simp only [Nat.zero_add]
    rfl

omit H in
/-- The row indices of the windows, as words. -/
theorem win_idx (j : S127x32x1.Idx) :
    ((val_main_v93 (F := Ideal) j).toInt.toNat) = (j 0).val * 16 + (j 1).val := by
  have h0 : (j 0).val < 127 := (j 0).isLt
  have h1 : (j 1).val < 32 := (j 1).isLt
  simp only [val_main_v93_apply, val_main_v92_apply, val_main_v89_apply, val_main_v91_apply, val_main_v87_apply,
    val_main_v85_apply, val_main_v86_apply, val_main_v82_apply, val_main_v84_apply, val_main_v81_apply, val_main_v79_apply,
    val_main_v83_apply, val_main_v80_apply, val_main_v88_apply, val_main_v90_apply, val_main_c_apply, val_main_c_7_apply,
    val_main_c_8_apply]
  simp (disch := omega) only [muli_word, addi_word, hlo_ix]
  rw [if_neg (by omega), WordCmp.toInt_ofNat_of_lt (by omega)]
  rfl

omit H in
theorem cv_idx : val_main_v146 (F := Ideal) = val_main_v93 := rfl

theorem k_win (i : S127x2x2048.Idx) :
    val_main_v96 (F := Ideal) x0 x2 i = (D.k (i 1).val ((i 0).val * 16 + (i 2).val / 64) ((i 2).val % 64) : EReal) := by
  have h0 : (i 0).val < 127 := (i 0).isLt
  have h1 : (i 1).val < 2 := (i 1).isLt
  have h2 : (i 2).val < 2048 := (i 2).isLt
  rw [val_main_v96_apply, val_main_v95_apply]
  unfold val_main_v94
  rw [rows_at _ _ win_idx, k_at H]
  dsimp only [idx_main_v95, idx_main_v96]
  congr 2 <;> omega

theorem v_win (i : S127x2x2048.Idx) :
    val_main_v149 (F := Ideal) x0 x3 i = D.v (i 1).val ((i 0).val * 16 + (i 2).val / 64) ((i 2).val % 64) := by
  have h0 : (i 0).val < 127 := (i 0).isLt
  have h1 : (i 1).val < 2 := (i 1).isLt
  have h2 : (i 2).val < 2048 := (i 2).isLt
  rw [val_main_v149_apply, val_main_v148_apply]
  unfold val_main_v147
  rw [cv_idx, rows_at _ _ win_idx, v_at H]
  dsimp only [idx_main_v148, idx_main_v149]
  congr 1 <;> omega

theorem ck_at (i : S127x2x64.Idx) :
    val_main_v98 (F := Ideal) x0 x2 x6 i = (D.ck (i 1).val (i 0).val (i 2).val : EReal) := by
  rw [val_main_v98_apply, val_main_v97_apply]
  unfold Data.ck
  rw [coe_sum]
  refine Finset.sum_congr rfl fun f _ => ?_
  rw [k_win H, H.wck, ← EReal.coe_mul, mul_comm]

theorem cv_at (i : S127x2x64.Idx) :
    val_main_v151 (F := Ideal) x0 x3 x7 i = D.cv (i 1).val (i 0).val (i 2).val := by
  rw [val_main_v151_apply, val_main_v150_apply]
  unfold Data.cv
  refine Finset.sum_congr rfl fun f _ => ?_
  rw [v_win H, H.wcv, mul_comm]

theorem qg_at (i : S2048x2x6x64.Idx) :
    val_main_v78 (F := Ideal) x0 x1 i = (D.q ((i 1).val * 6 + (i 2).val) (i 0).val (i 3).val : EReal) := by
  have h0 : (i 0).val < 2048 := (i 0).isLt
  have h1 : (i 1).val < 2 := (i 1).isLt
  have h2 : (i 2).val < 6 := (i 2).isLt
  have h3 : (i 3).val < 64 := (i 3).isLt
  rw [val_main_v78_apply, q_at H]
  dsimp only [idx_main_v78]
  congr 2 <;> omega

/-- The compressed scores. -/
theorem sc_at (i : S2x6x2048x127.Idx) :
    val_main_v102 (F := Ideal) x0 x1 x2 x6 i
      = (D.sc ((i 0).val * 6 + (i 1).val) (i 2).val (i 3).val : EReal) := by
  have h1 : (i 1).val < 6 := (i 1).isLt
  rw [val_main_v102_apply, val_main_v100_apply, val_main_v99_apply, val_main_v101_apply, val_main_cst_9_apply]
  show (_ : EReal) * Ideal.ofBits .f32 0x3E000000#32 = _
  rw [lit_eighth]
  unfold Data.sc
  rw [EReal.coe_mul, coe_sum]
  congr 1
  refine Finset.sum_congr rfl fun d _ => ?_
  rw [ck_at H, qg_at H, ← EReal.coe_mul, mul_comm]
  dsimp only [lidx_main_v99, ridx_main_v99, idx_main_v100]
  rw [show ((i 0).val * 6 + (i 1).val) / 6 = (i 0).val by omega]

/-- The scores against every key. -/
theorem z_at (i : S2x6x2048x2048.Idx) :
    val_main_v237 (F := Ideal) x0 x1 x2 i
      = (D.z ((i 0).val * 6 + (i 1).val) (i 2).val (i 3).val : EReal) := by
  have h1 : (i 1).val < 6 := (i 1).isLt
  rw [val_main_v237_apply, val_main_v235_apply, val_main_v234_apply, val_main_v236_apply, val_main_cst_32_apply]
  show (_ : EReal) * Ideal.ofBits .f32 0x3E000000#32 = _
  rw [lit_eighth]
  unfold Data.z
  rw [EReal.coe_mul, coe_sum]
  congr 1
  refine Finset.sum_congr rfl fun d _ => ?_
  rw [k_at H, qg_at H, ← EReal.coe_mul, mul_comm]
  dsimp only [lidx_main_v234, ridx_main_v234, idx_main_v235]
  rw [show ((i 0).val * 6 + (i 1).val) / 6 = (i 0).val by omega]

end Cert.Ref

end
-- ==== Proof.RefComp.lean ====
/-
  The reference's compressed attention, and the block scores it ranks, read as mathematics.
-/
module

public import proofs.«01_k».proof.Proof.RefProj

@[expose] public section

noncomputable section

namespace Cert.Ref

open Cert.ReferenceIdeal Cert.ReferenceIdeal.Read Cert.ReferenceIdeal.Gen Idealize.ShloMosaic Idealize.ShloMosaic.TcCoe
open Idealize.SL.Sem Idealize.ShloMosaic.StableHlo Cert.Spec

theorem subi_word (a b : ℕ) (h : b ≤ a) :
    IntOp.subi (BitVec.ofNat 32 a) (BitVec.ofNat 32 b) = BitVec.ofNat 32 (a - b) := by
  show BitVec.ofNat 32 a - BitVec.ofNat 32 b = _
  refine sub_eq_of_eq_add ?_
  rw [← BitVec.ofNat_add, Nat.sub_add_cancel h]

/-- A window is allowed once its last row is not after the query's. -/
theorem allowed_at (i : S2048x127.Idx) :
    val_main_v115 (F := Ideal) i = BitVec.ofBool (decide ((i 1).val * 16 + 31 ≤ (i 0).val)) := by
  have h0 : (i 0).val < 2048 := (i 0).isLt
  have h1 : (i 1).val < 127 := (i 1).isLt
  simp only [val_main_v115_apply, val_main_v113_apply, val_main_v114_apply, val_main_v104_apply, val_main_v103_apply,
    val_main_v112_apply, val_main_v111_apply, val_main_v109_apply, val_main_v107_apply, val_main_v105_apply,
    val_main_v106_apply, val_main_v108_apply, val_main_v110_apply, val_main_c_10_apply, val_main_c_11_apply,
    val_main_c_12_apply]
  simp (disch := omega) only [muli_word, addi_word, subi_word, hlo_ix]
  congr 1

variable {D : Data} {x0 : Arr S1x2048x768} {x1 : Arr S768x768} {x2 x3 : Arr S128x768} {x6 x7 : Arr S2x2048x64}
  (H : Holds D x0 x1 x2 x3 x6 x7)
include H

/-- The masked scores. -/
theorem masked_at (i : S2x6x2048x127.Idx) :
    val_main_v119 (F := Ideal) x0 x1 x2 x6 i
      = if (i 3).val * 16 + 31 ≤ (i 2).val then (D.sc ((i 0).val * 6 + (i 1).val) (i 2).val (i 3).val : EReal) else ⊥ := by
  rw [val_main_v119_apply, sc_at H, val_main_v117_apply, val_main_v116_apply, allowed_at, val_main_v118_apply,
    val_main_cst_13_apply]
  show Scalar.select _ _ (Ideal.ofBits .f32 0xFF800000#32) = _
  rw [lit_bot]
  simp only [Scalar.select, hlo_ix]

theorem max_at (i : S2x6x2048.Idx) :
    val_main_v120 (F := Ideal) x0 x1 x2 x6 i
      = Finset.univ.fold max ⊥ fun k : Fin 127 => val_main_v119 (F := Ideal) x0 x1 x2 x6 (idx_main_v125 i k) := by
  unfold val_main_v120
  generalize val_main_v119 (F := Ideal) x0 x1 x2 x6 = y
  refine (Host.reduce_eq_fold_single _ y _ _ (by decide) _ i).trans ?_
  rw [show val_main_cst_14 (F := Ideal) (Shape.Idx.first h_S_) = ⊥ from lit_bot]
  refine congrArg (Finset.fold max ⊥ · Finset.univ) (funext fun k => congrArg y (funext fun a => Fin.ext ?_))
  match a with
  | ⟨0, _⟩ => rfl
  | ⟨1, _⟩ => rfl
  | ⟨2, _⟩ => rfl
  | ⟨3, _⟩ => rfl

/-- The compressed weights. -/
theorem pc_at (i : S2x6x2048x127.Idx) :
    val_main_v131 (F := Ideal) x0 x1 x2 x6 i
      = (D.pc ((i 0).val * 6 + (i 1).val) (i 2).val (i 3).val : EReal) := by
  have h3 : (i 3).val < 127 := (i 3).isLt
  rw [val_main_v131_apply, val_main_v129_apply, val_main_v116_apply, allowed_at, val_main_v130_apply, val_main_cst_16_apply]
  show Scalar.select _ _ (Ideal.ofBits .f32 0x00000000#32) = _
  rw [Ideal.ofBits_zero_f32]
  simp only [Scalar.select, hlo_ix]
  by_cases h : (i 3).val * 16 + 31 ≤ (i 2).val
  · refine (if_pos h).trans ?_
    have hs := soft (fun t : Fin 127 => t.val * 16 + 31 ≤ (i 2).val)
      (fun t : Fin 127 => D.sc ((i 0).val * 6 + (i 1).val) (i 2).val t.val)
    obtain ⟨m, hm⟩ := max_real (fun k : Fin 127 => val_main_v119 (F := Ideal) x0 x1 x2 x6
      (idx_main_v125 (idx_main_v126 (idx_main_v127 i)) k))
      (fun k => by rw [masked_at H]; split; exacts [EReal.coe_lt_top _, bot_lt_top]) ⟨(i 3).val, h3⟩
      (by rw [masked_at H]; exact (if_pos h).trans_ne (EReal.coe_ne_bot _))
    rw [val_main_v128_apply, val_main_v127_apply, val_main_v126_apply, val_main_v125_apply]
    simp only [val_main_v124_apply, val_main_v123_apply, val_main_v122_apply, val_main_v121_apply, masked_at H]
    have hv : val_main_v120 (F := Ideal) x0 x1 x2 x6 (idx_main_v121 (idx_main_v122 i)) = (m : EReal) :=
      (max_at H _).trans hm
    have hv' : ∀ k, val_main_v120 (F := Ideal) x0 x1 x2 x6
        (idx_main_v121 (idx_main_v122 (idx_main_v125 (idx_main_v126 (idx_main_v127 i)) k))) = (m : EReal) := fun k => hv
    simp only [hv, hv', val_main_cst_15_apply]
    refine Eq.trans ?_ (hs m ⟨(i 3).val, h3⟩ h ⟨(i 3).val, h3⟩)
    show Ideal.div _ (Ideal.ofBits .f32 0x00000000#32 + _) = _
    rw [Ideal.ofBits_zero_f32]
    rfl
  · refine (if_neg h).trans ?_
    unfold Data.pc Data.wt
    rw [if_neg h, zero_div]
    rfl

/-- The compressed attention. -/
theorem cmp_at (i : S2048x12x64.Idx) :
    val_main_v154 (F := Ideal) x0 x1 x2 x3 x6 x7 i = D.cmp (i 1).val (i 0).val (i 2).val := by
  have h0 : (i 0).val < 2048 := (i 0).isLt
  have h1 : (i 1).val < 12 := (i 1).isLt
  have h2 : (i 2).val < 64 := (i 2).isLt
  rw [val_main_v154_apply, val_main_v153_apply, val_main_v152_apply]
  unfold Data.cmp
  refine Finset.sum_congr rfl fun t _ => ?_
  rw [cv_at H, pc_at H, mul_comm]
  dsimp only [lidx_main_v152, ridx_main_v152, idx_main_v153, idx_main_v154]
  congr 1
  · congr 2 <;> omega
  · congr 1 <;> omega

omit H in
theorem ind_coe (p : Prop) [Decidable p] :
    FloatOps.uitofp (F := Ideal) .f32 (BitVec.ofBool (decide p)) = ((if p then 1 else 0 : ℝ) : EReal) := by
  by_cases h : p
  · rw [decide_eq_true h, if_pos h]; show (((1 : ℕ) : ℝ) : EReal) = _; norm_num
  · rw [decide_eq_false h, if_neg h]; show (((0 : ℕ) : ℝ) : EReal) = _; norm_num

/-- The weight a block gathers from the windows that start in it. -/
theorem blk_at (i : S2x2048x32.Idx) :
    val_main_v174 (F := Ideal) x0 x1 x2 x6 i = (D.blk (i 0).val (i 1).val (i 2).val : EReal) := by
  have h2 : (i 2).val < 32 := (i 2).isLt
  rw [val_main_v174_apply]
  unfold Data.blk
  rw [coe_sum, val_main_cst_23_apply]
  show Ideal.ofBits .f32 0x00000000#32 + _ = _
  rw [Ideal.ofBits_zero_f32, zero_add]
  refine Finset.sum_congr rfl fun t _ => ?_
  have ht : t.val < 127 := t.isLt
  rw [val_main_v173_apply, val_main_v171_apply, val_main_v169_apply, val_main_v156_apply, val_main_cst_20_apply]
  simp only [val_main_v172_apply, val_main_v170_apply, val_main_v168_apply, val_main_v167_apply, val_main_v165_apply,
    val_main_v163_apply, val_main_v162_apply, val_main_v160_apply, val_main_v158_apply, val_main_v159_apply,
    val_main_v161_apply, val_main_v166_apply, val_main_v164_apply, val_main_v157_apply, val_main_c_21_apply,
    val_main_c_22_apply, pc_at H]
  simp (disch := omega) only [muli_word, Routing.divsi_word, hlo_ix]
  rw [ind_coe]
  show (Ideal.ofBits .f32 0x00000000#32 + _) * _ = _
  rw [Ideal.ofBits_zero_f32, zero_add, ← coe_sum, ← EReal.coe_mul]
  congr 2
  refine if_congr ?_ rfl rfl
  show t.val * 16 / 64 = (i 2).val ↔ _
  omega

omit H in
theorem sge_back (n q : ℕ) (hn : n < 32) (hq : q < 32) :
    IntOp.cmpi .sge (BitVec.ofNat 32 n) (IntOp.addi (IntOp.subi (BitVec.ofNat 32 q) (2#32)) (1#32))
      = BitVec.ofBool (decide (q ≤ n + 1)) := by
  rw [WordCmp.cmpi_sge_eq, WordCmp.toInt_ofNat_of_lt (by omega)]
  congr 1
  refine decide_eq_decide.mpr ?_
  interval_cases q
  · exact ⟨fun _ => by omega, fun _ => by show (-1 : Int) ≤ _; omega⟩
  all_goals
    show (_ : Int) ≤ (n : Int) ↔ _
    simp [IntOp.addi, IntOp.subi]
    try omega

omit H in
theorem forced_at (i : S2048x32.Idx) :
    val_main_v197 (F := Ideal) i
      = BitVec.ofBool (decide ((i 1).val < 1) || (decide ((i 1).val ≤ (i 0).val / 64) && decide ((i 0).val / 64 ≤ (i 1).val + 1))) := by
  have h0 : (i 0).val < 2048 := (i 0).isLt
  have h1 : (i 1).val < 32 := (i 1).isLt
  simp only [val_main_v197_apply, val_main_v196_apply, val_main_v180_apply, val_main_v178_apply, val_main_v157_apply,
    val_main_v179_apply, val_main_c_25_apply, val_main_v195_apply, val_main_v185_apply, val_main_v183_apply,
    val_main_v181_apply, val_main_v184_apply, val_main_v182_apply, val_main_v177_apply, val_main_v175_apply,
    val_main_v176_apply, val_main_c_24_apply, val_main_v194_apply, val_main_v192_apply, val_main_v186_apply,
    val_main_v193_apply, val_main_v191_apply, val_main_v189_apply, val_main_v187_apply, val_main_v188_apply,
    val_main_v190_apply, val_main_c_26_apply, val_main_c_27_apply]
  simp (disch := omega) only [Routing.divsi_word, sge_back, hlo_ix]

omit H in
theorem causal_b_at (i : S2048x32.Idx) :
    val_main_v204 (F := Ideal) i = BitVec.ofBool (decide ((i 1).val ≤ (i 0).val / 64)) := by
  have h0 : (i 0).val < 2048 := (i 0).isLt
  have h1 : (i 1).val < 32 := (i 1).isLt
  simp only [val_main_v204_apply, val_main_v202_apply, val_main_v200_apply, val_main_v203_apply, val_main_v201_apply,
    val_main_v157_apply, val_main_v177_apply, val_main_v175_apply, val_main_v176_apply, val_main_c_24_apply]
  simp (disch := omega) only [Routing.divsi_word, hlo_ix]

/-- The scores the selection ranks. -/
theorem cand_at (i : S2x2048x32.Idx) :
    val_main_v210 (F := Ideal) x0 x1 x2 x6 i = D.cand (i 0).val (i 1).val (i 2).val := by
  rw [val_main_v210_apply, val_main_v208_apply, val_main_v207_apply, causal_b_at, val_main_v206_apply, val_main_v199_apply,
    val_main_v198_apply, forced_at, val_main_v205_apply, val_main_cst_28_apply, val_main_v209_apply, val_main_cst_29_apply,
    blk_at H]
  show Scalar.select _ (Scalar.select _ (Ideal.ofBits .f32 0x4E6E6B28#32) _) (Ideal.ofBits .f32 0xFF800000#32) = _
  rw [lit_bot, lit_forced]
  simp only [Scalar.select, hlo_ix]
  unfold Data.cand
  by_cases h : (i 2).val ≤ (i 1).val / 64
  · rw [if_pos h, if_pos h]
    refine if_congr ?_ rfl rfl
    omega
  · rw [if_neg h, if_neg h]

end Cert.Ref

end
-- ==== Proof.TopK.lean ====
/-
  The sixteen greatest of 32 numbers are those that fewer than sixteen exceed, when the sixteenth and the seventeenth
  do not tie.
-/
module

public import Idealize.ShloMosaic.PureOps.Ideal
public import Idealize.ShloMosaic.PureOps
public import Idealize.ShloMosaic.Lib.SortFacts
public import Idealize.ShloMosaic.Lib.ValueIdx

@[expose] public section

noncomputable section

namespace Cert.TopK

open Idealize.ShloMosaic Idealize.ShloMosaic.ValueIdx

/-- Where the element that comes `k`-th from the top of `c` stands. -/
def place (c : Fin 32 → EReal) : Fin 32 → Fin 32 :=
  sortedFrom fun a b => Ideal.cmpTotal .gt (c a) (c b) == 1#1

theorem gt_iff (a b : EReal) : (Ideal.cmpTotal .gt a b == 1#1) = decide (b < a) := by
  by_cases h : b < a <;> simp [Ideal.cmpTotal, Ideal.cmp, CmpDirection.ordered, h]

theorem sorted_antitone {n : ℕ} (c : Fin n → EReal) (i j : Fin n) (h : i < j) :
    c (sortedFrom (fun a b => Ideal.cmpTotal .gt (c a) (c b) == 1#1) j)
      ≤ c (sortedFrom (fun a b => Ideal.cmpTotal .gt (c a) (c b) == 1#1) i) := by
  simp only [gt_iff]
  have := sortedFrom_noInversion (fun a b => decide (c b < c a)) (fun a b => decide (c b < c a))
    (fun a b h => by
      rw [decide_eq_true_eq] at h; rw [decide_eq_false_iff_not]; exact not_lt.mpr (le_of_lt h))
    (fun _ _ h => h)
    (fun a b d h1 h2 => by
      rw [decide_eq_false_iff_not, not_lt] at *; exact h1.trans h2)
    i j h
  rwa [decide_eq_false_iff_not, not_lt] at this

theorem place_antitone (c : Fin 32 → EReal) (i j : Fin 32) (h : i ≤ j) : c (place c j) ≤ c (place c i) := by
  rcases eq_or_lt_of_le h with rfl | h
  · exact le_rfl
  · exact sorted_antitone c i j h

open Classical in
theorem among_iff (c : Fin 32 → EReal) (b : EReal)
    (tie : c (place c 16) < c (place c 15) ∨ c (place c 16) ≤ b) (n : Fin 32) (hn : b < c n) :
    (∃ k : Fin 32, k.val < 16 ∧ place c k = n) ↔ (Finset.univ.filter fun m : Fin 32 => c n < c m).card < 16 := by
  constructor
  · rintro ⟨k, hk, rfl⟩
    refine lt_of_le_of_lt (b := k.val) ?_ hk
    have hsub : (Finset.univ.filter fun m : Fin 32 => c (place c k) < c m) ⊆ (Finset.Iio k).image (place c) := by
      intro m hm
      rw [Finset.mem_filter] at hm
      obtain ⟨i, rfl⟩ := sortedFrom_surjective (fun a b => Ideal.cmpTotal .gt (c a) (c b) == 1#1) m
      refine Finset.mem_image.mpr ⟨i, Finset.mem_Iio.mpr ?_, rfl⟩
      by_contra hi
      exact absurd hm.2 (not_lt.mpr (place_antitone c k i (not_lt.mp hi)))
    calc _ ≤ _ := Finset.card_le_card hsub
      _ ≤ (Finset.Iio k).card := Finset.card_image_le
      _ = k.val := by simp
  · intro h
    obtain ⟨i, rfl⟩ := sortedFrom_surjective (fun a b => Ideal.cmpTotal .gt (c a) (c b) == 1#1) n
    change b < c (place c i) at hn
    refine ⟨i, ?_, rfl⟩
    by_contra hi
    have h16 : c (place c i) ≤ c (place c 16) :=
      place_antitone c 16 i (by rw [Fin.le_def]; show 16 ≤ i.val; omega)
    rcases tie with tie | tie
    · refine absurd h (not_lt.mpr ?_)
      have hsub : (Finset.Iio (16 : Fin 32)).image (place c) ⊆
          (Finset.univ.filter fun m : Fin 32 => c (place c i) < c m) := by
        intro m hm
        obtain ⟨j, hj, rfl⟩ := Finset.mem_image.mp hm
        refine Finset.mem_filter.mpr ⟨Finset.mem_univ _, ?_⟩
        have hj' : j ≤ 15 := by
          have := Finset.mem_Iio.mp hj
          rw [Fin.le_def]; show j.val ≤ 15; have h2 : j.val < 16 := this; omega
        exact lt_of_le_of_lt h16 (lt_of_lt_of_le tie (place_antitone c j 15 hj'))
      calc 16 = (Finset.Iio (16 : Fin 32)).card := by simp
        _ = ((Finset.Iio (16 : Fin 32)).image (place c)).card :=
          (Finset.card_image_of_injective _ (sortedFrom_injective _)).symm
        _ ≤ _ := Finset.card_le_card hsub
    · exact absurd (h16.trans tie) (not_le.mpr hn)

/-- The row of scores of head `h` at row `s`. -/
abbrev rowOf (x : (⟨3, ![2, 2048, 32]⟩ : Shape).Idx → EReal) (h : Fin 2) (s : Fin 2048) : Fin 32 → EReal :=
  fun n => x (ix3 h s n)

section
variable {K : ℕ} (hK : K ≤ 32) (x : (⟨3, ![2, 2048, 32]⟩ : Shape).Idx → EReal)
  (h : (⟨3, ![2, 2048, 32]⟩ : Shape).Slices (fun _ => 0) ⟨3, ![2, 2048, K]⟩)
  (a : Fin 2) (s : Fin 2048) (k : Fin K)

omit h k in
theorem along_last (hd : 2 < (⟨3, ![2, 2048, 32]⟩ : Shape).rank) (n : Fin ((⟨3, ![2, 2048, 32]⟩ : Shape).size ⟨2, hd⟩))
    (k : Fin 32) :
    Shape.Idx.along (s := ⟨3, ![2, 2048, 32]⟩) (ix3 a s k) ⟨2, hd⟩ n = ix3 a s (n : Fin 32) := by
  funext b
  match b with
  | ⟨0, _⟩ => rfl
  | ⟨1, _⟩ => rfl
  | ⟨2, _⟩ => rfl

include hK in
theorem front_apply {α : Type} (y : (⟨3, ![2, 2048, 32]⟩ : Shape).Idx → α) :
    extractStridedSlice ⟨3, ![2, 2048, K]⟩ (fun _ => 0) y h (ix3 a s k) = y (ix3 a s ⟨k, by omega⟩) := by
  refine congrArg y (funext fun b => Fin.ext ?_)
  match b with
  | ⟨0, _⟩ => exact Nat.zero_add _
  | ⟨1, _⟩ => exact Nat.zero_add _
  | ⟨2, _⟩ => exact Nat.zero_add _

theorem topK_values :
    (Host.topK ⟨3, ![2, 2048, K]⟩ 2 (FloatOps.cmpfTotal (F := Ideal) (φ := .f32) .gt) x h).1 (ix3 a s k)
      = rowOf x a s (place (rowOf x a s) ⟨k, by omega⟩) := by
  unfold Host.topK
  dsimp only
  rw [front_apply hK]
  unfold Host.sort2
  rw [dif_pos (show 2 < 3 by decide)]
  exact congrArg x (along_last ..) |>.trans (by simp only [along_last]; rfl)

theorem topK_places :
    (Host.topK ⟨3, ![2, 2048, K]⟩ 2 (FloatOps.cmpfTotal (F := Ideal) (φ := .f32) .gt) x h).2 (ix3 a s k)
      = BitVec.ofNat 32 (place (rowOf x a s) ⟨k, by omega⟩).val := by
  unfold Host.topK
  dsimp only
  rw [front_apply hK]
  unfold Host.sort2
  rw [dif_pos (show 2 < 3 by decide)]
  simp only [along_last]
  rw [dif_pos (show 2 < 3 by decide)]
  rfl

end

end Cert.TopK

end
-- ==== Proof.Select.lean ====
/-
  The selection of blocks: the scores are between zero and the forced blocks' score, so that a score is masked exactly on
  the blocks after the query's, and the query's own block is always selected.
-/
module

public import proofs.«01_k».proof.Proof.Soft
public import proofs.«01_k».proof.Proof.TopK

@[expose] public section

noncomputable section

namespace Cert.Spec

open Idealize.ShloMosaic

namespace Data
variable (D : Data)

theorem wt_nonneg (h s t : ℕ) : 0 ≤ D.wt h s t := by
  unfold wt; split
  · exact (Real.exp_pos _).le
  · exact le_rfl
theorem tot_nonneg (h s : ℕ) : 0 ≤ D.tot h s := Finset.sum_nonneg fun _ _ => D.wt_nonneg _ _ _
theorem pc_nonneg (h s t : ℕ) : 0 ≤ D.pc h s t := div_nonneg (D.wt_nonneg _ _ _) (D.tot_nonneg _ _)
theorem blk_nonneg (h s n : ℕ) : 0 ≤ D.blk h s n := by
  refine Finset.sum_nonneg fun t _ => mul_nonneg (Finset.sum_nonneg fun _ _ => D.pc_nonneg _ _ _) ?_
  split
  · exact zero_le_one
  · exact le_rfl
theorem pc_sum_le (h s : ℕ) : ∑ t : Fin 127, D.pc h s t ≤ 1 := by
  unfold pc
  rw [← Finset.sum_div]
  exact div_self_le_one _
theorem blk_le (h s n : ℕ) : D.blk h s n ≤ 6 := by
  have h1 : D.blk h s n ≤ ∑ t : Fin 127, ∑ g : Fin 6, D.pc (h * 6 + g) s t := by
    refine Finset.sum_le_sum fun t _ => ?_
    have h0 : 0 ≤ ∑ g : Fin 6, D.pc (h * 6 + g) s t := Finset.sum_nonneg fun _ _ => D.pc_nonneg _ _ _
    split
    · rw [mul_one]
    · rw [mul_zero]; exact h0
  rw [Finset.sum_comm] at h1
  refine h1.trans ((Finset.sum_le_sum fun (g : Fin 6) _ => D.pc_sum_le (h * 6 + g.val) s).trans ?_)
  simp

/-- A score counts as masked exactly after the query's own block. -/
theorem low_lt_cand (h s n : ℕ) : (low : EReal) < D.cand h s n ↔ n ≤ s / 64 := by
  unfold cand
  by_cases hn : n ≤ s / 64
  · rw [if_pos hn]
    refine ⟨fun _ => hn, fun _ => ?_⟩
    split
    · exact_mod_cast low_neg.trans (by norm_num)
    · exact_mod_cast low_neg.trans_le (D.blk_nonneg h s n)
  · rw [if_neg hn]
    exact ⟨fun h => absurd h not_lt_bot, fun h => absurd h hn⟩

theorem cand_le (h s n : ℕ) : D.cand h s n ≤ ((1000000000 : ℝ) : EReal) := by
  unfold cand
  split
  · split
    · exact le_rfl
    · exact_mod_cast (D.blk_le h s n).trans (by norm_num)
  · exact bot_le

/-- The query's own block is selected. -/
theorem sel_self (h s : ℕ) : D.sel h s (s / 64) := by
  refine ⟨?_, le_rfl⟩
  unfold above
  have e : D.cand h s (s / 64) = ((1000000000 : ℝ) : EReal) := by
    unfold cand
    rw [if_pos le_rfl, if_pos (Or.inr (by omega))]
  rw [e, Finset.filter_false_of_mem fun (m : Fin 32) _ => not_lt.mpr (D.cand_le h s m.val)]
  simp

/-- The scores of a row do not tie at the selection's border. -/
def Apart (h s : ℕ) : Prop :=
  (fun n : Fin 32 => D.cand h s n) (TopK.place (fun n : Fin 32 => D.cand h s n) 16)
      < (fun n : Fin 32 => D.cand h s n) (TopK.place (fun n : Fin 32 => D.cand h s n) 15)
    ∨ (fun n : Fin 32 => D.cand h s n) (TopK.place (fun n : Fin 32 => D.cand h s n) 16) ≤ (low : EReal)

/-- Being among the sixteen greatest scores is being exceeded by fewer than sixteen. -/
theorem sel_iff (h s : ℕ) (ap : D.Apart h s) (n : Fin 32) :
    (∃ k : Fin 32, k.val < 16 ∧ TopK.place (fun n : Fin 32 => D.cand h s n) k = n
      ∧ (low : EReal) < D.cand h s (TopK.place (fun n : Fin 32 => D.cand h s n) k)) ↔ D.sel h s n := by
  constructor
  · rintro ⟨k, hk, hp, hl⟩
    rw [hp] at hl
    refine ⟨?_, (D.low_lt_cand h s n).mp hl⟩
    have := (TopK.among_iff (fun n : Fin 32 => D.cand h s n) low ap n hl).mp ⟨k, hk, hp⟩
    unfold above
    convert this
  · rintro ⟨ha, hn⟩
    have hl := (D.low_lt_cand h s n).mpr hn
    obtain ⟨k, hk, hp⟩ := (TopK.among_iff (fun n : Fin 32 => D.cand h s n) low ap n hl).mpr (by
      unfold above at ha
      convert ha)
    exact ⟨k, hk, hp, by rw [hp]; exact hl⟩

end Data

end Cert.Spec

end
-- ==== Proof.RefAtt.lean ====
/-
  The reference's selected and sliding-window attention, and its result, read as mathematics.
-/
module

public import proofs.«01_k».proof.Proof.RefComp
public import proofs.«01_k».proof.Proof.Select
public import Idealize.ShloMosaic.Lib.Routing.OpsOrder

@[expose] public section

noncomputable section

namespace Cert.Ref

open Cert.ReferenceIdeal Cert.ReferenceIdeal.Read Cert.ReferenceIdeal.Gen Idealize.ShloMosaic Idealize.ShloMosaic.TcCoe
open Idealize.SL.Sem Idealize.ShloMosaic.StableHlo Cert.Spec Idealize.ShloMosaic.ValueIdx

variable {D : Data} {x0 : Arr S1x2048x768} {x1 : Arr S768x768} {x2 x3 : Arr S128x768} {x6 x7 : Arr S2x2048x64}
  (H : Holds D x0 x1 x2 x3 x6 x7)
include H

theorem row_at (a : Fin 2) (s : Fin 2048) :
    TopK.rowOf (val_main_v210 (F := Ideal) x0 x1 x2 x6) a s = fun n => D.cand a.val s.val n.val :=
  funext fun _ => cand_at H _

omit H in
theorem ix3_eta {a b c : ℕ} (i : (⟨3, ![a, b, c]⟩ : Shape).Idx) : i = ix3 (i 0 : Fin a) (i 1 : Fin b) (i 2 : Fin c) := by
  funext k
  match k with
  | ⟨0, _⟩ => rfl
  | ⟨1, _⟩ => rfl
  | ⟨2, _⟩ => rfl

theorem values_ix (a : Fin 2) (s : Fin 2048) (k : Fin 16) :
    val_main_values (F := Ideal) x0 x1 x2 x6 (ix3 a s k)
      = D.cand a.val s.val (TopK.place (fun n : Fin 32 => D.cand a.val s.val n)
          ⟨k.val, lt_of_lt_of_le k.isLt (by decide)⟩).val := by
  have r := row_at H a s
  unfold val_main_values
  generalize val_main_v210 (F := Ideal) x0 x1 x2 x6 = y at r ⊢
  rw [TopK.topK_values (K := 16) (by decide) y sliceFits_S2x2048x32_S2x2048x16 a s k, r]

theorem places_ix (a : Fin 2) (s : Fin 2048) (k : Fin 16) :
    val_main_indices (F := Ideal) x0 x1 x2 x6 (ix3 a s k)
      = BitVec.ofNat 32 (TopK.place (fun n : Fin 32 => D.cand a.val s.val n)
          ⟨k.val, lt_of_lt_of_le k.isLt (by decide)⟩).val := by
  have r := row_at H a s
  unfold val_main_indices
  generalize val_main_v210 (F := Ideal) x0 x1 x2 x6 = y at r ⊢
  rw [TopK.topK_places (K := 16) (by decide) y sliceFits_S2x2048x32_S2x2048x16 a s k, r]

theorem values_at (i : S2x2048x16.Idx) :
    val_main_values (F := Ideal) x0 x1 x2 x6 i
      = D.cand (i 0).val (i 1).val (TopK.place (fun n : Fin 32 => D.cand (i 0).val (i 1).val n)
          ⟨(i 2).val, lt_of_lt_of_le (show (i 2).val < 16 from (i 2).isLt) (by decide)⟩).val :=
  (congrArg (val_main_values (F := Ideal) x0 x1 x2 x6) (ix3_eta i)).trans (values_ix H (i 0) (i 1) (i 2))

theorem places_at (i : S2x2048x16.Idx) :
    val_main_indices (F := Ideal) x0 x1 x2 x6 i
      = BitVec.ofNat 32 (TopK.place (fun n : Fin 32 => D.cand (i 0).val (i 1).val n)
          ⟨(i 2).val, lt_of_lt_of_le (show (i 2).val < 16 from (i 2).isLt) (by decide)⟩).val :=
  (congrArg (val_main_indices (F := Ideal) x0 x1 x2 x6) (ix3_eta i)).trans (places_ix H (i 0) (i 1) (i 2))

/-- The selection. -/
theorem sel_at (ap : ∀ h s, h < 2 → s < 2048 → D.Apart h s) (i : S2x2048x32.Idx) :
    val_main_v221 (F := Ideal) x0 x1 x2 x6 i = 1#1 ↔ D.sel (i 0).val (i 1).val (i 2).val := by
  have h2 : (i 2).val < 32 := (i 2).isLt
  have e : val_main_v221 (F := Ideal) x0 x1 x2 x6 i
      = Finset.univ.fold IntOp.ori 0#1 fun k : Fin 16 => val_main_v220 (F := Ideal) x0 x1 x2 x6
          (fun a => match a with
            | ⟨0, _⟩ => i 0
            | ⟨1, _⟩ => i 1
            | ⟨2, _⟩ => k
            | ⟨3, _⟩ => i 2) := by
    unfold val_main_v221
    generalize val_main_v220 (F := Ideal) x0 x1 x2 x6 = y
    refine (Host.reduce_eq_fold_single _ y _ _ (by decide) _ i).trans ?_
    rw [show val_main_c_31 (F := Ideal) (Shape.Idx.first h_S_) = 0#1 from rfl]
    refine congrArg (Finset.fold IntOp.ori 0#1 · Finset.univ) (funext fun k => congrArg y (funext fun a => Fin.ext ?_))
    match a with
    | ⟨0, _⟩ => rfl
    | ⟨1, _⟩ => rfl
    | ⟨2, _⟩ => rfl
    | ⟨3, _⟩ => rfl
  rw [e, Routing.fold_ori]
  have key := D.sel_iff (i 0).val (i 1).val (ap _ _ (i 0).isLt (i 1).isLt) ⟨(i 2).val, h2⟩
  rw [← key]
  have at_k : ∀ k : Fin 16, val_main_v220 (F := Ideal) x0 x1 x2 x6
          (fun a => match a with
            | ⟨0, _⟩ => i 0
            | ⟨1, _⟩ => i 1
            | ⟨2, _⟩ => k
            | ⟨3, _⟩ => i 2) = 1#1
      ↔ TopK.place (fun n : Fin 32 => D.cand (i 0).val (i 1).val n) ⟨k.val, by omega⟩ = ⟨(i 2).val, h2⟩
        ∧ (low : EReal) < D.cand (i 0).val (i 1).val
            (TopK.place (fun n : Fin 32 => D.cand (i 0).val (i 1).val n) ⟨k.val, by omega⟩) := by
    intro k
    simp only [val_main_v220_apply, val_main_v217_apply, val_main_v215_apply, val_main_v213_apply, places_at H,
      val_main_v216_apply, val_main_v214_apply, val_main_v155_apply, val_main_v219_apply, val_main_v218_apply,
      val_main_v212_apply, values_at H, val_main_v211_apply, val_main_cst_30_apply]
    have hp := (TopK.place (fun n : Fin 32 => D.cand (i 0).val (i 1).val n) ⟨k.val, by omega⟩).isLt
    rw [WordCmp.cmpi_eq_ofNat (by omega) (by omega)]
    have hc : ∀ x y : EReal, FloatOps.cmpf (F := Ideal) (φ := .f32) .ogt x y = BitVec.ofBool (decide (y < x)) :=
      fun _ _ => rfl
    have hl : FloatOps.ofBits (F := Ideal) .f32 0xEFA18F08#32 = (low : EReal) := lit_low
    rw [hc, hl]
    simp only [hlo_ix, Fin.ext_iff]
  constructor
  · rintro ⟨k, _, hk⟩
    obtain ⟨a, b⟩ := (at_k k).mp hk
    exact ⟨⟨k.val, by omega⟩, k.isLt, a, b⟩
  · rintro ⟨k, hk, a, b⟩
    exact ⟨⟨k.val, hk⟩, Finset.mem_univ _, (at_k ⟨k.val, hk⟩).mpr ⟨a, b⟩⟩

omit H in
theorem causal_at (i : S2048x2048.Idx) :
    val_main_v230 (F := Ideal) i = BitVec.ofBool (decide ((i 1).val ≤ (i 0).val)) := by
  have h0 : (i 0).val < 2048 := (i 0).isLt
  have h1 : (i 1).val < 2048 := (i 1).isLt
  simp only [val_main_v230_apply, val_main_v228_apply, val_main_v226_apply, val_main_v222_apply, val_main_v229_apply,
    val_main_v227_apply]
  simp (disch := omega) only [hlo_ix]

theorem spKey_at (ap : ∀ h s, h < 2 → s < 2048 → D.Apart h s) (i : S2x2048x2048.Idx) :
    val_main_v233 (F := Ideal) x0 x1 x2 x6 i = 1#1 ↔ D.spKey (i 0).val (i 1).val (i 2).val := by
  have h0 : (i 0).val < 2 := (i 0).isLt
  have h1 : (i 1).val < 2048 := (i 1).isLt
  have h2 : (i 2).val < 2048 := (i 2).isLt
  rw [val_main_v233_apply, IntOp.andi_eq_one, val_main_v225_apply, val_main_v224_apply, val_main_v223_apply, sel_at H ap,
    val_main_v232_apply, val_main_v231_apply, causal_at]
  simp only [hlo_ix]
  unfold Data.spKey
  have e0 : (((i 0).val * 2048 + (i 1).val) * 2048 + (i 2).val) / 4194304 = (i 0).val := by omega
  have e1 : (((i 0).val * 2048 + (i 1).val) * 2048 + (i 2).val) / 2048 % 2048 = (i 1).val := by omega
  have e2 : (((i 0).val * 2048 + (i 1).val) * 2048 + (i 2).val) / 64 % 32 = (i 2).val / 64 := by omega
  rw [e0, e1, e2]

omit H in
theorem sle_gap (a b : ℕ) (ha : a < 2048) (hb : b < 2048) :
    IntOp.cmpi .sle (IntOp.subi (BitVec.ofNat 32 a) (BitVec.ofNat 32 b)) (512#32)
      = BitVec.ofBool (decide (a - b ≤ 512)) := by
  rw [WordCmp.cmpi_sle_eq]
  congr 1
  refine decide_eq_decide.mpr ?_
  show (BitVec.ofNat 32 a - BitVec.ofNat 32 b).toInt ≤ (512 : Int) ↔ _
  rw [BitVec.toInt_sub, WordCmp.toInt_ofNat_of_lt (by omega), WordCmp.toInt_ofNat_of_lt (by omega)]
  show Int.bmod ((a : Int) - (b : Int)) 4294967296 ≤ 512 ↔ _
  unfold Int.bmod
  dsimp only
  split <;> omega

omit H in
theorem swKey_at (i : S2048x2048.Idx) :
    val_main_v261 (F := Ideal) i = BitVec.ofBool (decide ((i 1).val ≤ (i 0).val) && decide ((i 0).val - (i 1).val ≤ 512)) := by
  have h0 : (i 0).val < 2048 := (i 0).isLt
  have h1 : (i 1).val < 2048 := (i 1).isLt
  rw [val_main_v261_apply, causal_at]
  simp only [val_main_v260_apply, val_main_v258_apply, val_main_v256_apply, val_main_v254_apply, val_main_v222_apply,
    val_main_v257_apply, val_main_v255_apply, val_main_v259_apply, val_main_c_36_apply]
  rw [sle_gap _ _ h0 h1, WordCmp.andi_ofBool]

end Cert.Ref

end
-- ==== Proof.KMask.lean ====
/-
  The attention kernel's masks at an index: which windows are complete, which window lies in which block of keys, which
  blocks are forced or causal, and the two bands' biases. A row of the kernel's 1536 is one of six heads' 256 queries.
-/
module

public import proofs.«01_k».proof.Proof.KPos
public import proofs.«01_k».proof.Proof.RefAtt
public import Idealize.ShloMosaic.Lib.Pointwise
public import Idealize.ShloMosaic.Lib.Routing.Words
public import Idealize.ShloMosaic.Lib.Tactic.IndexArith

@[expose] public section

noncomputable section

namespace Cert.KVal

open Cert.KernelIdeal Cert.KernelIdeal.Gen Cert.KernelIdeal.Run Idealize.ShloMosaic Cert.Spec

/-- Row `r` of the six heads' rows is query `r % 256`. -/
abbrev rowq (r : Fin 1536) : Fin 256 := ⟨r.val % 256, Nat.mod_lt _ (by decide)⟩

/-- Six copies of a block of 256 rows, read at a row. -/
theorem six {α : Type} {n : ℕ} (x : (⟨2, ![256, n]⟩ : Shape).Idx → α)
    (h : Shape.Concatenates (([⟨_, x⟩, ⟨_, x⟩, ⟨_, x⟩, ⟨_, x⟩, ⟨_, x⟩, ⟨_, x⟩] : List ((s : Shape) × (s.Idx → α))).map (·.1)) ⟨2, ![1536, n]⟩ 0)
    (r : Fin 1536) (c : Fin n) :
    concatenate ⟨2, ![1536, n]⟩ 0 [⟨_, x⟩, ⟨_, x⟩, ⟨_, x⟩, ⟨_, x⟩, ⟨_, x⟩, ⟨_, x⟩] h (ix2 r c) = x (ix2 (rowq r) c) :=
  concatenate_replicate_apply (t := ⟨2, ![1536, n]⟩) (s₁ := ⟨2, ![256, n]⟩) 0 6 x h rfl (ix2 r c) (ix2 (rowq r) c) rfl
    (fun b hb => by
      match b with
      | ⟨0, _⟩ => exact absurd rfl hb
      | ⟨1, _⟩ => rfl)

theorem add_w {a b : ℕ} : IntOp.addi (BitVec.ofNat 32 a) (BitVec.ofNat 32 b) = BitVec.ofNat 32 (a + b) := by
  unfold IntOp.addi; exact (BitVec.ofNat_add (n := 32) a b).symm
theorem mul_w {a b : ℕ} : IntOp.muli (BitVec.ofNat 32 a) (BitVec.ofNat 32 b) = BitVec.ofNat 32 (a * b) := by
  unfold IntOp.muli; exact (BitVec.ofNat_mul (n := 32) a b).symm
theorem sub_w {a b : ℕ} (h : b ≤ a) : IntOp.subi (BitVec.ofNat 32 a) (BitVec.ofNat 32 b) = BitVec.ofNat 32 (a - b) := by
  unfold IntOp.subi
  have e := BitVec.ofNat_add (n := 32) (a - b) b
  rw [Nat.sub_add_cancel h] at e
  rw [e]; exact BitVec.add_sub_cancel _ _

/-- The floor division by a power of two as the kernel spells it, at words that are small numbers. -/
theorem floor_w (u : ArithUnit) {a k : ℕ} (ha : a < 2 ^ 31) (h0 : 0 < k) (hk : k < 2 ^ 31) :
    Scalar.select (IntOp.andi
        (IntOp.cmpi .ne (IntOp.subi ((IntOp.cmpi .sgt (BitVec.ofNat 32 a) 0#32).setWidth 32)
            ((IntOp.cmpi .slt (BitVec.ofNat 32 a) 0#32).setWidth 32)) 1#32)
        (IntOp.cmpi .ne (IntOp.remsi u (BitVec.ofNat 32 a) (BitVec.ofNat 32 k)) 0#32))
      (IntOp.subi (IntOp.divsi u (BitVec.ofNat 32 a) (BitVec.ofNat 32 k)) 1#32)
      (IntOp.divsi u (BitVec.ofNat 32 a) (BitVec.ofNat 32 k)) = BitVec.ofNat 32 (a / k) := by
  rw [Routing.divsi_word u ha h0 hk, Routing.remsi_word u ha h0 hk]
  have e1 : IntOp.cmpi .slt (BitVec.ofNat 32 a) 0#32 = 0#1 := by
    rw [show (0#32 : BitVec 32) = BitVec.ofNat 32 0 from rfl, WordCmp.cmpi_slt_ofNat (by omega) (by omega)]; simp
  rcases Nat.eq_zero_or_pos a with h | h
  · subst h
    have e2 : IntOp.cmpi .ne (BitVec.ofNat 32 (0 % k)) 0#32 = 0#1 := by simp [IntOp.cmpi]
    rw [e2]
    generalize IntOp.cmpi .ne _ _ = w
    revert w; generalize IntOp.subi _ _ = p; generalize BitVec.ofNat 32 (0 / k) = q
    intro w; have : IntOp.andi w 0#1 = 0#1 := by revert w; decide
    rw [this]; rfl
  · have e2 : IntOp.cmpi .sgt (BitVec.ofNat 32 a) 0#32 = 1#1 := by
      rw [show (0#32 : BitVec 32) = BitVec.ofNat 32 0 from rfl, WordCmp.cmpi_sgt_ofNat (by omega) (by omega)]; simp [h]
    rw [e1, e2]
    have e3 : IntOp.cmpi .ne (IntOp.subi ((1#1 : BitVec 1).setWidth 32) ((0#1 : BitVec 1).setWidth 32)) 1#32 = 0#1 := by decide
    rw [e3]
    generalize IntOp.cmpi .ne _ _ = w
    have : IntOp.andi 0#1 w = 0#1 := by revert w; decide
    rw [this]; rfl

variable (i : grid2.Coords)

theorem coord_lt : (i 0).val < 8 := (i 0).isLt

theorem pay2_at (r : Fin 256) (z : Fin 1) : k2_pay2 i (ix2 r z) = BitVec.ofNat 32 ((i 0).val * 256 + r.val) := by
  pointwise [k2_pay2]
  rw [show Scalar.muli (BitVec.ofNat 32 (i 0).val) 256#32 = BitVec.ofNat 32 ((i 0).val * 256) from gw_eq i, add_w]

/-- Window `t` is complete at the row's query. -/
theorem pay3_at (r : Fin 1536) (t : Fin 128) :
    k2_pay3 i (ix2 r t) = BitVec.ofBool (decide (t.val * 16 + 31 ≤ (i 0).val * 256 + r.val % 256 ∧ t.val < 127)) := by
  have hb := coord_lt i
  have ht := t.isLt
  have hr : r.val % 256 < 256 := Nat.mod_lt _ (by decide)
  unfold k2_pay3
  dsimp only
  rw [six]
  pointwise
  rw [pay2_at]
  dsimp only
  rw [mul_w, add_w, sub_w (by omega), WordCmp.cmpi_sge_ofNat (by omega) (by omega), WordCmp.cmpi_slt_ofNat (by omega) (by omega),
    WordCmp.andi_ofBool, ← Bool.decide_and]
  exact congrArg BitVec.ofBool (decide_eq_decide.mpr (by omega))

theorem sitofp_bit (p : Prop) [Decidable p] :
    FloatOps.sitofp (F := Ideal) .f32 (BitVec.setWidth 32 (BitVec.ofBool (decide p))) = ((if p then 1 else 0 : ℝ) : EReal) := by
  by_cases h : p
  · rw [if_pos h, decide_eq_true h]
    have e : (BitVec.setWidth 32 (BitVec.ofBool true)).toInt = 1 := by decide
    show (((BitVec.setWidth 32 (BitVec.ofBool true)).toInt : ℝ) : EReal) = _
    rw [e]; norm_num
  · rw [if_neg h, decide_eq_false h]
    show (((BitVec.setWidth 32 (BitVec.ofBool false)).toInt : ℝ) : EReal) = _
    norm_num

/-- Window `t` lies in block `t / 4`. -/
theorem pay4_at (t : Fin 128) (n : Fin 32) :
    k2_pay4 (F := Ideal) (ix2 t n) = ((if t.val / 4 = n.val then 1 else 0 : ℝ) : EReal) := by
  have ht := t.isLt
  have hn := n.isLt
  pointwise [k2_pay4]
  rw [show Scalar.subi (Scalar.extui (Scalar.cmpi .sgt 4#32 0#32)) (Scalar.extui (Scalar.cmpi .slt 4#32 0#32)) = 1#32 by decide,
    floor_w _ (by omega) (by omega) (by omega), WordCmp.cmpi_eq_ofNat (by omega) (by omega), sitofp_bit]

/-- The query's own block. -/
theorem pay5_at (r : Fin 256) (z : Fin 1) :
    k2_pay5 (k2_pay2 i) 64#32 (ix2 r z) = BitVec.ofNat 32 (((i 0).val * 256 + r.val) / 64) := by
  have hb := coord_lt i
  have hr := r.isLt
  pointwise [k2_pay5]
  rw [pay2_at, show Scalar.subi (Scalar.extui (Scalar.cmpi .sgt 64#32 0#32)) (Scalar.extui (Scalar.cmpi .slt 64#32 0#32)) = 1#32 by decide,
    floor_w _ (by omega) (by omega) (by omega)]

/-- The word before a small number `m`: its signed comparison with a number. -/
theorem sge_pred {n m : ℕ} (hn : n < 2 ^ 30) (hm : m < 2 ^ 30) :
    IntOp.cmpi .sge (BitVec.ofNat 32 n) (IntOp.subi (BitVec.ofNat 32 m) 1#32) = BitVec.ofBool (decide (m ≤ n + 1)) := by
  rw [WordCmp.cmpi_sge_eq]
  congr 1
  refine decide_eq_decide.mpr ?_
  show (BitVec.ofNat 32 m - BitVec.ofNat 32 1).toInt ≤ _ ↔ _
  rw [BitVec.toInt_sub, WordCmp.toInt_ofNat_of_lt (by omega), WordCmp.toInt_ofNat_of_lt (by omega), WordCmp.toInt_ofNat_of_lt (by omega)]
  show Int.bmod ((m : Int) - ((1 : ℕ) : Int)) 4294967296 ≤ (n : Int) ↔ _
  unfold Int.bmod
  dsimp only
  split <;> omega

/-- The forced blocks: the first, the query's own and the one before it. -/
theorem pay6_at (r : Fin 256) (n : Fin 32) :
    k2_pay6 (k2_pay2 i) 64#32 (ix2 r n) = BitVec.ofBool (decide (n.val < 1 ∨
      (n.val ≤ ((i 0).val * 256 + r.val) / 64 ∧ ((i 0).val * 256 + r.val) / 64 ≤ n.val + 1))) := by
  have hb := coord_lt i
  have hr := r.isLt
  have hn := n.isLt
  pointwise [k2_pay6]
  rw [pay5_at, sge_pred (by omega) (by omega), WordCmp.cmpi_slt_ofNat (by omega) (by omega), WordCmp.cmpi_sle_ofNat (by omega) (by omega),
    WordCmp.andi_ofBool, WordCmp.ori_ofBool, ← Bool.decide_and, ← Bool.decide_or]

/-- The causal blocks. -/
theorem pay7_at (r : Fin 256) (n : Fin 32) :
    k2_pay7 (k2_pay2 i) 64#32 (ix2 r n) = BitVec.ofBool (decide (n.val ≤ ((i 0).val * 256 + r.val) / 64)) := by
  have hb := coord_lt i
  have hr := r.isLt
  have hn := n.isLt
  pointwise [k2_pay7]
  rw [pay5_at, WordCmp.cmpi_sle_ofNat (by omega) (by omega)]

theorem mask_eq : Named.named (F := Ideal) (φ := .f32) κ "mask" 0xF149F2CA#32 = ⊥ :=
  IdealRules.named_const.ideal_named_scalar _ _ _ _ rfl
theorem pmask_eq : Named.named (F := Ideal) (φ := .f32) κ "pmask" 0x7149F2CA#32 = ⊤ :=
  IdealRules.named_const.ideal_named_scalar _ _ _ _ rfl

theorem select_bit {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The diagonal block's bias. -/
theorem pay8_at (r : Fin 1536) (j : Fin 256) :
    k2_pay8 (F := Ideal) (ix2 r j) = if j.val ≤ r.val % 256 then 0 else ⊥ := by
  have hj := j.isLt
  have hr : r.val % 256 < 256 := Nat.mod_lt _ (by decide)
  unfold k2_pay8
  dsimp only
  rw [six]
  pointwise
  rw [WordCmp.cmpi_sle_ofNat (by omega) (by omega), select_bit, mask_eq]

/-- The window band's bias, the band beginning at key `k₀`. -/
theorem pay9_at (s₀ k₀ : ℕ) (hs : s₀ ≤ 1792) (hk : k₀ ≤ 1280) (r : Fin 1536) (j : Fin 768) :
    k2_pay9 (F := Ideal) (BitVec.ofNat 32 s₀) (BitVec.ofNat 32 k₀) (ix2 r j)
      = if k₀ + j.val ≤ s₀ + r.val % 256 ∧ s₀ + r.val % 256 - (k₀ + j.val) ≤ 512 then 0 else ⊥ := by
  have hj := j.isLt
  have hr : r.val % 256 < 256 := Nat.mod_lt _ (by decide)
  unfold k2_pay9
  dsimp only
  rw [six]
  pointwise
  rw [add_w, add_w, Cert.Ref.sle_gap _ _ (by omega) (by omega), WordCmp.cmpi_sle_ofNat (by omega) (by omega), WordCmp.andi_ofBool,
    ← Bool.decide_and, select_bit, mask_eq]

/-- A gate's column beside the six heads' rows. -/
theorem pay11_at (x : Vec Ideal S256x8 .f32) (r : Fin 1536) (z : Fin 1) : k2_pay11 x (ix2 r z) = x (ix2 (rowq r) 0) := by
  unfold k2_pay11
  rw [six]
  pointwise [k2_pay10]
theorem pay12_at (x : Vec Ideal S256x8 .f32) (r : Fin 1536) (z : Fin 1) : k2_pay12 x (ix2 r z) = x (ix2 (rowq r) 1) := by
  unfold k2_pay12
  rw [six]
  pointwise [k2_pay10]
theorem pay13_at (x : Vec Ideal S256x8 .f32) (r : Fin 1536) (z : Fin 1) : k2_pay13 x (ix2 r z) = x (ix2 (rowq r) 2) := by
  unfold k2_pay13
  rw [six]
  pointwise [k2_pay10]

end Cert.KVal

end
-- ==== Proof.KSel.lean ====
/-
  The attention kernel's compressed attention and block selection at an index, from the queries' block and a key head's
  compressed keys and values.
-/
module

public import proofs.«01_k».proof.Proof.KMask
public import proofs.«01_k».proof.Proof.Select

@[expose] public section

noncomputable section

namespace Cert.KVal

open Cert.KernelIdeal Cert.KernelIdeal.Gen Cert.KernelIdeal.Run Idealize.ShloMosaic Cert.Spec

/-- A sum over 128 windows whose last term vanishes. -/
theorem sum_windows (f : ℕ → EReal) (h : f 127 = 0) : ∑ t : Fin 128, f t.val = ∑ t : Fin 127, f t.val := by
  rw [Fin.sum_univ_castSucc]
  simp only [Fin.val_castSucc, Fin.val_last, h, add_zero]

section
variable (D : Data)

/-- The weights of the 128 windows, the last one a padding. -/
def wt' (h s t : ℕ) : ℝ := if t < 127 then D.wt h s t else 0
def pc' (h s t : ℕ) : ℝ := if t < 127 then D.pc h s t else 0

theorem tot_eq (h s : ℕ) : ∑ t : Fin 128, (wt' D h s t.val : EReal) = (D.tot h s : EReal) := by
  rw [sum_windows (fun t => (wt' D h s t : EReal)) (by simp [wt'])]
  unfold Data.tot
  rw [coe_sum]
  refine Finset.sum_congr rfl fun t _ => ?_
  rw [wt', if_pos t.isLt]

/-- Dividing by the sum or the floor, whichever is greater, is dividing by the sum. -/
theorem pc_eq (hB : D.Bounded floor) (h s t : ℕ) (hh : h < 12) (hs : s < 2048) :
    Ideal.div (wt' D h s t : EReal) (max (D.tot h s : EReal) (floor : EReal)) = (pc' D h s t : EReal) := by
  have key : Ideal.div (wt' D h s t : EReal) (max (D.tot h s : EReal) (floor : EReal))
      = ((wt' D h s t / max (D.tot h s) floor : ℝ) : EReal) := by
    rw [← EReal.coe_strictMono.monotone.map_max]
    exact div_coe _ _ (lt_of_lt_of_le floor_pos (le_max_right _ _)).ne'
  rw [key]
  congr 1
  unfold wt' pc'
  by_cases ht : t < 127
  · rw [if_pos ht, if_pos ht]
    by_cases h31 : 31 ≤ s
    · rw [max_eq_left (hB h s hh hs h31)]; rfl
    · have e : D.wt h s t = 0 := if_neg (by omega)
      rw [Data.pc, e, zero_div, zero_div]
  · rw [if_neg ht, if_neg ht, zero_div]

end

/-- What the kernel is handed for a key head `a` at grid point `b`. -/
structure Half (D : Data) (a b : ℕ) (q : Vec Ideal S6x256x64 .f32) (ck cv : Vec Ideal S1x128x64 .f32) : Prop where
  ha : a < 2
  hb : b < 8
  q_at : ∀ (g : Fin 6) (r : Fin 256) (d : Fin 64), q (ix3 g r d) = ((D.q (a * 6 + g.val) (b * 256 + r.val) d.val * (1 / 8) : ℝ) : EReal)
  ck_at : ∀ (t : Fin 128) (d : Fin 64), t.val < 127 → ck (ix3 0 t d) = (D.ck a t.val d.val : EReal)
  cv_at : ∀ (t : Fin 128) (d : Fin 64), t.val < 127 → cv (ix3 0 t d) = D.cv a t.val d.val

section
variable {D : Data} {i : grid2.Coords} {a : ℕ} {q : Vec Ideal S6x256x64 .f32} {ck cv : Vec Ideal S1x128x64 .f32}
  (H : Half D a (i 0).val q ck cv)

/-- The head and the query of a row. -/
abbrev hd (a : ℕ) (r : ℕ) : ℕ := a * 6 + r / 256
abbrev qr (b : ℕ) (r : ℕ) : ℕ := b * 256 + r % 256

include H

theorem pay14_at (r : Fin 1536) (d : Fin 64) :
    k2_pay14 q (ix2 r d) = ((D.q (hd a r.val) (qr (i 0).val r.val) d.val * (1 / 8) : ℝ) : EReal) := by
  pointwise [k2_pay14]
  rw [H.q_at]

theorem sc_at (r : Fin 1536) (t : Fin 128) (ht : t.val < 127) :
    ∑ x : Fin 64, k2_pay14 q (ix2 r x) * ck (ix3 0 t x) = (D.sc (hd a r.val) (qr (i 0).val r.val) t.val : EReal) := by
  have hr := r.isLt
  unfold Data.sc
  rw [Finset.sum_mul, coe_sum]
  refine Finset.sum_congr rfl fun d _ => ?_
  rw [pay14_at H, H.ck_at t d ht, ← EReal.coe_mul]
  have e : hd a r.val / 6 = a := by unfold hd; omega
  rw [e]
  congr 1
  ring

theorem wt_at (r : Fin 1536) (t : Fin 128) :
    Ideal.exp (Scalar.select (k2_pay3 i (ix2 r t)) (∑ x : Fin 64, k2_pay14 q (ix2 r x) * ck (ix3 0 t x))
        (Named.named (F := Ideal) (φ := .f32) κ "mask" 0xF149F2CA#32))
      = (wt' D (hd a r.val) (qr (i 0).val r.val) t.val : EReal) := by
  rw [pay3_at, select_bit, mask_eq]
  unfold wt' Data.wt
  by_cases ht : t.val < 127
  · rw [if_pos ht]
    by_cases hs : t.val * 16 + 31 ≤ qr (i 0).val r.val
    · rw [if_pos ⟨hs, ht⟩, if_pos hs, sc_at H r t ht, exp_coe]
    · rw [if_neg (fun h => hs h.1), if_neg hs, exp_bot]; rfl
  · rw [if_neg (fun h => ht h.2), if_neg ht, exp_bot]; rfl

theorem pay15_at (hB : D.Bounded floor) (r : Fin 1536) (t : Fin 128) :
    k2_pay15 (k2_pay3 i) q ck (ix2 r t) = (pc' D (hd a r.val) (qr (i 0).val r.val) t.val : EReal) := by
  have hr := r.isLt
  have h1 := H.ha
  have h2 := H.hb
  pointwise [k2_pay15]
  simp only [wt_at H]
  rw [tot_eq, lit_floor]
  exact pc_eq D hB _ _ _ (by unfold hd; omega) (by unfold qr; omega)

/-- The compressed attention. -/
theorem pay16_at (hB : D.Bounded floor) (r : Fin 1536) (d : Fin 64) :
    k2_pay16 (k2_pay3 i) q ck cv (ix2 r d) = D.cmp (hd a r.val) (qr (i 0).val r.val) d.val := by
  have hr := r.isLt
  pointwise [k2_pay16]
  simp only [pay15_at H hB]
  rw [Fin.sum_univ_castSucc]
  have e : hd a r.val / 6 = a := by unfold hd; omega
  have e0 : pc' D (hd a r.val) (qr (i 0).val r.val) (Fin.last 127).val = 0 := if_neg (by decide)
  rw [e0, EReal.coe_zero, zero_mul, add_zero]
  unfold Data.cmp
  refine Finset.sum_congr rfl fun t _ => ?_
  rw [H.cv_at _ _ t.isLt, e, pc', if_pos (show (Fin.castSucc t).val < 127 from t.isLt)]
  rfl

end

/-- The blocks' scores, from the masks and the compressed weights. -/
def scores (v45 : FVec Ideal S128x32 .f32) (v80 v82 : IVec S256x32 1) (v130 : FVec Ideal S1536x128 .f32) : FVec Ideal S256x32 .f32 :=
  select v82
    (select v80 (broadcast S256x32 (Scalar.ofBits .f32 0x4E6E6B28#32))
      (matmul dot_S256x128_S128x32_S256x32_1_0_0_1_n_n none
        (multiReduction .add [0] S256x128 (shapeCast S6x256x128 v130 shapeCasts_S1536x128_S6x256x128) 0x00000000#32 reduces_S6x256x128_S256x128 (.inl rfl) rfl)
        v45 (constant S256x32 .f32 0x00000000#32)))
    (broadcast S256x32 (Named.named κ "mask" 0xF149F2CA#32))

/-- The mask of the selected blocks, from the scores. -/
def picked (x : FVec Ideal S256x32 .f32) : FVec Ideal S256x32 .f32 :=
  mulf (subf (sitofp (F := Ideal) .f32 (extui 32 (andi
      (cmpf (F := Ideal) .olt (multiReduction .add [1] S256x32 (sitofp (F := Ideal) .f32 (extui 32 (cmpf (F := Ideal) .ogt
          (broadcastTo S256x32x32 (shapeCast S256x32x1 x shapeCasts_S256x32_S256x32x1) broadcasts_S256x32x1_S256x32x32)
          (broadcastTo S256x32x32 (shapeCast S256x1x32 x shapeCasts_S256x32_S256x1x32) broadcasts_S256x1x32_S256x32x32)) natLt_1_32))
        0x00000000#32 reduces_S256x32x32_S256x32 (.inl rfl) rfl)
        (broadcast S256x32 (Scalar.ofBits .f32 0x41800000#32)))
      (cmpf (F := Ideal) .ogt x (broadcast S256x32 (Scalar.ofBits .f32 0xEFA18F08#32)))) natLt_1_32))
    (broadcast S256x32 (Scalar.ofBits .f32 0x3F800000#32)))
    (broadcast S256x32 (Named.named κ "pmask" 0x7149F2CA#32))

theorem pay17_eq (v45 : FVec Ideal S128x32 .f32) (v80 v82 : IVec S256x32 1) (v118 : FVec Ideal S1536x64 .f32) (v130 : FVec Ideal S1536x128 .f32) :
    k2_pay17 v45 v80 v82 v118 v130
      = concatenate S1536x96 1 [⟨S1536x64, v118⟩, ⟨S1536x32, concatenate S1536x32 0
          [⟨S256x32, picked (scores v45 v80 v82 v130)⟩, ⟨S256x32, picked (scores v45 v80 v82 v130)⟩, ⟨S256x32, picked (scores v45 v80 v82 v130)⟩,
           ⟨S256x32, picked (scores v45 v80 v82 v130)⟩, ⟨S256x32, picked (scores v45 v80 v82 v130)⟩, ⟨S256x32, picked (scores v45 v80 v82 v130)⟩]
          concatenates_S256x32_S256x32_S256x32_S256x32_S256x32_S256x32_S1536x32_d0⟩] concatenates_S1536x64_S1536x32_S1536x96_d1 := rfl

/-- One less than a bit, times infinity. -/
theorem mask_val (p : Prop) [Decidable p] : (((if p then 1 else 0 : ℝ) : EReal) - 1) * ⊤ = if p then 0 else ⊥ := by
  by_cases h : p
  · rw [if_pos h, if_pos h]
    have e : ((1 : ℝ) : EReal) - 1 = 0 := by rw [← EReal.coe_one, ← EReal.coe_sub, sub_self, EReal.coe_zero]
    rw [e, zero_mul]
  · rw [if_neg h, if_neg h]
    have e : ((0 : ℝ) : EReal) - 1 = ((-1 : ℝ) : EReal) := by rw [← EReal.coe_one, ← EReal.coe_sub]; norm_num
    rw [e, EReal.coe_mul_top_of_neg (by norm_num)]

open Classical in
/-- A block of score `cand` is masked unless it is selected. -/
theorem picked_at (D : Data) (h s : ℕ) (x : FVec Ideal S256x32 .f32) (r : Fin 256) (hx : ∀ n : Fin 32, x (ix2 r n) = D.cand h s n.val) (n : Fin 32) :
    picked x (ix2 r n) = if D.sel h s n.val then 0 else ⊥ := by
  have hc : (∑ m : Fin 32, (((if D.cand h s n.val < D.cand h s m.val then 1 else 0 : ℝ)) : EReal)) = ((D.above h s n.val : ℝ) : EReal) := by
    rw [← coe_sum, Finset.sum_boole]
    rfl
  pointwise [picked]
  simp only [hx, sitofp_bit]
  rw [pmask_eq, lit_sixteen, lit_low, WordCmp.andi_ofBool, ← Bool.decide_and]
  have e : (∑ m : Fin 32, (((if D.cand h s n.val < D.cand h s m.val then 1 else 0 : ℝ)) : EReal)) < ((16 : ℝ) : EReal)
      ∧ (low : EReal) < D.cand h s n.val ↔ D.sel h s n.val := by
    rw [hc, EReal.coe_lt_coe_iff, D.low_lt_cand]
    exact and_congr (by exact_mod_cast Iff.rfl) Iff.rfl
  refine Eq.trans ?_ (mask_val (D.sel h s n.val))
  rw [← sitofp_bit]
  refine congrArg (fun w => (FloatOps.sitofp (F := Ideal) .f32 (BitVec.setWidth 32 (BitVec.ofBool w)) - 1) * ⊤) ?_
  exact decide_eq_decide.mpr (by convert e)

section
variable {D : Data} {i : grid2.Coords} {a : ℕ} {q : Vec Ideal S6x256x64 .f32} {ck cv : Vec Ideal S1x128x64 .f32}
  (H : Half D a (i 0).val q ck cv)
include H

theorem scores_at (hB : D.Bounded floor) (r : Fin 256) (n : Fin 32) :
    scores k2_pay4 (k2_pay6 (k2_pay2 i) 64#32) (k2_pay7 (k2_pay2 i) 64#32) (k2_pay15 (k2_pay3 i) q ck) (ix2 r n)
      = D.cand a ((i 0).val * 256 + r.val) n.val := by
  have hr := r.isLt
  pointwise [scores]
  rw [pay6_at, pay7_at, select_bit, select_bit, mask_eq, lit_forced]
  simp only [pay15_at H hB, pay4_at]
  unfold Data.cand
  by_cases hn : n.val ≤ ((i 0).val * 256 + r.val) / 64
  · rw [if_pos hn, if_pos hn]
    by_cases hf : n.val < 1 ∨ ((i 0).val * 256 + r.val) / 64 ≤ n.val + 1
    · rw [if_pos hf, if_pos (by tauto)]
    · rw [if_neg hf, if_neg (by tauto)]
      unfold Data.blk
      rw [coe_sum, Fin.sum_univ_castSucc]
      have e0 : ∀ h s, pc' D h s (Fin.last 127).val = 0 := fun _ _ => if_neg (by decide)
      simp only [e0, EReal.coe_zero, Finset.sum_const_zero, zero_mul, add_zero]
      refine Finset.sum_congr rfl fun t _ => ?_
      rw [EReal.coe_mul, coe_sum]
      refine congrArg (· * _) (Finset.sum_congr rfl fun g _ => ?_)
      have hg := g.isLt
      have e1 : hd a (g.val * 256 + r.val) = a * 6 + g.val := by unfold hd; omega
      have e2 : qr (i 0).val (g.val * 256 + r.val) = (i 0).val * 256 + r.val := by unfold qr; omega
      show ((pc' D (hd a (g.val * 256 + r.val)) (qr (i 0).val (g.val * 256 + r.val)) t.val : ℝ) : EReal) = _
      rw [e1, e2, pc', if_pos t.isLt]
  · rw [if_neg hn, if_neg hn]

open Classical in
/-- The queries with the selection's mask beside them. -/
theorem pay17_at (hB : D.Bounded floor) (r : Fin 1536) (e : Fin 96) :
    k2_pay17 k2_pay4 (k2_pay6 (k2_pay2 i) 64#32) (k2_pay7 (k2_pay2 i) 64#32) (k2_pay14 q) (k2_pay15 (k2_pay3 i) q ck) (ix2 r e)
      = if e.val < 64 then ((D.q (hd a r.val) (qr (i 0).val r.val) e.val * (1 / 8) : ℝ) : EReal)
        else if D.sel a (qr (i 0).val r.val) (e.val - 64) then 0 else ⊥ := by
  have he := e.isLt
  rw [pay17_eq]
  by_cases h : e.val < 64
  · rw [if_pos h]
    refine (concatenate_pair_apply_left (t := S1536x96) (s₁ := S1536x64) (s₂ := S1536x32) 1 _ _ _ (ix2 r e) rfl (ix2 r ⟨e.val, h⟩)
      (fun b => match b with | ⟨0, _⟩ => rfl | ⟨1, _⟩ => rfl)).trans ?_
    exact pay14_at H r ⟨e.val, h⟩
  · rw [if_neg h]
    refine (concatenate_pair_apply_right (t := S1536x96) (s₁ := S1536x64) (s₂ := S1536x32) 1 _ _ _ (ix2 r e) rfl rfl (ix2 r ⟨e.val - 64, by omega⟩)
      (fun b => match b with | ⟨0, _⟩ => fun _ => rfl | ⟨1, _⟩ => fun h' => absurd rfl h') (by show e.val - 64 + 64 = e.val; omega)).trans ?_
    rw [six]
    exact picked_at D a _ _ _ (fun n => scores_at H hB _ n) _

end

end Cert.KVal

end
-- ==== Proof.KLoop.lean ====
/-
  The attention kernel's passes over the keys: the weights it sums, the loop of 512 keys at a time with its conditional
  last block of 256, the diagonal block, and the window band.
-/
module

public import proofs.«01_k».proof.Proof.KSel
public import proofs.«01_k».proof.Proof.Soft

@[expose] public section

noncomputable section

namespace Cert.KVal

open Cert.KernelIdeal Cert.KernelIdeal.Gen Cert.KernelIdeal.Run Idealize.ShloMosaic Cert.Spec

/-! ### Sums over a stretch of keys -/

/-- A sum over the first keys, and the next ones after it. -/
theorem sum_step (n : ℕ) (K : ℕ) (l : EReal) (f : Fin n → EReal) (g : ℕ → EReal) (hl : l = ∑ j ∈ Finset.range K, g j)
    (hf : ∀ j : Fin n, f j = g (K + j.val)) : l + ∑ j, f j = ∑ j ∈ Finset.range (K + n), g j := by
  rw [Finset.sum_range_add, ← hl, Finset.sum_range]
  exact congrArg (l + ·) (Finset.sum_congr rfl fun j _ => hf j)

/-- A sum over a stretch outside which the terms vanish is one over all the keys. -/
theorem sum_band {R : Type} [AddCommMonoid R] (n K M : ℕ) (g : ℕ → R) (hM : K + n ≤ M) (hg : ∀ j, j < K ∨ K + n ≤ j → g j = 0) :
    ∑ j : Fin n, g (K + j.val) = ∑ j : Fin M, g j.val := by
  rw [← Finset.sum_range (fun j => g (K + j)), ← Finset.sum_range g]
  have e := Finset.sum_Ico_eq_sum_range g K (K + n)
  rw [Nat.add_sub_cancel_left] at e
  rw [← e]
  refine Finset.sum_subset (fun j hj => ?_) (fun j _ hj => hg j ?_)
  · rw [Finset.mem_Ico] at hj; rw [Finset.mem_range]; omega
  · rw [Finset.mem_Ico] at hj; omega

/-! ### Rows of queries against rows of keys -/

section
variable (D : Data)

/-- What a key's row holds beside its 64 numbers: which of the 32 blocks it lies in. -/
def krow (a j e : ℕ) : EReal :=
  if e < 64 then (D.k a j e : EReal) else ((if j / 64 = e - 64 then 1 else 0 : ℝ) : EReal)

open Classical in
/-- What a query's row holds beside its 64 scaled numbers: the mask of the blocks it has not selected. -/
def qrow (a h s e : ℕ) : EReal :=
  if e < 64 then ((D.q h s e * (1 / 8) : ℝ) : EReal) else if D.sel a s (e - 64) then 0 else ⊥

open Classical in
/-- The weight of a key, causal or not. -/
def wsel (h s j : ℕ) : ℝ := if D.sel (h / 6) s (j / 64) then Real.exp (D.z h s j) else 0
open Classical in
def wsp (h s j : ℕ) : ℝ := if D.spKey (h / 6) s j then Real.exp (D.z h s j) else 0
open Classical in
def wsw (h s j : ℕ) : ℝ := if Data.swKey s j then Real.exp (D.z h s j) else 0

theorem z_sum (a h s j : ℕ) (ha : h / 6 = a) :
    ∑ e : Fin 64, ((D.q h s e.val * (1 / 8) : ℝ) : EReal) * (D.k a j e.val : EReal) = (D.z h s j : EReal) := by
  unfold Data.z
  rw [Finset.sum_mul, coe_sum]
  refine Finset.sum_congr rfl fun e _ => ?_
  rw [← EReal.coe_mul, ha]
  congr 1
  ring

open Classical in
theorem qrow_mask (a h s n : ℕ) : qrow D a h s (64 + n) = if D.sel a s n then 0 else ⊥ := by
  rw [qrow, if_neg (by omega), Nat.add_sub_cancel_left]

theorem krow_mask (a j n : ℕ) : krow D a j (64 + n) = ((if j / 64 = n then 1 else 0 : ℝ) : EReal) := by
  rw [krow, if_neg (by omega), Nat.add_sub_cancel_left]

open Classical in
/-- The masked score. -/
theorem score (a h s j : ℕ) (ha : h / 6 = a) (hj : j < 2048) :
    ∑ e : Fin 96, qrow D a h s e.val * krow D a j e.val = if D.sel a s (j / 64) then (D.z h s j : EReal) else ⊥ := by
  have e1 : ∑ e : Fin 96, qrow D a h s e.val * krow D a j e.val
      = (∑ e : Fin 64, qrow D a h s e.val * krow D a j e.val) + ∑ n : Fin 32, qrow D a h s (64 + n.val) * krow D a j (64 + n.val) :=
    Fin.sum_univ_add (a := 64) (b := 32) (fun e => qrow D a h s e.val * krow D a j e.val)
  have e2 : ∑ e : Fin 64, qrow D a h s e.val * krow D a j e.val = (D.z h s j : EReal) := by
    rw [← z_sum D a h s j ha]
    refine Finset.sum_congr rfl fun e _ => ?_
    rw [qrow, krow, if_pos e.isLt, if_pos e.isLt]
  have e3 : ∑ n : Fin 32, qrow D a h s (64 + n.val) * krow D a j (64 + n.val) = if D.sel a s (j / 64) then 0 else ⊥ := by
    rw [Finset.sum_eq_single (⟨j / 64, by omega⟩ : Fin 32)]
    · rw [qrow_mask, krow_mask, if_pos rfl, EReal.coe_one, mul_one]
    · intro n _ hn
      rw [krow_mask, if_neg (fun h' => hn (Fin.ext h'.symm)), EReal.coe_zero, mul_zero]
    · exact fun h' => absurd (Finset.mem_univ _) h'
  rw [e1, e2, e3]
  split
  · rw [add_zero]
  · rw [EReal.add_bot]

theorem wsel_eq (a h s j : ℕ) (ha : h / 6 = a) (hj : j < 2048) :
    Ideal.exp (∑ e : Fin 96, qrow D a h s e.val * krow D a j e.val) = (wsel D h s j : EReal) := by
  rw [score D a h s j ha hj, wsel, ha]
  split
  · rw [exp_coe]
  · rw [exp_bot]; rfl

theorem wsp_eq (a h s j : ℕ) (ha : h / 6 = a) (hj : j < 2048) :
    Ideal.exp ((∑ e : Fin 96, qrow D a h s e.val * krow D a j e.val) + if j ≤ s then 0 else ⊥) = (wsp D h s j : EReal) := by
  rw [score D a h s j ha hj, wsp, ha]
  by_cases h1 : D.sel a s (j / 64)
  · by_cases h2 : j ≤ s
    · rw [if_pos h1, if_pos h2, if_pos (show D.spKey a s j from ⟨h1, h2⟩), add_zero, exp_coe]
    · rw [if_neg h2, if_neg (show ¬ D.spKey a s j from fun h' => h2 h'.2), EReal.add_bot, exp_bot]; rfl
  · rw [if_neg h1, if_neg (show ¬ D.spKey a s j from fun h' => h1 h'.1), EReal.bot_add, exp_bot]; rfl

theorem wsw_eq (a h s j : ℕ) (ha : h / 6 = a) :
    Ideal.exp ((∑ e : Fin 64, ((D.q h s e.val * (1 / 8) : ℝ) : EReal) * (D.k a j e.val : EReal)) + if j ≤ s ∧ s - j ≤ 512 then 0 else ⊥)
      = (wsw D h s j : EReal) := by
  rw [z_sum D a h s j ha, wsw]
  unfold Data.swKey
  by_cases h2 : j ≤ s ∧ s - j ≤ 512
  · rw [if_pos h2, if_pos h2, add_zero, exp_coe]
  · rw [if_neg h2, if_neg h2, EReal.add_bot, exp_bot]; rfl

/-- Before the query's own block of rows every key is causal. -/
theorem wsel_wsp (h s j : ℕ) (hj : j ≤ s) : wsel D h s j = wsp D h s j := by
  unfold wsel wsp Data.spKey
  by_cases h1 : D.sel (h / 6) s (j / 64)
  · rw [if_pos h1, if_pos ⟨h1, hj⟩]
  · rw [if_neg h1, if_neg (fun h' => h1 h'.1)]

theorem wsp_zero (h s j : ℕ) (hj : s < j) : wsp D h s j = 0 := if_neg fun h' => by have := h'.2; omega

theorem wsp_pos (h s : ℕ) (hs : s < 2048) : 0 < ∑ j : Fin 2048, wsp D h s j.val := by
  classical
  have := sum_pos (fun j : Fin 2048 => D.spKey (h / 6) s j.val) (fun j => D.z h s j.val) ⟨s, hs⟩ ⟨D.sel_self _ _, le_rfl⟩
  refine lt_of_lt_of_eq this (Finset.sum_congr rfl fun j _ => ?_)
  unfold wsp
  congr

theorem wsw_pos (h s : ℕ) (hs : s < 2048) : 0 < ∑ j : Fin 2048, wsw D h s j.val := by
  classical
  have := sum_pos (fun j : Fin 2048 => Data.swKey s j.val) (fun j => D.z h s j.val) ⟨s, hs⟩ ⟨le_rfl, by show s - s ≤ 512; omega⟩
  refine lt_of_lt_of_eq this (Finset.sum_congr rfl fun j _ => ?_)
  unfold wsw
  congr

/-- The weighted values over the weights' total. -/
theorem osp_eq (h s d : ℕ) (hs : s < 2048) : Ideal.div (∑ j : Fin 2048, (wsp D h s j.val : EReal) * D.v (h / 6) j.val d)
    ((∑ j : Fin 2048, wsp D h s j.val : ℝ) : EReal) = D.osp h s d :=
  div_sum _ _ _ _ (wsp_pos D h s hs)
theorem osw_eq (h s d : ℕ) (hs : s < 2048) : Ideal.div (∑ j : Fin 2048, (wsw D h s j.val : EReal) * D.v (h / 6) j.val d)
    ((∑ j : Fin 2048, wsw D h s j.val : ℝ) : EReal) = D.osw h s d :=
  div_sum _ _ _ _ (wsw_pos D h s hs)

/-! ### Blocks of keys read from the arrays -/

/-- Rows `K` on of the keys, and of the values, of key head `a`. -/
def KRows {n : ℕ} (a K : ℕ) (x : (⟨2, ![n, 96]⟩ : Shape).Idx → EReal) : Prop :=
  K + n ≤ 2048 ∧ ∀ (j : Fin n) (e : Fin 96), x (ix2 j e) = krow D a (K + j.val) e.val
def VRows {n : ℕ} (a K : ℕ) (x : (⟨2, ![n, 64]⟩ : Shape).Idx → EReal) : Prop :=
  ∀ (j : Fin n) (d : Fin 64), x (ix2 j d) = D.v a (K + j.val) d.val

/-- The rows of the queries with the masks. -/
def QRows (a b : ℕ) (w : FVec Ideal S1536x96 .f32) : Prop :=
  ∀ (r : Fin 1536) (e : Fin 96), w (ix2 r e) = qrow D a (hd a r.val) (qr b r.val) e.val

/-- The carried pair after the first `K` keys. -/
def Carried (a b K : ℕ) (s : FVec Ideal S1536x1 .f32 × FVec Ideal S1536x64 .f32) : Prop :=
  (∀ r : Fin 1536, s.1 (ix2 r 0) = ∑ j ∈ Finset.range K, (wsel D (hd a r.val) (qr b r.val) j : EReal))
  ∧ ∀ (r : Fin 1536) (d : Fin 64), s.2 (ix2 r d)
      = ∑ j ∈ Finset.range K, (wsel D (hd a r.val) (qr b r.val) j : EReal) * D.v a j d.val

variable {D} {a b : ℕ} {w : FVec Ideal S1536x96 .f32}

theorem hd_div (a : ℕ) (r : Fin 1536) : hd a r.val / 6 = a := by have := r.isLt; unfold hd; omega

theorem carried_zero : Carried D a b 0 (k2_pay18, k2_pay19) := by
  refine ⟨fun r => ?_, fun r d => ?_⟩
  · rw [Finset.sum_range_zero]; pointwise [k2_pay18]
  · rw [Finset.sum_range_zero]; pointwise [k2_pay19]

theorem pay20_at (hw : QRows D a b w) {K : ℕ} {kb : Vec Ideal S512x96 .f32} (hk : KRows D a K kb) (r : Fin 1536) (j : Fin 512) :
    k2_pay20 w kb (ix2 r j) = (wsel D (hd a r.val) (qr b r.val) (K + j.val) : EReal) := by
  have hj := j.isLt
  have h1 := hk.1
  pointwise [k2_pay20]
  simp only [hw r, hk.2]
  exact wsel_eq D a _ _ _ (hd_div a r) (by omega)

theorem pay26_at (hw : QRows D a b w) {K : ℕ} {kb : Vec Ideal S256x96 .f32} (hk : KRows D a K kb) (r : Fin 1536) (j : Fin 256) :
    k2_pay26 w kb (ix2 r j) = (wsel D (hd a r.val) (qr b r.val) (K + j.val) : EReal) := by
  have hj := j.isLt
  have h1 := hk.1
  pointwise [k2_pay26]
  simp only [hw r, hk.2]
  exact wsel_eq D a _ _ _ (hd_div a r) (by omega)

theorem carried_512 (hw : QRows D a b w) {K : ℕ} {kb : Vec Ideal S512x96 .f32} {vb : Vec Ideal S512x64 .f32} (hk : KRows D a K kb) (hv : VRows D a K vb)
    {s : FVec Ideal S1536x1 .f32 × FVec Ideal S1536x64 .f32} (hs : Carried D a b K s) :
    Carried D a b (K + 512) (k2_pay21 w s.1 kb, k2_pay22 w s.2 kb vb) := by
  refine ⟨fun r => ?_, fun r d => ?_⟩
  · pointwise [k2_pay21]
    exact sum_step 512 K _ _ (fun j => (wsel D (hd a r.val) (qr b r.val) j : EReal)) (hs.1 r) fun j => pay20_at hw hk r j
  · pointwise [k2_pay22]
    exact sum_step 512 K _ _ (fun j => (wsel D (hd a r.val) (qr b r.val) j : EReal) * D.v a j d.val) (hs.2 r d) fun j => by rw [pay20_at hw hk, hv]

theorem carried_256 (hw : QRows D a b w) {K : ℕ} {kb : Vec Ideal S256x96 .f32} {vb : Vec Ideal S256x64 .f32} (hk : KRows D a K kb) (hv : VRows D a K vb)
    {s : FVec Ideal S1536x1 .f32 × FVec Ideal S1536x64 .f32} (hs : Carried D a b K s) :
    Carried D a b (K + 256) (k2_pay27 w s.1 kb, k2_pay28 w s.2 kb vb) := by
  refine ⟨fun r => ?_, fun r d => ?_⟩
  · pointwise [k2_pay27]
    exact sum_step 256 K _ _ (fun j => (wsel D (hd a r.val) (qr b r.val) j : EReal)) (hs.1 r) fun j => pay26_at hw hk r j
  · pointwise [k2_pay28]
    exact sum_step 256 K _ _ (fun j => (wsel D (hd a r.val) (qr b r.val) j : EReal) * D.v a j d.val) (hs.2 r d) fun j => by rw [pay26_at hw hk, hv]

/-! ### The diagonal block -/

theorem pay29_at (hb : b < 8) (hw : QRows D a b w) {kd : Vec Ideal S256x96 .f32} (hk : KRows D a (b * 256) kd) (r : Fin 1536) (j : Fin 256) :
    k2_pay29 k2_pay8 w kd (ix2 r j) = (wsp D (hd a r.val) (qr b r.val) (b * 256 + j.val) : EReal) := by
  have hj := j.isLt
  pointwise [k2_pay29]
  simp only [hw r, hk.2, pay8_at]
  rw [← wsp_eq D a _ _ _ (hd_div a r) (by omega)]
  refine congrArg (fun z => Ideal.exp (_ + z)) (if_congr ?_ rfl rfl)
  unfold qr
  omega

/-- The selected keys' weights, all summed. -/
theorem pay30_at (hb : b < 8) (hw : QRows D a b w) {kd : Vec Ideal S256x96 .f32} (hk : KRows D a (b * 256) kd)
    {s : FVec Ideal S1536x1 .f32 × FVec Ideal S1536x64 .f32} (hs : Carried D a b (b * 256) s) (r : Fin 1536) :
    k2_pay30 k2_pay8 w s.1 kd (ix2 r 0) = ((∑ j : Fin 2048, wsp D (hd a r.val) (qr b r.val) j.val : ℝ) : EReal) := by
  pointwise [k2_pay30]
  rw [sum_step 256 (b * 256) _ _ (fun j => (wsp D (hd a r.val) (qr b r.val) j : EReal)) ((hs.1 r).trans ?_) fun j => pay29_at hb hw hk r j]
  · rw [← coe_sum, ← sum_band (b * 256 + 256) 0 2048 (wsp D (hd a r.val) (qr b r.val)) (by omega) (fun j hj => wsp_zero D _ _ _ (by unfold qr; omega)),
      Finset.sum_range]
    simp only [Nat.zero_add]
  · refine Finset.sum_congr rfl fun j hj => congrArg _ (wsel_wsp D _ _ _ ?_)
    rw [Finset.mem_range] at hj
    unfold qr
    omega

/-- The weighted values, all summed. -/
theorem pay31_at (hb : b < 8) (hw : QRows D a b w) {kd : Vec Ideal S256x96 .f32} {vd : Vec Ideal S256x64 .f32} (hk : KRows D a (b * 256) kd) (hv : VRows D a (b * 256) vd)
    {s : FVec Ideal S1536x1 .f32 × FVec Ideal S1536x64 .f32} (hs : Carried D a b (b * 256) s) (r : Fin 1536) (d : Fin 64) :
    s.2 (ix2 r d) + k2_pay31 k2_pay8 w kd vd (ix2 r d)
      = ∑ j : Fin 2048, (wsp D (hd a r.val) (qr b r.val) j.val : EReal) * D.v a j.val d.val := by
  pointwise [k2_pay31]
  rw [sum_step 256 (b * 256) _ _ (fun j => (wsp D (hd a r.val) (qr b r.val) j : EReal) * D.v a j d.val) ((hs.2 r d).trans ?_)
    fun j => by rw [pay29_at hb hw hk, hv]]
  · rw [← sum_band (b * 256 + 256) 0 2048 (fun j => (wsp D (hd a r.val) (qr b r.val) j : EReal) * D.v a j d.val) (by omega)
      (fun j hj => by rw [wsp_zero D _ _ _ (by unfold qr; omega), EReal.coe_zero, zero_mul]), Finset.sum_range]
    simp only [Nat.zero_add]
  · refine Finset.sum_congr rfl fun j hj => ?_
    rw [Finset.mem_range] at hj
    rw [wsel_wsp D _ _ _ (by unfold qr; omega)]

/-! ### The window band -/

/-- Rows `K` on of the 64 numbers of a key. -/
def WRows (D : Data) {n : ℕ} (a K : ℕ) (x : (⟨2, ![n, 64]⟩ : Shape).Idx → EReal) : Prop :=
  ∀ (j : Fin n) (e : Fin 64), x (ix2 j e) = (D.k a (K + j.val) e.val : EReal)

/-- The first key of the band. -/
abbrev band (b : ℕ) : ℕ := 256 * (b - 2)

theorem band_zero (hb : b < 8) (r : Fin 1536) (j : ℕ) (hj : j < band b ∨ band b + 768 ≤ j) : wsw D (hd a r.val) (qr b r.val) j = 0 := by
  refine if_neg fun h' => ?_
  have h1 := h'.1
  have h2 := h'.2
  unfold band at hj
  unfold qr at h1 h2
  omega

/-- A half's six heads at an index. -/
theorem pay32_at (hb : b < 8) {y : FVec Ideal S1536x768 .f32} {g0 g1 g2 : FVec Ideal S1536x1 .f32} {x c num diag : FVec Ideal S1536x64 .f32}
    {den : FVec Ideal S1536x1 .f32} {kw vw : Vec Ideal S768x64 .f32} (g : ℕ → ℕ → EReal)
    (h0 : ∀ r : Fin 1536, g0 (ix2 r 0) = g (qr b r.val) 0) (h1 : ∀ r : Fin 1536, g1 (ix2 r 0) = g (qr b r.val) 1)
    (h2 : ∀ r : Fin 1536, g2 (ix2 r 0) = g (qr b r.val) 2)
    (hx : ∀ (r : Fin 1536) (d : Fin 64), x (ix2 r d) = ((D.q (hd a r.val) (qr b r.val) d.val * (1 / 8) : ℝ) : EReal))
    (hy : ∀ (r : Fin 1536) (j : Fin 768), y (ix2 r j)
      = if band b + j.val ≤ qr b r.val ∧ qr b r.val - (band b + j.val) ≤ 512 then 0 else ⊥)
    (hc : ∀ (r : Fin 1536) (d : Fin 64), c (ix2 r d) = D.cmp (hd a r.val) (qr b r.val) d.val)
    (hn : ∀ (r : Fin 1536) (d : Fin 64), num (ix2 r d) + diag (ix2 r d)
      = ∑ j : Fin 2048, (wsp D (hd a r.val) (qr b r.val) j.val : EReal) * D.v a j.val d.val)
    (hd' : ∀ r : Fin 1536, den (ix2 r 0) = ((∑ j : Fin 2048, wsp D (hd a r.val) (qr b r.val) j.val : ℝ) : EReal))
    (hk : WRows D a (band b) kw) (hv : VRows D a (band b) vw) (r : Fin 1536) (d : Fin 64) :
    k2_pay32 y g0 g1 g2 x c num den diag kw vw (ix2 r d) = D.comb g (hd a r.val) (qr b r.val) d.val := by
  have hs : qr b r.val < 2048 := by unfold qr; omega
  pointwise [k2_pay32]
  have e1 : ∀ j : Fin 768, Ideal.exp (∑ e : Fin 64, x (ix2 r e) * kw (ix2 j e) + y (ix2 r j))
      = (wsw D (hd a r.val) (qr b r.val) (band b + j.val) : EReal) := fun j => by
    simp only [hx r, hk j, hy r j]
    exact wsw_eq D a _ _ _ (hd_div a r)
  have e2 : ∀ j : Fin 768, vw (ix2 j d) = D.v a (band b + j.val) d.val := fun j => hv j d
  simp only [e1, e2]
  have p1 := osp_eq D (hd a r.val) (qr b r.val) d.val hs
  have p2 := osw_eq D (hd a r.val) (qr b r.val) d.val hs
  rw [hd_div] at p1 p2
  rw [← coe_sum, sum_band 768 (band b) 2048 (wsw D (hd a r.val) (qr b r.val)) (by unfold band; omega) (band_zero hb r),
    sum_band 768 (band b) 2048 (fun j => (wsw D (hd a r.val) (qr b r.val) j : EReal) * D.v a j d.val) (by unfold band; omega)
      (fun j hj => by rw [band_zero hb r j hj, EReal.coe_zero, zero_mul]),
    hn, hd', p1, p2, h0, h1, h2, hc]
  rfl

end

end Cert.KVal

end
-- ==== Proof.KProj.lean ====
/-
  The projection kernel's blocks at an index: the rotated queries, the rotated keys with their blocks' marks, the values,
  and the gates.
-/
module

public import proofs.«01_k».proof.Proof.KLoop
public import proofs.«01_k».proof.Proof.IdealRegion0
public import Idealize.ShloMosaic.Lib.Pipeline.ValueKit.Tiles

@[expose] public section

noncomputable section

namespace Cert.KVal

open Cert.KernelIdeal Cert.KernelIdeal.Gen Cert.KernelIdeal.Run Idealize.ShloMosaic Cert.Spec

section
variable (D : Data)

/-- The two halves of a rotated head, from a row of a projection. -/
theorem rot_lo (f : ℕ → ℝ) (s d : ℕ) (hd : d < 32) :
    (f d : EReal) * (D.cs s d : EReal) - (f (d + 32) : EReal) * (D.sn s d : EReal) = (D.rope f s d : EReal) := by
  rw [← EReal.coe_mul, ← EReal.coe_mul, ← EReal.coe_sub, Data.rope, if_pos hd]
theorem rot_hi (f : ℕ → ℝ) (s d : ℕ) (hd : ¬ d < 32) :
    (f d : EReal) * (D.cs s (d - 32) : EReal) + (f (d - 32) : EReal) * (D.sn s (d - 32) : EReal) = (D.rope f s d : EReal) := by
  rw [← EReal.coe_mul, ← EReal.coe_mul, ← EReal.coe_add, Data.rope, if_neg hd]

/-- A scaled row rotates to the scaled rotation. -/
theorem rope_scale (f : ℕ → ℝ) (s d : ℕ) (c : ℝ) : D.rope (fun e => f e * c) s d = D.rope f s d * c := by
  unfold Data.rope
  split <;> ring

theorem q_lo (k s d : ℕ) (hd : d < 32) (c1 c2 : ℕ) (h1 : c1 = k * 64 + d) (h2 : c2 = k * 64 + (d + 32)) :
    ((D.lin D.wq s c1 * (1 / 8) : ℝ) : EReal) * (D.cs s d : EReal) - ((D.lin D.wq s c2 * (1 / 8) : ℝ) : EReal) * (D.sn s d : EReal)
      = ((D.q k s d * (1 / 8) : ℝ) : EReal) := by
  subst h1 h2
  unfold Data.q
  rw [← rope_scale]
  exact rot_lo D (fun e => D.lin D.wq s (k * 64 + e) * (1 / 8)) s d hd

theorem q_hi (k s d : ℕ) (hd : ¬ d < 32) (c1 c2 : ℕ) (h1 : c1 = k * 64 + d) (h2 : c2 = k * 64 + (d - 32)) :
    ((D.lin D.wq s c1 * (1 / 8) : ℝ) : EReal) * (D.cs s (d - 32) : EReal) + ((D.lin D.wq s c2 * (1 / 8) : ℝ) : EReal) * (D.sn s (d - 32) : EReal)
      = ((D.q k s d * (1 / 8) : ℝ) : EReal) := by
  subst h1 h2
  unfold Data.q
  rw [← rope_scale]
  exact rot_hi D (fun e => D.lin D.wq s (k * 64 + e) * (1 / 8)) s d hd

theorem k_lo (k s d : ℕ) (hd : d < 32) (c1 c2 : ℕ) (h1 : c1 = k * 64 + d) (h2 : c2 = k * 64 + (d + 32)) :
    (D.lin D.wk s c1 : EReal) * (D.cs s d : EReal) - (D.lin D.wk s c2 : EReal) * (D.sn s d : EReal) = (D.k k s d : EReal) := by
  subst h1 h2
  exact rot_lo D (fun e => D.lin D.wk s (k * 64 + e)) s d hd

theorem k_hi (k s d : ℕ) (hd : ¬ d < 32) (c1 c2 : ℕ) (h1 : c1 = k * 64 + d) (h2 : c2 = k * 64 + (d - 32)) :
    (D.lin D.wk s c1 : EReal) * (D.cs s (d - 32) : EReal) + (D.lin D.wk s c2 : EReal) * (D.sn s (d - 32) : EReal) = (D.k k s d : EReal) := by
  subst h1 h2
  exact rot_hi D (fun e => D.lin D.wk s (k * 64 + e)) s d hd

end

/-- What the projection kernel is handed at grid point `b`. -/
structure Given (D : Data) (b : ℕ) (x0 : Vec Ideal S256x768 .f32) (x1 : Vec Ideal S768x768 .f32) (x2 x3 : Vec Ideal S768x128 .f32)
    (x5 x6 : Vec Ideal S256x32 .f32) : Prop where
  x_at : ∀ (r : Fin 256) (c : Fin 768), x0 (ix2 r c) = (D.x (b * 256 + r.val) c.val : EReal)
  wq_at : ∀ (c e : Fin 768), x1 (ix2 c e) = ((D.wq e.val c.val * (1 / 8) : ℝ) : EReal)
  wk_at : ∀ (c : Fin 768) (e : Fin 128), x2 (ix2 c e) = (D.wk e.val c.val : EReal)
  wv_at : ∀ (c : Fin 768) (e : Fin 128), x3 (ix2 c e) = D.wv e.val c.val
  cs_at : ∀ (r : Fin 256) (e : Fin 32), x5 (ix2 r e) = (D.cs (b * 256 + r.val) e.val : EReal)
  sn_at : ∀ (r : Fin 256) (e : Fin 32), x6 (ix2 r e) = (D.sn (b * 256 + r.val) e.val : EReal)

theorem coord_lt0 (i : grid0.Coords) : (i 0).val < 8 := (i 0).isLt

section
variable {D : Data} {i : grid0.Coords} {x0 : Vec Ideal S256x768 .f32} {x1 : Vec Ideal S768x768 .f32} {x2 x3 : Vec Ideal S768x128 .f32}
  {x4 : Vec Ideal S768x8 .f32} {x5 x6 : Vec Ideal S256x32 .f32} (G : Given D (i 0).val x0 x1 x2 x3 x5 x6)
include G

/-! ### The projections -/

theorem qlin_at (r : Fin 256) (c : Fin 768) :
    k0_pay30 i x0 x1 x2 x3 x4 x5 x6 (ix2 r c) = ((D.lin D.wq ((i 0).val * 256 + r.val) c.val * (1 / 8) : ℝ) : EReal) := by
  pointwise [k0_pay30, k0_pay2, k0_pay1]
  unfold Data.lin
  rw [Finset.sum_mul, coe_sum]
  refine Finset.sum_congr rfl fun x _ => ?_
  rw [G.x_at, G.wq_at, ← EReal.coe_mul, mul_assoc]

theorem klin_at (r : Fin 256) (c : Fin 128) :
    k0_pay3 (View.ld x0 r0_0) (View.ld x2 r0_2) (ix2 r c) = (D.lin D.wk ((i 0).val * 256 + r.val) c.val : EReal) := by
  pointwise [k0_pay3, k0_pay1]
  unfold Data.lin
  rw [coe_sum]
  refine Finset.sum_congr rfl fun x _ => ?_
  rw [G.x_at, G.wk_at, ← EReal.coe_mul]

theorem vlin_at (r : Fin 256) (c : Fin 128) :
    k0_pay4 (View.ld x0 r0_0) (View.ld x3 r0_2) (ix2 r c) = D.vlin ((i 0).val * 256 + r.val) c.val := by
  pointwise [k0_pay4, k0_pay1]
  unfold Data.vlin
  refine Finset.sum_congr rfl fun x _ => ?_
  rw [G.x_at, G.wv_at]

theorem cos_at (r : Fin 256) (e : Fin 32) : k0_pay31 i x0 x1 x2 x3 x4 x5 x6 (ix2 r e) = (D.cs ((i 0).val * 256 + r.val) e.val : EReal) := by
  pointwise [k0_pay31, k0_pay6]
  exact G.cs_at r e
theorem sin_at (r : Fin 256) (e : Fin 32) : k0_pay32 i x0 x1 x2 x3 x4 x5 x6 (ix2 r e) = (D.sn ((i 0).val * 256 + r.val) e.val : EReal) := by
  pointwise [k0_pay32, k0_pay7]
  exact G.sn_at r e

end

/-! ### The twelve heads of the queries -/

section
variable {D : Data} {b : ℕ} {y : FVec Ideal S256x768 .f32} {cs sn : FVec Ideal S256x32 .f32}
  (hy : ∀ (r : Fin 256) (c : Fin 768), y (ix2 r c) = ((D.lin D.wq (b * 256 + r.val) c.val * (1 / 8) : ℝ) : EReal))
  (hc : ∀ (r : Fin 256) (e : Fin 32), cs (ix2 r e) = (D.cs (b * 256 + r.val) e.val : EReal))
  (hs : ∀ (r : Fin 256) (e : Fin 32), sn (ix2 r e) = (D.sn (b * 256 + r.val) e.val : EReal))
include hy hc hs

theorem head1 (r : Fin 256) (d : Fin 64) : k0_pay10 y cs sn (ix3 0 r d) = ((D.q 1 (b * 256 + r.val) d.val * (1 / 8) : ℝ) : EReal) := by
  have hd := d.isLt
  pointwise [k0_pay10]
  simp only [hy, hc, hs]
  split
  · next h => exact q_lo D 1 _ _ h _ _ (by omega) (by omega)
  · next h => exact q_hi D 1 _ _ h _ _ (by omega) (by omega)

theorem head2 (r : Fin 256) (d : Fin 64) : k0_pay11 y cs sn (ix3 0 r d) = ((D.q 2 (b * 256 + r.val) d.val * (1 / 8) : ℝ) : EReal) := by
  have hd := d.isLt
  pointwise [k0_pay11]
  simp only [hy, hc, hs]
  split
  · next h => exact q_lo D 2 _ _ h _ _ (by omega) (by omega)
  · next h => exact q_hi D 2 _ _ h _ _ (by omega) (by omega)

theorem head3 (r : Fin 256) (d : Fin 64) : k0_pay12 y cs sn (ix3 0 r d) = ((D.q 3 (b * 256 + r.val) d.val * (1 / 8) : ℝ) : EReal) := by
  have hd := d.isLt
  pointwise [k0_pay12]
  simp only [hy, hc, hs]
  split
  · next h => exact q_lo D 3 _ _ h _ _ (by omega) (by omega)
  · next h => exact q_hi D 3 _ _ h _ _ (by omega) (by omega)

theorem head4 (r : Fin 256) (d : Fin 64) : k0_pay17 (k0_pay15 y cs sn) (k0_pay16 y cs sn) (ix3 0 r d) = ((D.q 4 (b * 256 + r.val) d.val * (1 / 8) : ℝ) : EReal) := by
  have hd := d.isLt
  pointwise [k0_pay17, k0_pay15, k0_pay16, k0_pay13, k0_pay14]
  simp only [hy, hc, hs]
  split
  · next h => exact q_lo D 4 _ _ h _ _ (by omega) (by omega)
  · next h => exact q_hi D 4 _ _ h _ _ (by omega) (by omega)

theorem head5 (r : Fin 256) (d : Fin 64) : k0_pay18 y cs sn (ix3 0 r d) = ((D.q 5 (b * 256 + r.val) d.val * (1 / 8) : ℝ) : EReal) := by
  have hd := d.isLt
  pointwise [k0_pay18]
  simp only [hy, hc, hs]
  split
  · next h => exact q_lo D 5 _ _ h _ _ (by omega) (by omega)
  · next h => exact q_hi D 5 _ _ h _ _ (by omega) (by omega)

theorem head6 (r : Fin 256) (d : Fin 64) : k0_pay19 y cs sn (ix3 0 r d) = ((D.q 6 (b * 256 + r.val) d.val * (1 / 8) : ℝ) : EReal) := by
  have hd := d.isLt
  pointwise [k0_pay19]
  simp only [hy, hc, hs]
  split
  · next h => exact q_lo D 6 _ _ h _ _ (by omega) (by omega)
  · next h => exact q_hi D 6 _ _ h _ _ (by omega) (by omega)

theorem head7 (r : Fin 256) (d : Fin 64) : k0_pay20 y cs sn (ix3 0 r d) = ((D.q 7 (b * 256 + r.val) d.val * (1 / 8) : ℝ) : EReal) := by
  have hd := d.isLt
  pointwise [k0_pay20]
  simp only [hy, hc, hs]
  split
  · next h => exact q_lo D 7 _ _ h _ _ (by omega) (by omega)
  · next h => exact q_hi D 7 _ _ h _ _ (by omega) (by omega)

theorem head8 (r : Fin 256) (d : Fin 64) : k0_pay25 cs sn (k0_pay21 y) (k0_pay22 y) (k0_pay23 y cs) (k0_pay24 y sn) (ix3 0 r d) = ((D.q 8 (b * 256 + r.val) d.val * (1 / 8) : ℝ) : EReal) := by
  have hd := d.isLt
  pointwise [k0_pay25, k0_pay21, k0_pay22, k0_pay23, k0_pay24]
  simp only [hy, hc, hs]
  split
  · next h => exact q_lo D 8 _ _ h _ _ (by omega) (by omega)
  · next h => exact q_hi D 8 _ _ h _ _ (by omega) (by omega)

theorem head9 (r : Fin 256) (d : Fin 64) : k0_pay26 y cs sn (ix3 0 r d) = ((D.q 9 (b * 256 + r.val) d.val * (1 / 8) : ℝ) : EReal) := by
  have hd := d.isLt
  pointwise [k0_pay26]
  simp only [hy, hc, hs]
  split
  · next h => exact q_lo D 9 _ _ h _ _ (by omega) (by omega)
  · next h => exact q_hi D 9 _ _ h _ _ (by omega) (by omega)

theorem head10 (r : Fin 256) (d : Fin 64) : k0_pay27 y cs sn (ix3 0 r d) = ((D.q 10 (b * 256 + r.val) d.val * (1 / 8) : ℝ) : EReal) := by
  have hd := d.isLt
  pointwise [k0_pay27]
  simp only [hy, hc, hs]
  split
  · next h => exact q_lo D 10 _ _ h _ _ (by omega) (by omega)
  · next h => exact q_hi D 10 _ _ h _ _ (by omega) (by omega)

theorem head11 (r : Fin 256) (d : Fin 64) : k0_pay28 y cs sn (ix3 0 r d) = ((D.q 11 (b * 256 + r.val) d.val * (1 / 8) : ℝ) : EReal) := by
  have hd := d.isLt
  pointwise [k0_pay28]
  simp only [hy, hc, hs]
  split
  · next h => exact q_lo D 11 _ _ h _ _ (by omega) (by omega)
  · next h => exact q_hi D 11 _ _ h _ _ (by omega) (by omega)

end

theorem head0 {D : Data} {b : ℕ} {x0 : Vec Ideal S256x768 .f32} {x1 : Vec Ideal S768x768 .f32} {cs sn : Vec Ideal S256x32 .f32}
    (hy : ∀ (r : Fin 256) (c : Fin 768), k0_pay2 x0 x1 (ix2 r c) = ((D.lin D.wq (b * 256 + r.val) c.val * (1 / 8) : ℝ) : EReal))
    (hc : ∀ (r : Fin 256) (e : Fin 32), k0_pay6 cs (ix2 r e) = (D.cs (b * 256 + r.val) e.val : EReal))
    (hs : ∀ (r : Fin 256) (e : Fin 32), k0_pay7 sn (ix2 r e) = (D.sn (b * 256 + r.val) e.val : EReal)) (r : Fin 256) (d : Fin 64) :
    k0_pay9 (k0_pay8 x0 x1 cs sn) (ix3 0 r d) = ((D.q 0 (b * 256 + r.val) d.val * (1 / 8) : ℝ) : EReal) := by
  have hd := d.isLt
  pointwise [k0_pay9, k0_pay8]
  simp only [hy, hc, hs]
  split
  · next h => exact q_lo D 0 _ _ h _ _ (by omega) (by omega)
  · next h => exact q_hi D 0 _ _ h _ _ (by omega) (by omega)

/-- A head's tile of the twelve. -/
theorem head_tile (V : ℕ → ℕ → ℕ → EReal) (k : ℕ) (P : FVec Ideal S1x256x64 .f32) (hP : ∀ (r : Fin 256) (d : Fin 64), P (ix3 0 r d) = V k r.val d.val)
    (h : Fin 12) (r : Fin 256) (d : Fin 64) :
    View.TileAt (Val := Elt Ideal) (e := .f32) (S := S12x256x64) (ix3 h r d) ![k, 0, 0] S1x256x64.size P (V h.val r.val d.val) := by
  intro x hx
  have h0 : h.val = k + (x 0).val := hx 0
  have h1 : r.val = 0 + (x 1).val := hx 1
  have h2 : d.val = 0 + (x 2).val := hx 2
  have hz : (x 0).val < 1 := (x 0).isLt
  have e : x = ix3 (0 : Fin 1) r d := by
    funext a
    match a with
    | ⟨0, _⟩ => exact Fin.ext (by show (x 0).val = 0; omega)
    | ⟨1, _⟩ => exact Fin.ext (by show (x 1).val = r.val; omega)
    | ⟨2, _⟩ => exact Fin.ext (by show (x 2).val = d.val; omega)
  have e' : h.val = k := by omega
  rw [e', ← hP]
  exact congrArg P e

section
variable {D : Data} {i : grid0.Coords} {x0 : Vec Ideal S256x768 .f32} {x1 : Vec Ideal S768x768 .f32} {x2 x3 : Vec Ideal S768x128 .f32}
  {x4 : Vec Ideal S768x8 .f32} {x5 x6 : Vec Ideal S256x32 .f32} (G : Given D (i 0).val x0 x1 x2 x3 x5 x6)
include G

/-- The queries' block. -/
theorem out0_7_at (h : Fin 12) (r : Fin 256) (d : Fin 64) :
    out0_7 i x0 x1 x2 x3 x4 x5 x6 (ix3 h r d) = ((D.q h.val ((i 0).val * 256 + r.val) d.val * (1 / 8) : ℝ) : EReal) := by
  have hy := qlin_at (x4 := x4) G
  have hc := cos_at (x4 := x4) G
  have hs := sin_at (x4 := x4) G
  let V : ℕ → ℕ → ℕ → EReal := fun h r d => ((D.q h ((i 0).val * 256 + r) d * (1 / 8) : ℝ) : EReal)
  unfold out0_7
  refine View.canon_eq_of_allAt _ _ _ (cover0_7 _ _ _ _ _ _ _ _ _ _ _ _ _) ?_
  refine View.allAt_cons_unit _ _ _ _ _ (head_tile V 11 _ (fun r d => head11 hy hc hs r d) h r d) ?_
  refine View.allAt_cons_unit _ _ _ _ _ (head_tile V 10 _ (fun r d => head10 hy hc hs r d) h r d) ?_
  refine View.allAt_cons_unit _ _ _ _ _ (head_tile V 9 _ (fun r d => head9 hy hc hs r d) h r d) ?_
  refine View.allAt_cons_unit _ _ _ _ _ (head_tile V 8 _ (fun r d => head8 hy hc hs r d) h r d) ?_
  refine View.allAt_cons_unit _ _ _ _ _ (head_tile V 7 _ (fun r d => head7 hy hc hs r d) h r d) ?_
  refine View.allAt_cons_unit _ _ _ _ _ (head_tile V 6 _ (fun r d => head6 hy hc hs r d) h r d) ?_
  refine View.allAt_cons_unit _ _ _ _ _ (head_tile V 5 _ (fun r d => head5 hy hc hs r d) h r d) ?_
  refine View.allAt_cons_unit _ _ _ _ _ (head_tile V 4 _ (fun r d => head4 hy hc hs r d) h r d) ?_
  refine View.allAt_cons_unit _ _ _ _ _ (head_tile V 3 _ (fun r d => head3 hy hc hs r d) h r d) ?_
  refine View.allAt_cons_unit _ _ _ _ _ (head_tile V 2 _ (fun r d => head2 hy hc hs r d) h r d) ?_
  refine View.allAt_cons_unit _ _ _ _ _ (head_tile V 1 _ (fun r d => head1 hy hc hs r d) h r d) ?_
  refine View.allAt_cons_unit _ _ _ _ _ (head_tile V 0 _ (fun r d => head0 hy hc hs r d) h r d) ?_
  exact View.allAt_nil _ _

omit G in
theorem zero2 : ∀ a : Fin 2, (![0, 0] : Fin 2 → ℕ) a = 0 := by decide

/-- The values' block. -/
theorem out0_9_at (r : Fin 256) (c : Fin 128) :
    out0_9 i x0 x1 x2 x3 x4 x5 x6 (ix2 r c) = D.v (c.val / 64) ((i 0).val * 256 + r.val) (c.val % 64) := by
  refine (congrFun (View.canon_cons_unit_lit inb_S256x128_S256x128_0_0 _ [] zero2) _).trans ((vlin_at G r c).trans ?_)
  unfold Data.v
  rw [Nat.div_add_mod']

omit G in
/-- The gates' block. -/
theorem out0_10_at (r : Fin 256) (c : Fin 8) :
    out0_10 i x0 x1 x2 x3 x4 x5 x6 (ix2 r c) = Ideal.logistic (∑ k : Fin 768, x0 (ix2 r k) * x4 (ix2 k c)) := by
  refine (congrFun (View.canon_cons_unit_lit inb_S256x8_S256x8_0_0 _ [] zero2) _).trans ?_
  pointwise [k0_pay5, k0_pay1]

/-- The keys' block: for each key head its 64 rotated numbers and the mark of its block of 64 rows. -/
theorem out0_8_at (r : Fin 256) (c : Fin 192) :
    out0_8 i x0 x1 x2 x3 x4 x5 x6 (ix2 r c) = krow D (c.val / 96) ((i 0).val * 256 + r.val) (c.val % 96) := by
  have hy := klin_at G
  have hc := cos_at (x4 := x4) G
  have hs := sin_at (x4 := x4) G
  have hb := coord_lt0 i
  have hr := r.isLt
  have hcl := c.isLt
  refine (congrFun (View.canon_cons_unit_lit inb_S256x192_S256x192_0_0 _ [] zero2) _).trans ?_
  have hw : Scalar.muli (BitVec.ofNat 32 (i 0).val) 256#32 = BitVec.ofNat 32 ((i 0).val * 256) := mul_w
  rw [hw]
  pointwise [k0_pay29]
  simp only [hy, hc, hs, add_w]
  rw [show Scalar.subi (Scalar.extui (Scalar.cmpi .sgt 64#32 0#32)) (Scalar.extui (Scalar.cmpi .slt 64#32 0#32)) = 1#32 by decide,
    floor_w _ (by omega) (by omega) (by omega)]
  unfold krow
  by_cases c0 : c.val < 32
  · rw [dif_pos c0, if_pos (by omega)]
    exact (k_lo D 0 _ _ c0 _ _ (by omega) (by omega)).trans (by rw [show c.val / 96 = 0 by omega, show c.val % 96 = c.val by omega])
  rw [dif_neg c0]
  by_cases c1 : c.val - 32 < 32
  · rw [dif_pos c1, if_pos (by omega)]
    exact (k_hi D 0 _ _ c0 _ _ (by omega) (by omega)).trans (by rw [show c.val / 96 = 0 by omega, show c.val % 96 = c.val by omega])
  rw [dif_neg c1]
  by_cases c2 : c.val - 32 - 32 < 32
  · rw [dif_pos c2, if_neg (by omega), WordCmp.cmpi_eq_ofNat (by omega) (by omega), sitofp_bit]
    rw [show c.val % 96 - 64 = c.val - 32 - 32 by omega]
  rw [dif_neg c2]
  by_cases c3 : c.val - 32 - 32 - 32 < 32
  · rw [dif_pos c3, if_pos (by omega)]
    exact (k_lo D 1 _ _ c3 _ _ (by omega) (by omega)).trans (by rw [show c.val / 96 = 1 by omega, show c.val % 96 = c.val - 32 - 32 - 32 by omega])
  rw [dif_neg c3]
  by_cases c4 : c.val - 32 - 32 - 32 - 32 < 32
  · rw [dif_pos c4, if_pos (by omega)]
    exact (k_hi D 1 _ _ c3 _ _ (by omega) (by omega)).trans (by rw [show c.val / 96 = 1 by omega, show c.val % 96 = c.val - 32 - 32 - 32 by omega])
  · rw [dif_neg c4, if_neg (by omega), WordCmp.cmpi_eq_ofNat (by omega) (by omega), sitofp_bit]
    rw [show c.val % 96 - 64 = c.val - 32 - 32 - 32 - 32 - 32 by omega]

end

end Cert.KVal

end
-- ==== Proof.KArr0.lean ====
/-
  The projection call's result arrays, whole: the blocks its grid points write laid side by side.
-/
module

public import proofs.«01_k».proof.Proof.KProj
public import Idealize.ShloMosaic.Lib.Pipeline.ValueKit.Point

@[expose] public section

noncomputable section

namespace Cert.KVal

open Cert.KernelIdeal Cert.KernelIdeal.Gen Cert.KernelIdeal.Run Idealize.ShloMosaic Idealize.ShloMosaic.TcCoe Cert.Spec

/-- What the projection call's operands hold on entry. -/
structure Entry0 (D : Data) (X : Vec Ideal S2048x768 .f32) (Q : Vec Ideal S768x768 .f32) (K W : Vec Ideal S768x128 .f32)
    (C N : Vec Ideal S2048x32 .f32) : Prop where
  x_at : ∀ (s : Fin 2048) (c : Fin 768), X (ix2 s c) = (D.x s.val c.val : EReal)
  wq_at : ∀ (c e : Fin 768), Q (ix2 c e) = ((D.wq e.val c.val * (1 / 8) : ℝ) : EReal)
  wk_at : ∀ (c : Fin 768) (e : Fin 128), K (ix2 c e) = (D.wk e.val c.val : EReal)
  wv_at : ∀ (c : Fin 768) (e : Fin 128), W (ix2 c e) = D.wv e.val c.val
  cs_at : ∀ (s : Fin 2048) (e : Fin 32), C (ix2 s e) = (D.cs s.val e.val : EReal)
  sn_at : ∀ (s : Fin 2048) (e : Fin 32), N (ix2 s e) = (D.sn s.val e.val : EReal)

/-- A gate: the logistic of a row's product with a column of the gate weights. -/
def gateAt (X : Vec Ideal S2048x768 .f32) (w : Vec Ideal S768x8 .f32) (s : Fin 2048) (e : Fin 8) : EReal :=
  Ideal.logistic (∑ k : Fin 768, X (ix2 s k) * w (ix2 k e))

variable (V : (c : Dev nD) → (b : Ref sig .tc) → Buf (Elt Ideal) ((c : Thread nD τ).loc b)) (c : Dev nD)

/-- Which block of its array each window takes at a grid point. -/
theorem idx0 : ∀ t : Fin cfg0.N,
    (win0_0.index t 0 = (grid0.coords t 0).val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = (grid0.coords t 0).val ∧ win0_5.index t 1 = 0)
    ∧ (win0_6.index t 0 = (grid0.coords t 0).val ∧ win0_6.index t 1 = 0)
    ∧ (win0_7.index t 0 = 0 ∧ win0_7.index t 1 = (grid0.coords t 0).val ∧ win0_7.index t 2 = 0)
    ∧ (win0_8.index t 0 = (grid0.coords t 0).val ∧ win0_8.index t 1 = 0)
    ∧ (win0_9.index t 0 = (grid0.coords t 0).val ∧ win0_9.index t 1 = 0)
    ∧ (win0_10.index t 0 = (grid0.coords t 0).val ∧ win0_10.index t 1 = 0) := by decide +kernel

theorem row0 (t : Fin cfg0.N) (r : Fin 256) : (grid0.coords t 0).val * 256 + r.val < 2048 := by
  have := coord_lt0 (grid0.coords t)
  have := r.isLt
  omega

theorem blk0_0 (t : Fin cfg0.N) (r : Fin 256) (k : Fin 768) :
    (iblk0 V c 0 t : Vec Ideal S256x768 .f32) (ix2 r k) = (V c main_v0 : Vec Ideal S2048x768 .f32) (ix2 ⟨_, row0 t r⟩ k) := by
  obtain ⟨⟨e0, e1⟩, -⟩ := idx0 t
  blk_ext [iblk0, e0, e1]

theorem blk0_1 (t : Fin cfg0.N) (r : Fin 768) (k : Fin 768) :
    (iblk0 V c 1 t : Vec Ideal S768x768 .f32) (ix2 r k) = (V c main_v25 : Vec Ideal S768x768 .f32) (ix2 r k) := by
  obtain ⟨-, ⟨e0, e1⟩, -⟩ := idx0 t
  blk_ext [iblk0, e0, e1]

theorem blk0_2 (t : Fin cfg0.N) (r : Fin 768) (k : Fin 128) :
    (iblk0 V c 2 t : Vec Ideal S768x128 .f32) (ix2 r k) = (V c main_v2 : Vec Ideal S768x128 .f32) (ix2 r k) := by
  obtain ⟨-, -, ⟨e0, e1⟩, -⟩ := idx0 t
  blk_ext [iblk0, e0, e1]

theorem blk0_3 (t : Fin cfg0.N) (r : Fin 768) (k : Fin 128) :
    (iblk0 V c 3 t : Vec Ideal S768x128 .f32) (ix2 r k) = (V c main_v3 : Vec Ideal S768x128 .f32) (ix2 r k) := by
  obtain ⟨-, -, -, ⟨e0, e1⟩, -⟩ := idx0 t
  blk_ext [iblk0, e0, e1]

theorem blk0_4 (t : Fin cfg0.N) (r : Fin 768) (k : Fin 8) :
    (iblk0 V c 4 t : Vec Ideal S768x8 .f32) (ix2 r k) = (V c main_v7 : Vec Ideal S768x8 .f32) (ix2 r k) := by
  obtain ⟨-, -, -, -, ⟨e0, e1⟩, -⟩ := idx0 t
  blk_ext [iblk0, e0, e1]

theorem blk0_5 (t : Fin cfg0.N) (r : Fin 256) (k : Fin 32) :
    (iblk0 V c 5 t : Vec Ideal S256x32 .f32) (ix2 r k) = (V c main_v22 : Vec Ideal S2048x32 .f32) (ix2 ⟨_, row0 t r⟩ k) := by
  obtain ⟨-, -, -, -, -, ⟨e0, e1⟩, -⟩ := idx0 t
  blk_ext [iblk0, e0, e1]

theorem blk0_6 (t : Fin cfg0.N) (r : Fin 256) (k : Fin 32) :
    (iblk0 V c 6 t : Vec Ideal S256x32 .f32) (ix2 r k) = (V c main_v23 : Vec Ideal S2048x32 .f32) (ix2 ⟨_, row0 t r⟩ k) := by
  obtain ⟨-, -, -, -, -, -, ⟨e0, e1⟩, -⟩ := idx0 t
  blk_ext [iblk0, e0, e1]

section
variable {D : Data} {V c} (H : Entry0 D (V c main_v0) (V c main_v25) (V c main_v2) (V c main_v3) (V c main_v22) (V c main_v23))
include H

/-- Each grid point is handed the projection kernel's blocks of those operands. -/
theorem given0 (t : Fin cfg0.N) : Given D (grid0.coords t 0).val (iblk0 V c 0 t) (iblk0 V c 1 t) (iblk0 V c 2 t) (iblk0 V c 3 t)
    (iblk0 V c 5 t) (iblk0 V c 6 t) where
  x_at r k := (blk0_0 V c t r k).trans (H.x_at _ k)
  wq_at r k := (blk0_1 V c t r k).trans (H.wq_at r k)
  wk_at r k := (blk0_2 V c t r k).trans (H.wk_at r k)
  wv_at r k := (blk0_3 V c t r k).trans (H.wv_at r k)
  cs_at r k := (blk0_5 V c t r k).trans (H.cs_at _ k)
  sn_at r k := (blk0_6 V c t r k).trans (H.sn_at _ k)

theorem arr0_7 (h : Fin 12) (s : Fin 2048) (d : Fin 64) :
    ((dat0 V c).arrAt 7 cfg0.N : Vec Ideal S12x2048x64 .f32) (ix3 h s d) = ((D.q h.val s.val d.val * (1 / 8) : ℝ) : EReal) := by
  refine (dat0 V c).arrAt_forall_of_covers 7
    (fun (i : S12x2048x64.Idx) (v : EReal) => v = ((D.q (i 0).val (i 1).val (i 2).val * (1 / 8) : ℝ) : EReal)) (by decide +kernel)
    (fun t hf (y : S12x256x64.Idx) => ?_) (ix3 h s d)
  obtain ⟨-, -, -, -, -, -, -, ⟨e0, e1, e2⟩, -⟩ := idx0 t
  blk_simp [e0, e1, e2]
  rw [after0_7]
  obtain ⟨a, r, b, rfl⟩ : ∃ (a : Fin 12) (r : Fin 256) (b : Fin 64), y = ix3 a r b := ⟨y 0, y 1, y 2, (ix3_eta y).symm⟩
  rw [out0_7_at (given0 H t) a r b]
  simp

theorem arr0_8 (s : Fin 2048) (e : Fin 192) :
    ((dat0 V c).arrAt 8 cfg0.N : Vec Ideal S2048x192 .f32) (ix2 s e) = krow D (e.val / 96) s.val (e.val % 96) := by
  refine (dat0 V c).arrAt_forall_of_covers 8
    (fun (i : S2048x192.Idx) (v : EReal) => v = krow D ((i 1).val / 96) (i 0).val ((i 1).val % 96)) (by decide +kernel)
    (fun t hf (y : S256x192.Idx) => ?_) (ix2 s e)
  obtain ⟨-, -, -, -, -, -, -, -, ⟨e0, e1⟩, -⟩ := idx0 t
  blk_simp [e0, e1]
  rw [after0_8]
  obtain ⟨r, b, rfl⟩ : ∃ (r : Fin 256) (b : Fin 192), y = ix2 r b := ⟨y 0, y 1, (ix2_eta y).symm⟩
  rw [out0_8_at (given0 H t) r b]
  simp

theorem arr0_9 (s : Fin 2048) (e : Fin 128) :
    ((dat0 V c).arrAt 9 cfg0.N : Vec Ideal S2048x128 .f32) (ix2 s e) = D.v (e.val / 64) s.val (e.val % 64) := by
  refine (dat0 V c).arrAt_forall_of_covers 9
    (fun (i : S2048x128.Idx) (v : EReal) => v = D.v ((i 1).val / 64) (i 0).val ((i 1).val % 64)) (by decide +kernel)
    (fun t hf (y : S256x128.Idx) => ?_) (ix2 s e)
  obtain ⟨-, -, -, -, -, -, -, -, -, ⟨e0, e1⟩, -⟩ := idx0 t
  blk_simp [e0, e1]
  rw [after0_9]
  obtain ⟨r, b, rfl⟩ : ∃ (r : Fin 256) (b : Fin 128), y = ix2 r b := ⟨y 0, y 1, (ix2_eta y).symm⟩
  rw [out0_9_at (given0 H t) r b]
  simp

omit H in
theorem arr0_10 (s : Fin 2048) (e : Fin 8) :
    ((dat0 V c).arrAt 10 cfg0.N : Vec Ideal S2048x8 .f32) (ix2 s e) = gateAt (V c main_v0) (V c main_v7) s e := by
  refine (dat0 V c).arrAt_forall_of_covers 10
    (fun (i : S2048x8.Idx) (v : EReal) => v = gateAt (V c main_v0) (V c main_v7) (i 0) (i 1)) (by decide +kernel)
    (fun t hf (y : S256x8.Idx) => ?_) (ix2 s e)
  obtain ⟨-, -, -, -, -, -, -, -, -, -, e0, e1⟩ := idx0 t
  obtain ⟨r, b, rfl⟩ : ∃ (r : Fin 256) (b : Fin 8), y = ix2 r b := ⟨y 0, y 1, (ix2_eta y).symm⟩
  have h0 : ((cfg0.win 10).blk t).view.emb (ix2 r b) = (ix2 ⟨_, row0 t r⟩ b : S2048x8.Idx) := by blk_ext [e0, e1]
  rw [h0]
  refine Eq.trans (congrFun (after0_10 V c t) (ix2 r b)) ((out0_10_at r b).trans ?_)
  unfold gateAt
  refine congrArg Ideal.logistic (Finset.sum_congr rfl fun k _ => ?_)
  exact congrArg₂ (· * ·) (blk0_0 V c t r k) (blk0_4 V c t k b)

end

end Cert.KVal
-- ==== Proof.KGate.lean ====
/-
  The three rows of gate weights that the host writes over eight rows of zeros.
-/
module

public import proofs.«01_k».proof.Proof.KArr0
public import Idealize.ShloMosaic.Lib.Routing.OpsSet
public import Idealize.ShloMosaic.Lib.Routing.OpsOne

@[expose] public section

noncomputable section

namespace Cert.KVal

open Cert.KernelIdeal Cert.KernelIdeal.Gen Cert.KernelIdeal.Run Idealize.ShloMosaic Idealize.ShloMosaic.TcCoe Cert.Spec

abbrev rowsAt := scatter_S8x768_S1_S3x768_01_n_0_0

theorem lands_rows (idx : IVec S1 32) (h0 : idx (ix1 0) = 0#32) (g : Fin 3) (k : Fin 768) (r : Fin 8) (c : Fin 768) :
    rowsAt.resultIdx? (ix2 g k) idx = some (ix2 r c) ↔ r.val = g.val ∧ c = k := by
  have hm : (0 : Fin 2) ∈ rowsAt.scatterDimsToOperandDims := List.mem_singleton.2 rfl
  have hwin0 : rowsAt.window (ix2 g k) 0 = g.val := rfl
  have hwin1 : rowsAt.window (ix2 g k) 1 = k.val := rfl
  have hstart1 : rowsAt.start (ix2 g k) idx 1 = 0 := rfl
  have hstart0 : rowsAt.start (ix2 g k) idx 0 = 0 := by
    unfold ScatterDims.start
    rw [dif_pos hm]
    have hsi : rowsAt.siIdx (ix2 g k) ⟨rowsAt.scatterDimsToOperandDims.idxOf 0, List.idxOf_lt_length_iff.2 hm⟩ = ix1 (0 : Fin 1) := by
      funext b'
      match b' with
      | ⟨0, _⟩ => exact Subsingleton.elim (α := Fin 1) _ _
    rw [hsi, h0]
    rfl
  rw [Fin.ext_iff]
  refine Iff.trans (Routing.resultIdx?_ix2 rowsAt _ idx r c) ?_
  rw [hstart0, hwin0, hstart1, hwin1]
  omega

/-- Rows 0, 1 and 2 of the written array are the gate weights. -/
theorem gate_rows_at (z : Vec Ideal S8x768 .f32) (idx : IVec S1 32) (h0 : idx (ix1 0) = 0#32) (w : Vec Ideal S3x768 .f32) (r : Fin 8) (c : Fin 768)
    (hr : r.val < 3) : Host.scatter rowsAt (fun _ b => b) z idx w (ix2 r c) = w (ix2 ⟨r.val, hr⟩ c) := by
  refine Routing.scatter_set_hit rowsAt z idx w _ _ (fun j hj => ?_) (ix2 ⟨r.val, hr⟩ c) ((lands_rows idx h0 _ _ _ _).2 ⟨rfl, rfl⟩)
  obtain ⟨g, k, rfl⟩ : ∃ (g : Fin 3) (k : Fin 768), j = ix2 g k := ⟨j 0, j 1, (ix2_eta j).symm⟩
  obtain ⟨e, rfl⟩ := (lands_rows idx h0 _ _ _ _).1 hj
  exact congrArg (fun q => w (ix2 q c)) (Fin.ext e.symm)

/-- The gate weights over eight rows of zeros. -/
def gateRows (w : Vec Ideal S3x768 .f32) : Vec Ideal S8x768 .f32 :=
  Host.scatter rowsAt (fun _ b => b) (broadcastInDim S8x768 ![] bcast_S_S8x768 (constant (F := Ideal) S_ .f32 0x00000000#32))
    (broadcastInDim S1 ![] bcast_S_S1 (constantI S_ 32 0#32)) w

theorem gateRows_at (w : Vec Ideal S3x768 .f32) (r : Fin 8) (c : Fin 768) (hr : r.val < 3) : gateRows w (ix2 r c) = w (ix2 ⟨r.val, hr⟩ c) :=
  gate_rows_at _ _ rfl w r c hr

end Cert.KVal
-- ==== Proof.KComp.lean ====
/-
  The compression kernel's results at an index.
-/
module

public import proofs.«01_k».proof.Proof.KLoop
public import proofs.«01_k».proof.Proof.IdealRegion1
public import Idealize.ShloMosaic.Lib.Pipeline.ValueKit.Tiles

@[expose] public section

noncomputable section

namespace Cert.KVal

open Cert.KernelIdeal Cert.KernelIdeal.Gen Cert.KernelIdeal.Run Idealize.ShloMosaic Cert.Spec

/-- A key head's windows, from rows that hold sixteen of the head's rows each: a window's first half meets the first 1024
    weights, its second half, the next row, the others. -/
theorem window (f : ℕ → ℕ → EReal) (w : ℕ → ℕ → EReal) {x : Vec Ideal S1x128x1024 .f32} {w0 w1 : Vec Ideal S1x1024x64 .f32}
    (hx : ∀ (t : Fin 128) (e : Fin 1024), x (ix3 0 t e) = f (t.val * 16 + e.val / 64) (e.val % 64))
    (h0 : ∀ (e : Fin 1024) (d : Fin 64), w0 (ix3 0 e d) = w e.val d.val)
    (h1 : ∀ (e : Fin 1024) (d : Fin 64), w1 (ix3 0 e d) = w (1024 + e.val) d.val) (t : Fin 128) (d : Fin 64) (ht : t.val < 127) :
    k1_pay2 x w0 w1 (ix3 0 t d) = ∑ e : Fin 2048, f (t.val * 16 + e.val / 64) (e.val % 64) * w e.val d.val := by
  pointwise [k1_pay2]
  have e1 := Fin.sum_univ_add (a := 1024) (b := 1024) (fun e : Fin 2048 => f (t.val * 16 + e.val / 64) (e.val % 64) * w e.val d.val)
  refine Eq.trans (congrArg₂ (· + ·) (Finset.sum_congr rfl fun e _ => ?_) (Finset.sum_congr rfl fun e _ => ?_)) e1.symm
  · rw [hx, h0]
    rfl
  · rw [dif_pos ht, hx, h1]
    have he := e.isLt
    show f ((1 + t.val) * 16 + e.val / 64) (e.val % 64) * w (1024 + e.val) d.val
      = f (t.val * 16 + (1024 + e.val) / 64) ((1024 + e.val) % 64) * w (1024 + e.val) d.val
    rw [show t.val * 16 + (1024 + e.val) / 64 = (1 + t.val) * 16 + e.val / 64 by omega, show (1024 + e.val) % 64 = e.val % 64 by omega]

/-- The tile of a key head. -/
theorem kv_tile (V : ℕ → ℕ → ℕ → EReal) (k : ℕ) (P : FVec Ideal S1x128x64 .f32) (t : Fin 128) (d : Fin 64) (hP : P (ix3 0 t d) = V k t.val d.val) (h : Fin 2) :
    View.TileAt (Val := Elt Ideal) (e := .f32) (S := S2x128x64) (ix3 h t d) ![k, 0, 0] S1x128x64.size P (V h.val t.val d.val) := by
  intro x hx
  have h0 : h.val = k + (x 0).val := hx 0
  have h1 : t.val = 0 + (x 1).val := hx 1
  have h2 : d.val = 0 + (x 2).val := hx 2
  have hz : (x 0).val < 1 := (x 0).isLt
  have e : x = ix3 (0 : Fin 1) t d := by
    funext a
    match a with
    | ⟨0, _⟩ => exact Fin.ext (by show (x 0).val = 0; omega)
    | ⟨1, _⟩ => exact Fin.ext (by show (x 1).val = t.val; omega)
    | ⟨2, _⟩ => exact Fin.ext (by show (x 2).val = d.val; omega)
  have e' : h.val = k := by omega
  rw [e', ← hP]
  exact congrArg P e

section
variable {x y : Vec Ideal S2x128x1024 .f32} {w z : Vec Ideal S2x2048x64 .f32} (f : ℕ → ℕ → ℕ → EReal) (u : ℕ → ℕ → ℕ → EReal)

theorem rows_at (hx : ∀ (a : Fin 2) (t : Fin 128) (e : Fin 1024), x (ix3 a t e) = f a.val (t.val * 16 + e.val / 64) (e.val % 64)) (a : ℕ) (ha : a < 2)
    (inb : ∀ b, (![a, 0, 0] : Fin 3 → ℕ) b + S1x128x1024.size b ≤ S2x128x1024.size b) (t : Fin 128) (e : Fin 1024) :
    View.ld x (Rect.unit (s := S2x128x1024) ![a, 0, 0] S1x128x1024.size inb) (ix3 (0 : Fin 1) t e) = f a (t.val * 16 + e.val / 64) (e.val % 64) := by
  refine (View.ld_unit_apply_of x _ _ _ _ (ix3 (⟨a, ha⟩ : Fin 2) t e) (fun b => ?_)).trans (hx _ t e)
  match b with
  | ⟨0, _⟩ => rfl
  | ⟨1, _⟩ => exact (Nat.zero_add _).symm
  | ⟨2, _⟩ => exact (Nat.zero_add _).symm

theorem weights_at (hw : ∀ (a : Fin 2) (e : Fin 2048) (d : Fin 64), w (ix3 a e d) = u a.val e.val d.val) (a k : ℕ) (ha : a < 2) (hk : k + 1024 ≤ 2048)
    (inb : ∀ b, (![a, k, 0] : Fin 3 → ℕ) b + S1x1024x64.size b ≤ S2x2048x64.size b) (e : Fin 1024) (d : Fin 64) :
    View.ld w (Rect.unit (s := S2x2048x64) ![a, k, 0] S1x1024x64.size inb) (ix3 (0 : Fin 1) e d) = u a (k + e.val) d.val := by
  have he := e.isLt
  refine (View.ld_unit_apply_of w _ _ _ _ (ix3 (⟨a, ha⟩ : Fin 2) (⟨k + e.val, by omega⟩ : Fin 2048) d) (fun b => ?_)).trans (hw _ _ d)
  match b with
  | ⟨0, _⟩ => rfl
  | ⟨1, _⟩ => rfl
  | ⟨2, _⟩ => exact (Nat.zero_add _).symm

/-- Head `a`'s window `t`. -/
def win (a t d : ℕ) : EReal := ∑ e : Fin 2048, f a (t * 16 + e.val / 64) (e.val % 64) * u a e.val d

theorem head_win (hx : ∀ (a : Fin 2) (t : Fin 128) (e : Fin 1024), x (ix3 a t e) = f a.val (t.val * 16 + e.val / 64) (e.val % 64))
    (hw : ∀ (a : Fin 2) (e : Fin 2048) (d : Fin 64), w (ix3 a e d) = u a.val e.val d.val) (a : ℕ) (ha : a < 2)
    (i0 : ∀ b, (![a, 0, 0] : Fin 3 → ℕ) b + S1x128x1024.size b ≤ S2x128x1024.size b)
    (i1 : ∀ b, (![a, 0, 0] : Fin 3 → ℕ) b + S1x1024x64.size b ≤ S2x2048x64.size b)
    (i2 : ∀ b, (![a, 1024, 0] : Fin 3 → ℕ) b + S1x1024x64.size b ≤ S2x2048x64.size b) (t : Fin 128) (d : Fin 64) (ht : t.val < 127) :
    k1_pay2 (View.ld x (Rect.unit (s := S2x128x1024) ![a, 0, 0] S1x128x1024.size i0)) (View.ld w (Rect.unit (s := S2x2048x64) ![a, 0, 0] S1x1024x64.size i1))
      (View.ld w (Rect.unit (s := S2x2048x64) ![a, 1024, 0] S1x1024x64.size i2)) (ix3 0 t d) = win f u a t.val d.val :=
  window (f a) (u a) (rows_at f hx a ha i0)
    (fun e d => (weights_at u hw a 0 ha (by decide) i1 e d).trans (by rw [Nat.zero_add])) (weights_at u hw a 1024 ha (by decide) i2) t d ht

theorem out1_4_at (hx : ∀ (a : Fin 2) (t : Fin 128) (e : Fin 1024), x (ix3 a t e) = f a.val (t.val * 16 + e.val / 64) (e.val % 64))
    (hw : ∀ (a : Fin 2) (e : Fin 2048) (d : Fin 64), w (ix3 a e d) = u a.val e.val d.val) (a : Fin 2) (t : Fin 128) (d : Fin 64) (ht : t.val < 127) :
    out1_4 x y w z (ix3 a t d) = win f u a.val t.val d.val := by
  unfold out1_4
  refine View.canon_eq_of_allAt _ _ _ (cover1_4 _ _ _) ?_
  refine View.allAt_cons_unit _ _ _ _ _ (kv_tile (win f u) 1 _ t d (head_win f u hx hw 1 (by decide) _ _ _ t d ht) a) ?_
  refine View.allAt_cons_unit _ _ _ _ _ (kv_tile (win f u) 0 _ t d (head_win f u hx hw 0 (by decide) _ _ _ t d ht) a) ?_
  exact View.allAt_nil _ _

theorem out1_5_at (hy : ∀ (a : Fin 2) (t : Fin 128) (e : Fin 1024), y (ix3 a t e) = f a.val (t.val * 16 + e.val / 64) (e.val % 64))
    (hz : ∀ (a : Fin 2) (e : Fin 2048) (d : Fin 64), z (ix3 a e d) = u a.val e.val d.val) (a : Fin 2) (t : Fin 128) (d : Fin 64) (ht : t.val < 127) :
    out1_5 x y w z (ix3 a t d) = win f u a.val t.val d.val := by
  unfold out1_5
  refine View.canon_eq_of_allAt _ _ _ (cover1_5 _ _ _) ?_
  refine View.allAt_cons_unit _ _ _ _ _ (kv_tile (win f u) 1 _ t d (head_win f u hy hz 1 (by decide) _ _ _ t d ht) a) ?_
  refine View.allAt_cons_unit _ _ _ _ _ (kv_tile (win f u) 0 _ t d (head_win f u hy hz 0 (by decide) _ _ _ t d ht) a) ?_
  exact View.allAt_nil _ _

end

end Cert.KVal

end
-- ==== Proof.KOut.lean ====
/-
  The attention kernel's block of the result at an index.
-/
module

public import proofs.«01_k».proof.Proof.KLoop
public import Idealize.ShloMosaic.Lib.Pipeline.ValueKit.Tiles

@[expose] public section

noncomputable section

namespace Cert.KVal

open Cert.KernelIdeal Cert.KernelIdeal.Gen Cert.KernelIdeal.Run Idealize.ShloMosaic Cert.Spec

/-- What the attention kernel is handed at grid point `b`. -/
structure Handed (D : Data) (g wo : ℕ → ℕ → EReal) (b : ℕ) (x0 : Vec Ideal S12x256x64 .f32) (x1 : Vec Ideal S2048x192 .f32) (x2 : Vec Ideal S2048x128 .f32)
    (x3 : Vec Ideal S2x128x64 .f32) (x4 : Vec Ideal S2x128x64 .f32) (x5 : Vec Ideal S256x8 .f32) (x6 : Vec Ideal S768x768 .f32) : Prop where
  q_at : ∀ (h : Fin 12) (r : Fin 256) (d : Fin 64), x0 (ix3 h r d) = ((D.q h.val (b * 256 + r.val) d.val * (1 / 8) : ℝ) : EReal)
  k_at : ∀ (j : Fin 2048) (c : Fin 192), x1 (ix2 j c) = krow D (c.val / 96) j.val (c.val % 96)
  v_at : ∀ (j : Fin 2048) (c : Fin 128), x2 (ix2 j c) = D.v (c.val / 64) j.val (c.val % 64)
  ck_at : ∀ (a : Fin 2) (t : Fin 128) (d : Fin 64), t.val < 127 → x3 (ix3 a t d) = (D.ck a.val t.val d.val : EReal)
  cv_at : ∀ (a : Fin 2) (t : Fin 128) (d : Fin 64), t.val < 127 → x4 (ix3 a t d) = D.cv a.val t.val d.val
  g_at : ∀ (r : Fin 256) (c : Fin 8), c.val < 3 → x5 (ix2 r c) = g (b * 256 + r.val) c.val
  wo_at : ∀ e c : Fin 768, x6 (ix2 e c) = wo c.val e.val

section
variable {D : Data} {g wo : ℕ → ℕ → EReal} {i : grid2.Coords} {x0 : Vec Ideal S12x256x64 .f32} {x1 : Vec Ideal S2048x192 .f32} {x2 : Vec Ideal S2048x128 .f32}
  {x3 x4 : Vec Ideal S2x128x64 .f32} {x5 : Vec Ideal S256x8 .f32} {x6 : Vec Ideal S768x768 .f32}
  (H : Handed D g wo (i 0).val x0 x1 x2 x3 x4 x5 x6)
include H

theorem half0 : Half D 0 (i 0).val (q_0 x0) (c_0 x3) (c_0 x4) := by
  refine ⟨by decide, coord_lt i, fun g r d => ?_, fun t d ht => ?_, fun t d ht => ?_⟩
  · have hg := g.isLt
    refine (View.ld_unit_apply_of x0 _ _ _ _ (ix3 (⟨g.val, by omega⟩ : Fin 12) r d) (fun a => ?_)).trans ?_
    · match a with
      | ⟨0, _⟩ => exact (Nat.zero_add _).symm
      | ⟨1, _⟩ => exact (Nat.zero_add _).symm
      | ⟨2, _⟩ => exact (Nat.zero_add _).symm
    · rw [H.q_at, Nat.zero_mul, Nat.zero_add]
  · refine (View.ld_unit_apply_of x3 _ _ _ _ (ix3 (0 : Fin 2) t d) (fun a => ?_)).trans (H.ck_at 0 t d ht)
    match a with
    | ⟨0, _⟩ => rfl
    | ⟨1, _⟩ => exact (Nat.zero_add _).symm
    | ⟨2, _⟩ => exact (Nat.zero_add _).symm
  · refine (View.ld_unit_apply_of x4 _ _ _ _ (ix3 (0 : Fin 2) t d) (fun a => ?_)).trans (H.cv_at 0 t d ht)
    match a with
    | ⟨0, _⟩ => rfl
    | ⟨1, _⟩ => exact (Nat.zero_add _).symm
    | ⟨2, _⟩ => exact (Nat.zero_add _).symm

theorem half1 : Half D 1 (i 0).val (q_1 x0) (c_1 x3) (c_1 x4) := by
  refine ⟨by decide, coord_lt i, fun g r d => ?_, fun t d ht => ?_, fun t d ht => ?_⟩
  · have hg := g.isLt
    refine (View.ld_unit_apply_of x0 _ _ _ _ (ix3 (⟨6 + g.val, by omega⟩ : Fin 12) r d) (fun a => ?_)).trans ?_
    · match a with
      | ⟨0, _⟩ => rfl
      | ⟨1, _⟩ => exact (Nat.zero_add _).symm
      | ⟨2, _⟩ => exact (Nat.zero_add _).symm
    · rw [H.q_at, Nat.one_mul]
  · refine (View.ld_unit_apply_of x3 _ _ _ _ (ix3 (1 : Fin 2) t d) (fun a => ?_)).trans (H.ck_at 1 t d ht)
    match a with
    | ⟨0, _⟩ => rfl
    | ⟨1, _⟩ => exact (Nat.zero_add _).symm
    | ⟨2, _⟩ => exact (Nat.zero_add _).symm
  · refine (View.ld_unit_apply_of x4 _ _ _ _ (ix3 (1 : Fin 2) t d) (fun a => ?_)).trans (H.cv_at 1 t d ht)
    match a with
    | ⟨0, _⟩ => rfl
    | ⟨1, _⟩ => exact (Nat.zero_add _).symm
    | ⟨2, _⟩ => exact (Nat.zero_add _).symm

/-! ### Rows of keys and values, loaded -/

theorem k_rows {n : ℕ} (a K c : ℕ) (hc : c = a * 96) (off : Fin 2 → ℕ) (ho : off = ![K, c]) (hK : K + n ≤ 2048) (ha : a < 2)
    (inb : ∀ b, off b + (⟨2, ![n, 96]⟩ : Shape).size b ≤ S2048x192.size b) :
    KRows D a K (View.ld x1 (Rect.unit (s := S2048x192) off (⟨2, ![n, 96]⟩ : Shape).size inb)) := by
  subst ho
  refine ⟨hK, fun j e => ?_⟩
  have hj := j.isLt
  have he := e.isLt
  refine (View.ld_unit_apply_of x1 _ _ _ _ (ix2 (⟨K + j.val, by omega⟩ : Fin 2048) (⟨c + e.val, by omega⟩ : Fin 192)) (fun a => ?_)).trans ?_
  · match a with
    | ⟨0, _⟩ => rfl
    | ⟨1, _⟩ => rfl
  · rw [H.k_at]
    congr 1 <;> (show _ = _) <;> dsimp only <;> omega

theorem w_rows {n : ℕ} (a K c : ℕ) (hc : c = a * 96) (off : Fin 2 → ℕ) (ho : off = ![K, c]) (hK : K + n ≤ 2048) (ha : a < 2)
    (inb : ∀ b, off b + (⟨2, ![n, 64]⟩ : Shape).size b ≤ S2048x192.size b) :
    WRows D a K (View.ld x1 (Rect.unit (s := S2048x192) off (⟨2, ![n, 64]⟩ : Shape).size inb)) := by
  subst ho
  intro j e
  have hj := j.isLt
  have he := e.isLt
  refine (View.ld_unit_apply_of x1 _ _ _ _ (ix2 (⟨K + j.val, by omega⟩ : Fin 2048) (⟨c + e.val, by omega⟩ : Fin 192)) (fun a => ?_)).trans ?_
  · match a with
    | ⟨0, _⟩ => rfl
    | ⟨1, _⟩ => rfl
  · rw [H.k_at]
    have e1 : (c + e.val) / 96 = a := by omega
    have e2 : (c + e.val) % 96 = e.val := by omega
    show krow D ((c + e.val) / 96) (K + j.val) ((c + e.val) % 96) = _
    rw [e1, e2, krow, if_pos he]

theorem v_rows {n : ℕ} (a K c : ℕ) (hc : c = a * 64) (off : Fin 2 → ℕ) (ho : off = ![K, c]) (hK : K + n ≤ 2048) (ha : a < 2)
    (inb : ∀ b, off b + (⟨2, ![n, 64]⟩ : Shape).size b ≤ S2048x128.size b) :
    VRows D a K (View.ld x2 (Rect.unit (s := S2048x128) off (⟨2, ![n, 64]⟩ : Shape).size inb)) := by
  subst ho
  intro j e
  have hj := j.isLt
  have he := e.isLt
  refine (View.ld_unit_apply_of x2 _ _ _ _ (ix2 (⟨K + j.val, by omega⟩ : Fin 2048) (⟨c + e.val, by omega⟩ : Fin 128)) (fun a => ?_)).trans ?_
  · match a with
    | ⟨0, _⟩ => rfl
    | ⟨1, _⟩ => rfl
  · rw [H.v_at]
    have e1 : (c + e.val) / 64 = a := by omega
    have e2 : (c + e.val) % 64 = e.val := by omega
    show D.v ((c + e.val) / 64) (K + j.val) ((c + e.val) % 64) = _
    rw [e1, e2]

/-! ### The loop -/

theorem carry1_at {w : FVec Ideal S1536x96 .f32} (hw : QRows D 0 (i 0).val w) : ∀ n : ℕ, n ≤ (i 0).val / 2 →
    Carried D 0 (i 0).val (512 * n) (carry1 i w x1 x2 (k2_pay18, k2_pay19) n)
  | 0, _ => carried_zero
  | n + 1, hn => by
    have hb := coord_lt i
    have h : n < (k2_t1_loop i).trips := by rw [trips1]; omega
    rw [carry1, dif_pos h]
    exact carried_512 hw (k_rows H 0 (512 * n) 0 rfl _ (off1_eq i ⟨n, h⟩) (by omega) (by decide) _)
      (v_rows H 0 (512 * n) 0 rfl _ (off2_eq i ⟨n, h⟩) (by omega) (by decide) _) (carry1_at hw n (by omega))

theorem carry3_at {w : FVec Ideal S1536x96 .f32} (hw : QRows D 1 (i 0).val w) : ∀ n : ℕ, n ≤ (i 0).val / 2 →
    Carried D 1 (i 0).val (512 * n) (carry3 i w x1 x2 (k2_pay38, k2_pay39) n)
  | 0, _ => carried_zero
  | n + 1, hn => by
    have hb := coord_lt i
    have h : n < (k2_t3_loop i).trips := by rw [trips3]; omega
    rw [carry3, dif_pos h]
    exact carried_512 hw (k_rows H 1 (512 * n) 96 rfl _ (off11_eq i ⟨n, h⟩) (by omega) (by decide) _)
      (v_rows H 1 (512 * n) 64 rfl _ (off12_eq i ⟨n, h⟩) (by omega) (by decide) _) (carry3_at hw n (by omega))

theorem far0_at {w : FVec Ideal S1536x96 .f32} (hw : QRows D 0 (i 0).val w) : Carried D 0 (i 0).val ((i 0).val * 256) (far_0 i w x1 x2) := by
  have hb := coord_lt i
  have h0 := carry1_at H hw ((i 0).val / 2) le_rfl
  unfold far_0
  rw [trips1, trips2]
  dsimp only [carry2]
  by_cases h : k2_cond1 i = 1#1
  · have hm := (cond1_iff i).mp h
    rw [dif_pos h]
    have e : (i 0).val * 256 = 512 * ((i 0).val / 2) + 256 := by omega
    have e' : 256 * ((i 0).val - 1) = 512 * ((i 0).val / 2) := by omega
    rw [e]
    exact carried_256 hw (k_rows H 0 _ 0 rfl _ ((off5_eq i h).trans (by rw [e'])) (by omega) (by decide) _)
      (v_rows H 0 _ 0 rfl _ ((off6_eq i h).trans (by rw [e'])) (by omega) (by decide) _) h0
  · have hm : ¬ (i 0).val % 2 = 1 := fun h' => h ((cond1_iff i).mpr h')
    rw [dif_neg h]
    have e : (i 0).val * 256 = 512 * ((i 0).val / 2) := by omega
    rw [e]
    exact h0

theorem far1_at {w : FVec Ideal S1536x96 .f32} (hw : QRows D 1 (i 0).val w) : Carried D 1 (i 0).val ((i 0).val * 256) (far_1 i w x1 x2) := by
  have hb := coord_lt i
  have h0 := carry3_at H hw ((i 0).val / 2) le_rfl
  unfold far_1
  rw [trips3, trips4]
  dsimp only [carry4]
  by_cases h : k2_cond2 i = 1#1
  · have hm := (cond2_iff i).mp h
    rw [dif_pos h]
    have e : (i 0).val * 256 = 512 * ((i 0).val / 2) + 256 := by omega
    have e' : 256 * ((i 0).val - 1) = 512 * ((i 0).val / 2) := by omega
    rw [e]
    exact carried_256 hw (k_rows H 1 _ 96 rfl _ ((off15_eq i h).trans (by rw [e'])) (by omega) (by decide) _)
      (v_rows H 1 _ 64 rfl _ ((off16_eq i h).trans (by rw [e'])) (by omega) (by decide) _) h0
  · have hm : ¬ (i 0).val % 2 = 1 := fun h' => h ((cond2_iff i).mpr h')
    rw [dif_neg h]
    have e : (i 0).val * 256 = 512 * ((i 0).val / 2) := by omega
    rw [e]
    exact h0

/-! ### The two halves -/

theorem gates_at (c : Fin 8) (hc : c.val < 3) (r : Fin 1536) : g_0 x5 (ix2 (rowq r) c) = g (qr (i 0).val r.val) c.val := by
  refine (View.ld_unit_apply_of x5 _ _ _ _ (ix2 (rowq r) c) (fun a => ?_)).trans (H.g_at _ c hc)
  match a with
  | ⟨0, _⟩ => exact (Nat.zero_add _).symm
  | ⟨1, _⟩ => exact (Nat.zero_add _).symm

omit H in
theorem win_at (r : Fin 1536) (j : Fin 768) : k2_pay9 (F := Ideal) (Scalar.muli (gw i) 256#32) (w92 i) (ix2 r j)
    = if band (i 0).val + j.val ≤ qr (i 0).val r.val ∧ qr (i 0).val r.val - (band (i 0).val + j.val) ≤ 512 then 0 else ⊥ := by
  have hb := coord_lt i
  rw [gw_eq, w92_eq]
  exact pay9_at _ _ (by omega) (by omega) r j

theorem qc0_at (hB : D.Bounded floor) : QRows D 0 (i 0).val (qc_0 i x0 x3) := fun r e => pay17_at (half0 H) hB r e
theorem qc1_at (hB : D.Bounded floor) : QRows D 1 (i 0).val (qc_1 i x0 x3) := fun r e => pay17_at (half1 H) hB r e

theorem half_0_at (hB : D.Bounded floor) (r : Fin 1536) (d : Fin 64) :
    half_0 i x0 x1 x2 x3 x4 x5 (ix2 r d) = D.comb g (hd 0 r.val) (qr (i 0).val r.val) d.val := by
  have hb := coord_lt i
  have hq := qc0_at H hB
  have hf := far0_at H hq
  have hkd := k_rows H (n := 256) 0 ((i 0).val * 256) 0 rfl _ ((off7_eq i).trans (by rw [Nat.mul_comm])) (by omega) (by decide) (k2_off7_inb i)
  have hvd := v_rows H (n := 256) 0 ((i 0).val * 256) 0 rfl _ ((off8_eq i).trans (by rw [Nat.mul_comm])) (by omega) (by decide) (k2_off8_inb i)
  have hkw := w_rows H (n := 768) 0 (band (i 0).val) 0 rfl _ (off9_eq i) (by unfold band; omega) (by decide) (k2_off9_inb i)
  have hvw := v_rows H (n := 768) 0 (band (i 0).val) 0 rfl _ (off10_eq i) (by unfold band; omega) (by decide) (k2_off10_inb i)
  exact pay32_at hb g (fun r => (pay11_at _ r 0).trans (gates_at H 0 (by decide) r)) (fun r => (pay12_at _ r 0).trans (gates_at H 1 (by decide) r))
    (fun r => (pay13_at _ r 0).trans (gates_at H 2 (by decide) r)) (pay14_at (half0 H)) win_at (pay16_at (half0 H) hB)
    (pay31_at hb hq hkd hvd hf) (pay30_at hb hq hkd hf) hkw hvw r d

theorem half_1_at (hB : D.Bounded floor) (r : Fin 1536) (d : Fin 64) :
    half_1 i x0 x1 x2 x3 x4 x5 (ix2 r d) = D.comb g (hd 1 r.val) (qr (i 0).val r.val) d.val := by
  have hb := coord_lt i
  have hq := qc1_at H hB
  have hf := far1_at H hq
  have hkd := k_rows H (n := 256) 1 ((i 0).val * 256) 96 rfl _ ((off17_eq i).trans (by rw [Nat.mul_comm])) (by omega) (by decide) (k2_off17_inb i)
  have hvd := v_rows H (n := 256) 1 ((i 0).val * 256) 64 rfl _ ((off18_eq i).trans (by rw [Nat.mul_comm])) (by omega) (by decide) (k2_off18_inb i)
  have hkw := w_rows H (n := 768) 1 (band (i 0).val) 96 rfl _ (off19_eq i) (by unfold band; omega) (by decide) (k2_off19_inb i)
  have hvw := v_rows H (n := 768) 1 (band (i 0).val) 64 rfl _ (off20_eq i) (by unfold band; omega) (by decide) (k2_off20_inb i)
  exact pay32_at hb g (fun r => (pay11_at _ r 0).trans (gates_at H 0 (by decide) r)) (fun r => (pay12_at _ r 0).trans (gates_at H 1 (by decide) r))
    (fun r => (pay13_at _ r 0).trans (gates_at H 2 (by decide) r)) (pay14_at (half1 H)) win_at (pay16_at (half1 H) hB)
    (pay31_at hb hq hkd hvd hf) (pay30_at hb hq hkd hf) hkw hvw r d

/-! ### The output projection -/

/-- A head's part of the projection: 64 of the 768 columns of the combined heads. -/
def part (D : Data) (g wo : ℕ → ℕ → EReal) (s c k : ℕ) : EReal :=
  ∑ d : Fin 64, D.comb g ((k * 64 + d.val) / 64) s ((k * 64 + d.val) % 64) * wo c (k * 64 + d.val)

omit H in
theorem add12 {a0 a1 a2 a3 a4 a5 a6 a7 a8 a9 a10 a11 : EReal} {t : ℕ → EReal} (h0 : a0 = t 0) (h1 : a1 = t 1) (h2 : a2 = t 2) (h3 : a3 = t 3) (h4 : a4 = t 4)
    (h5 : a5 = t 5) (h6 : a6 = t 6) (h7 : a7 = t 7) (h8 : a8 = t 8) (h9 : a9 = t 9) (h10 : a10 = t 10) (h11 : a11 = t 11) :
    a0 + a1 + a2 + a3 + a4 + a5 + a6 + a7 + a8 + a9 + a10 + a11 = ∑ k : Fin 12, t k.val := by
  subst h0 h1 h2 h3 h4 h5 h6 h7 h8 h9 h10 h11
  rw [← Finset.sum_range t]
  simp only [Finset.sum_range_succ, Finset.sum_range_zero, zero_add]

theorem part_at {a : ℕ} {y : FVec Ideal S1536x64 .f32} (hy : ∀ (r : Fin 1536) (d : Fin 64), y (ix2 r d) = D.comb g (hd a r.val) (qr (i 0).val r.val) d.val)
    (r : Fin 256) (c : Fin 768) (k : ℕ) (row : Fin 1536) (hrow : row.val = k * 256 + r.val) (col : Fin 64 → Fin 768)
    (hcol : ∀ x, (col x).val = (a * 6 + k) * 64 + x.val) :
    ∑ x : Fin 64, y (ix2 row x) * x6 (ix2 (col x) c) = part D g wo ((i 0).val * 256 + r.val) c.val (a * 6 + k) := by
  have hr := r.isLt
  refine Finset.sum_congr rfl fun x _ => ?_
  have hx := x.isLt
  rw [hy, H.wo_at, hcol]
  have e1 : hd a row.val = ((a * 6 + k) * 64 + x.val) / 64 := by unfold hd; omega
  have e2 : qr (i 0).val row.val = (i 0).val * 256 + r.val := by unfold qr; omega
  have e3 : x.val = ((a * 6 + k) * 64 + x.val) % 64 := by omega
  rw [e1, e2, ← e3]

theorem proj_out_at {h0 h1 : FVec Ideal S1536x64 .f32} (y0 : ∀ (r : Fin 1536) (d : Fin 64), h0 (ix2 r d) = D.comb g (hd 0 r.val) (qr (i 0).val r.val) d.val)
    (y1 : ∀ (r : Fin 1536) (d : Fin 64), h1 (ix2 r d) = D.comb g (hd 1 r.val) (qr (i 0).val r.val) d.val) (r : Fin 256) (c : Fin 768) :
    proj_out h0 h1 x6 (ix2 r c) = D.out g wo ((i 0).val * 256 + r.val) c.val := by
  have hr := r.isLt
  pointwise [proj_out, k2_pay1, k2_pay53, k2_pay54, k2_pay55, k2_pay56, k2_pay57]
  refine (add12 (t := part D g wo ((i 0).val * 256 + r.val) c.val)
    (part_at H y0 r c 0 _ (by simp) (fun x => ⟨x.val, by omega⟩) (fun x => by simp))
    (part_at H y0 r c 1 _ rfl (fun x => ⟨64 + x.val, by omega⟩) (fun x => rfl))
    (part_at H y0 r c 2 _ rfl (fun x => ⟨128 + x.val, by omega⟩) (fun x => rfl))
    (part_at H y0 r c 3 _ rfl (fun x => ⟨192 + x.val, by omega⟩) (fun x => rfl))
    (part_at H y0 r c 4 _ rfl (fun x => ⟨256 + x.val, by omega⟩) (fun x => rfl))
    (part_at H y0 r c 5 _ rfl (fun x => ⟨320 + x.val, by omega⟩) (fun x => rfl))
    (part_at H y1 r c 0 _ (by simp) (fun x => ⟨384 + x.val, by omega⟩) (fun x => rfl))
    (part_at H y1 r c 1 _ rfl (fun x => ⟨448 + x.val, by omega⟩) (fun x => rfl))
    (part_at H y1 r c 2 _ rfl (fun x => ⟨512 + x.val, by omega⟩) (fun x => rfl))
    (part_at H y1 r c 3 _ rfl (fun x => ⟨576 + x.val, by omega⟩) (fun x => rfl))
    (part_at H y1 r c 4 _ rfl (fun x => ⟨640 + x.val, by omega⟩) (fun x => rfl))
    (part_at H y1 r c 5 _ rfl (fun x => ⟨704 + x.val, by omega⟩) (fun x => rfl))).trans ?_
  exact (sum_heads (fun e => D.comb g (e / 64) ((i 0).val * 256 + r.val) (e % 64) * wo c.val e)).symm

/-- The block of the result at an index. -/
theorem out2_7_at (hB : D.Bounded floor) (r : Fin 256) (c : Fin 768) :
    out2_7 i x0 x1 x2 x3 x4 x5 x6 (ix2 r c) = D.out g wo ((i 0).val * 256 + r.val) c.val := by
  refine Eq.trans ?_ (proj_out_at H (half_0_at H hB) (half_1_at H hB) r c)
  exact congrFun (View.canon_cons_unit_lit inb_S256x768_S256x768_0_0 _ [] (fun a => by match a with | ⟨0, _⟩ => rfl | ⟨1, _⟩ => rfl)) _

end

end Cert.KVal

end
-- ==== Proof.KArr1.lean ====
/-
  The compression call's two result arrays and the attention call's, whole.
-/
module

public import proofs.«01_k».proof.Proof.KComp
public import proofs.«01_k».proof.Proof.KOut
public import Idealize.ShloMosaic.Lib.Pipeline.ValueKit.Point

@[expose] public section

noncomputable section

namespace Cert.KVal

open Cert.KernelIdeal Cert.KernelIdeal.Gen Cert.KernelIdeal.Run Idealize.ShloMosaic Idealize.ShloMosaic.TcCoe Cert.Spec

variable (V : (c : Dev nD) → (b : Ref sig .tc) → Buf (Elt Ideal) ((c : Thread nD τ).loc b)) (c : Dev nD)

/-! ### The compression call -/

/-- Its grid has one point, and every window is its array. -/
theorem idx1 : ∀ t : Fin cfg1.N,
    (win1_0.index t 0 = 0 ∧ win1_0.index t 1 = 0 ∧ win1_0.index t 2 = 0) ∧ (win1_1.index t 0 = 0 ∧ win1_1.index t 1 = 0 ∧ win1_1.index t 2 = 0)
    ∧ (win1_2.index t 0 = 0 ∧ win1_2.index t 1 = 0 ∧ win1_2.index t 2 = 0) ∧ (win1_3.index t 0 = 0 ∧ win1_3.index t 1 = 0 ∧ win1_3.index t 2 = 0)
    ∧ (win1_4.index t 0 = 0 ∧ win1_4.index t 1 = 0 ∧ win1_4.index t 2 = 0)
    ∧ (win1_5.index t 0 = 0 ∧ win1_5.index t 1 = 0 ∧ win1_5.index t 2 = 0) := by decide +kernel

theorem blk1_0 (t : Fin cfg1.N) (a : Fin 2) (j : Fin 128) (e : Fin 1024) :
    (iblk1 V c 0 t : Vec Ideal S2x128x1024 .f32) (ix3 a j e) = (V c main_v32 : Vec Ideal S2x128x1024 .f32) (ix3 a j e) := by
  obtain ⟨⟨e0, e1, e2⟩, -⟩ := idx1 t
  blk_ext [iblk1, e0, e1, e2]

theorem blk1_1 (t : Fin cfg1.N) (a : Fin 2) (j : Fin 128) (e : Fin 1024) :
    (iblk1 V c 1 t : Vec Ideal S2x128x1024 .f32) (ix3 a j e) = (V c main_v35 : Vec Ideal S2x128x1024 .f32) (ix3 a j e) := by
  obtain ⟨-, ⟨e0, e1, e2⟩, -⟩ := idx1 t
  blk_ext [iblk1, e0, e1, e2]

theorem blk1_2 (t : Fin cfg1.N) (a : Fin 2) (e : Fin 2048) (d : Fin 64) :
    (iblk1 V c 2 t : Vec Ideal S2x2048x64 .f32) (ix3 a e d) = (V c main_arg6 : Vec Ideal S2x2048x64 .f32) (ix3 a e d) := by
  obtain ⟨-, -, ⟨e0, e1, e2⟩, -⟩ := idx1 t
  blk_ext [iblk1, e0, e1, e2]

theorem blk1_3 (t : Fin cfg1.N) (a : Fin 2) (e : Fin 2048) (d : Fin 64) :
    (iblk1 V c 3 t : Vec Ideal S2x2048x64 .f32) (ix3 a e d) = (V c main_arg7 : Vec Ideal S2x2048x64 .f32) (ix3 a e d) := by
  obtain ⟨-, -, -, ⟨e0, e1, e2⟩, -⟩ := idx1 t
  blk_ext [iblk1, e0, e1, e2]

section
variable {V c} (f u : ℕ → ℕ → ℕ → EReal)

theorem arr1_4 (hx : ∀ (a : Fin 2) (t : Fin 128) (e : Fin 1024),
      (V c main_v32 : Vec Ideal S2x128x1024 .f32) (ix3 a t e) = f a.val (t.val * 16 + e.val / 64) (e.val % 64))
    (hw : ∀ (a : Fin 2) (e : Fin 2048) (d : Fin 64), (V c main_arg6 : Vec Ideal S2x2048x64 .f32) (ix3 a e d) = u a.val e.val d.val)
    (a : Fin 2) (t : Fin 128) (d : Fin 64) (ht : t.val < 127) :
    ((dat1 V c).arrAt 4 cfg1.N : Vec Ideal S2x128x64 .f32) (ix3 a t d) = win f u a.val t.val d.val := by
  revert ht
  refine (dat1 V c).arrAt_forall_of_covers 4
    (fun (i : S2x128x64.Idx) (v : EReal) => (i 1).val < 127 → v = win f u (i 0).val (i 1).val (i 2).val) (by decide +kernel)
    (fun p hf (y : S2x128x64.Idx) => ?_) (ix3 a t d)
  obtain ⟨-, -, -, -, ⟨e0, e1, e2⟩, -⟩ := idx1 p
  obtain ⟨a', t', d', rfl⟩ : ∃ (a : Fin 2) (t : Fin 128) (d : Fin 64), y = ix3 a t d := ⟨y 0, y 1, y 2, (ix3_eta y).symm⟩
  have h0 : ((cfg1.win 4).blk p).view.emb (ix3 a' t' d') = (ix3 a' t' d' : S2x128x64.Idx) := by blk_ext [e0, e1, e2]
  rw [h0]
  intro ht'
  refine Eq.trans (congrFun (after1_4 V c p) (ix3 a' t' d')) ?_
  exact out1_4_at f u (fun a t e => (blk1_0 V c p a t e).trans (hx a t e)) (fun a e d => (blk1_2 V c p a e d).trans (hw a e d)) a' t' d' ht'

theorem arr1_5 (hx : ∀ (a : Fin 2) (t : Fin 128) (e : Fin 1024),
      (V c main_v35 : Vec Ideal S2x128x1024 .f32) (ix3 a t e) = f a.val (t.val * 16 + e.val / 64) (e.val % 64))
    (hw : ∀ (a : Fin 2) (e : Fin 2048) (d : Fin 64), (V c main_arg7 : Vec Ideal S2x2048x64 .f32) (ix3 a e d) = u a.val e.val d.val)
    (a : Fin 2) (t : Fin 128) (d : Fin 64) (ht : t.val < 127) :
    ((dat1 V c).arrAt 5 cfg1.N : Vec Ideal S2x128x64 .f32) (ix3 a t d) = win f u a.val t.val d.val := by
  revert ht
  refine (dat1 V c).arrAt_forall_of_covers 5
    (fun (i : S2x128x64.Idx) (v : EReal) => (i 1).val < 127 → v = win f u (i 0).val (i 1).val (i 2).val) (by decide +kernel)
    (fun p hf (y : S2x128x64.Idx) => ?_) (ix3 a t d)
  obtain ⟨-, -, -, -, -, ⟨e0, e1, e2⟩⟩ := idx1 p
  obtain ⟨a', t', d', rfl⟩ : ∃ (a : Fin 2) (t : Fin 128) (d : Fin 64), y = ix3 a t d := ⟨y 0, y 1, y 2, (ix3_eta y).symm⟩
  have h0 : ((cfg1.win 5).blk p).view.emb (ix3 a' t' d') = (ix3 a' t' d' : S2x128x64.Idx) := by blk_ext [e0, e1, e2]
  rw [h0]
  intro ht'
  refine Eq.trans (congrFun (after1_5 V c p) (ix3 a' t' d')) ?_
  exact out1_5_at f u (fun a t e => (blk1_1 V c p a t e).trans (hx a t e)) (fun a e d => (blk1_3 V c p a e d).trans (hw a e d)) a' t' d' ht'

end

/-! ### The attention call -/

/-- What the attention call's operands hold on entry. -/
structure Entry2 (D : Data) (g wo : ℕ → ℕ → EReal) (Q : Vec Ideal S12x2048x64 .f32) (K : Vec Ideal S2048x192 .f32) (W : Vec Ideal S2048x128 .f32)
    (A B : Vec Ideal S2x128x64 .f32) (G : Vec Ideal S2048x8 .f32) (O : Vec Ideal S768x768 .f32) : Prop where
  q_at : ∀ (h : Fin 12) (s : Fin 2048) (d : Fin 64), Q (ix3 h s d) = ((D.q h.val s.val d.val * (1 / 8) : ℝ) : EReal)
  k_at : ∀ (j : Fin 2048) (c : Fin 192), K (ix2 j c) = krow D (c.val / 96) j.val (c.val % 96)
  v_at : ∀ (j : Fin 2048) (c : Fin 128), W (ix2 j c) = D.v (c.val / 64) j.val (c.val % 64)
  ck_at : ∀ (a : Fin 2) (t : Fin 128) (d : Fin 64), t.val < 127 → A (ix3 a t d) = (D.ck a.val t.val d.val : EReal)
  cv_at : ∀ (a : Fin 2) (t : Fin 128) (d : Fin 64), t.val < 127 → B (ix3 a t d) = D.cv a.val t.val d.val
  g_at : ∀ (s : Fin 2048) (c : Fin 8), c.val < 3 → G (ix2 s c) = g s.val c.val
  wo_at : ∀ e c : Fin 768, O (ix2 e c) = wo c.val e.val

theorem idx2 : ∀ t : Fin cfg2.N,
    (win2_0.index t 0 = 0 ∧ win2_0.index t 1 = (grid2.coords t 0).val ∧ win2_0.index t 2 = 0)
    ∧ (win2_1.index t 0 = 0 ∧ win2_1.index t 1 = 0) ∧ (win2_2.index t 0 = 0 ∧ win2_2.index t 1 = 0)
    ∧ (win2_3.index t 0 = 0 ∧ win2_3.index t 1 = 0 ∧ win2_3.index t 2 = 0)
    ∧ (win2_4.index t 0 = 0 ∧ win2_4.index t 1 = 0 ∧ win2_4.index t 2 = 0)
    ∧ (win2_5.index t 0 = (grid2.coords t 0).val ∧ win2_5.index t 1 = 0)
    ∧ (win2_6.index t 0 = 0 ∧ win2_6.index t 1 = 0)
    ∧ (win2_7.index t 0 = (grid2.coords t 0).val ∧ win2_7.index t 1 = 0) := by decide +kernel

theorem row2 (t : Fin cfg2.N) (r : Fin 256) : (grid2.coords t 0).val * 256 + r.val < 2048 := by
  have : (grid2.coords t 0).val < 8 := (grid2.coords t 0).isLt
  have := r.isLt
  omega

theorem blk2_0 (t : Fin cfg2.N) (h : Fin 12) (r : Fin 256) (d : Fin 64) :
    (iblk2 V c 0 t : Vec Ideal S12x256x64 .f32) (ix3 h r d) = (V c main_v26_0 : Vec Ideal S12x2048x64 .f32) (ix3 h ⟨_, row2 t r⟩ d) := by
  obtain ⟨⟨e0, e1, e2⟩, -⟩ := idx2 t
  blk_ext [iblk2, e0, e1, e2]

theorem blk2_1 (t : Fin cfg2.N) (r : Fin 2048) (k : Fin 192) :
    (iblk2 V c 1 t : Vec Ideal S2048x192 .f32) (ix2 r k) = (V c main_v26_1 : Vec Ideal S2048x192 .f32) (ix2 r k) := by
  obtain ⟨-, ⟨e0, e1⟩, -⟩ := idx2 t
  blk_ext [iblk2, e0, e1]

theorem blk2_2 (t : Fin cfg2.N) (r : Fin 2048) (k : Fin 128) :
    (iblk2 V c 2 t : Vec Ideal S2048x128 .f32) (ix2 r k) = (V c main_v26_2 : Vec Ideal S2048x128 .f32) (ix2 r k) := by
  obtain ⟨-, -, ⟨e0, e1⟩, -⟩ := idx2 t
  blk_ext [iblk2, e0, e1]

theorem blk2_3 (t : Fin cfg2.N) (a : Fin 2) (r : Fin 128) (d : Fin 64) :
    (iblk2 V c 3 t : Vec Ideal S2x128x64 .f32) (ix3 a r d) = (V c main_v36_0 : Vec Ideal S2x128x64 .f32) (ix3 a r d) := by
  obtain ⟨-, -, -, ⟨e0, e1, e2⟩, -⟩ := idx2 t
  blk_ext [iblk2, e0, e1, e2]

theorem blk2_4 (t : Fin cfg2.N) (a : Fin 2) (r : Fin 128) (d : Fin 64) :
    (iblk2 V c 4 t : Vec Ideal S2x128x64 .f32) (ix3 a r d) = (V c main_v36_1 : Vec Ideal S2x128x64 .f32) (ix3 a r d) := by
  obtain ⟨-, -, -, -, ⟨e0, e1, e2⟩, -⟩ := idx2 t
  blk_ext [iblk2, e0, e1, e2]

theorem blk2_5 (t : Fin cfg2.N) (r : Fin 256) (k : Fin 8) :
    (iblk2 V c 5 t : Vec Ideal S256x8 .f32) (ix2 r k) = (V c main_v26_3 : Vec Ideal S2048x8 .f32) (ix2 ⟨_, row2 t r⟩ k) := by
  obtain ⟨-, -, -, -, -, ⟨e0, e1⟩, -⟩ := idx2 t
  blk_ext [iblk2, e0, e1]

theorem blk2_6 (t : Fin cfg2.N) (r : Fin 768) (k : Fin 768) :
    (iblk2 V c 6 t : Vec Ideal S768x768 .f32) (ix2 r k) = (V c main_v8 : Vec Ideal S768x768 .f32) (ix2 r k) := by
  obtain ⟨-, -, -, -, -, -, ⟨e0, e1⟩, -⟩ := idx2 t
  blk_ext [iblk2, e0, e1]

section
variable {D : Data} {g wo : ℕ → ℕ → EReal} {V c} (H : Entry2 D g wo (V c main_v26_0) (V c main_v26_1) (V c main_v26_2) (V c main_v36_0) (V c main_v36_1)
  (V c main_v26_3) (V c main_v8))
include H

theorem handed2 (t : Fin cfg2.N) : Handed D g wo (grid2.coords t 0).val (iblk2 V c 0 t) (iblk2 V c 1 t) (iblk2 V c 2 t) (iblk2 V c 3 t)
    (iblk2 V c 4 t) (iblk2 V c 5 t) (iblk2 V c 6 t) where
  q_at h r d := (blk2_0 V c t h r d).trans (H.q_at h _ d)
  k_at j e := (blk2_1 V c t j e).trans (H.k_at j e)
  v_at j e := (blk2_2 V c t j e).trans (H.v_at j e)
  ck_at a p d hp := (blk2_3 V c t a p d).trans (H.ck_at a p d hp)
  cv_at a p d hp := (blk2_4 V c t a p d).trans (H.cv_at a p d hp)
  g_at r e he := (blk2_5 V c t r e).trans (H.g_at _ e he)
  wo_at e k := (blk2_6 V c t e k).trans (H.wo_at e k)

theorem arr2_7 (hB : D.Bounded floor) (s : Fin 2048) (e : Fin 768) :
    ((dat2 V c).arrAt 7 cfg2.N : Vec Ideal S2048x768 .f32) (ix2 s e) = D.out g wo s.val e.val := by
  refine (dat2 V c).arrAt_forall_of_covers 7
    (fun (i : S2048x768.Idx) (v : EReal) => v = D.out g wo (i 0).val (i 1).val) (by decide +kernel)
    (fun t hf (y : S256x768.Idx) => ?_) (ix2 s e)
  obtain ⟨-, -, -, -, -, -, -, ⟨e0, e1⟩⟩ := idx2 t
  obtain ⟨r, b, rfl⟩ : ∃ (r : Fin 256) (b : Fin 768), y = ix2 r b := ⟨y 0, y 1, (ix2_eta y).symm⟩
  have h0 : ((cfg2.win 7).blk t).view.emb (ix2 r b) = (ix2 ⟨_, row2 t r⟩ b : S2048x768.Idx) := by blk_ext [e0, e1]
  rw [h0]
  exact Eq.trans (congrFun (after2_7 V c t) (ix2 r b)) (out2_7_at (handed2 H t) hB r b)

end

end Cert.KVal
-- ==== Proof.PreChain.lean ====
/-
  The precondition read over the reference's own intermediate arrays: its first operations are the reference's, up to
  the score the selection ranks the blocks by.
-/
module

public import proofs.«01_k».proof.Pre_regular
public import proofs.«01_k».proof.Proof.RefAtt
public import Idealize.ShloMosaic.Lib.ReduceAll

@[expose] public section

noncomputable section

namespace Cert.Ref

open Cert.ReferenceIdeal Cert.ReferenceIdeal.Read Cert.ReferenceIdeal.Gen Idealize.ShloMosaic Idealize.ShloMosaic.TcCoe
open Idealize.SL.Sem Idealize.ShloMosaic.StableHlo Cert.Spec Idealize.ShloMosaic.ValueIdx

variable [Cert.Pre_regular.Facts] (x0 : Arr S1x2048x768) (x1 : Arr S768x768) (x2 x3 : Arr S128x768) (x4 : Arr S768x768)
  (x5 : Arr S3x768) (x6 x7 : Arr S2x2048x64)

/-- The total weight of a row's compressed scores, without a shift. -/
def preTotal : FVec Ideal S2x6x2048 .f32 :=
  Host.reduceAdd (Host.exp (val_main_v119 (F := Ideal) x0 x1 x2 x6)) (val_main_cst_15 (F := Ideal))
    reducesTo_S2x6x2048x127_S2x6x2048_d3 h_S_

/-- The rows no window of which is complete. -/
def preEarly : IVec S2x6x2048 1 :=
  broadcastInDim S2x6x2048 ![0, 1, 2] Cert.Pre_regular.Facts.bcast_S1x1x2048_S2x6x2048_0_1_2
    (broadcastInDim Cert.Pre_regular.S1x1x2048 ![2] Cert.Pre_regular.Facts.bcast_S2048_S1x1x2048_2
      (cmpi .slt (val_main_v103 (F := Ideal))
        (broadcastInDim S2048 ![] Cert.Pre_regular.Facts.bcast_S_S2048 (constantI S_ 32 31#32))))

/-- The seventeen greatest scores. -/
def preValues : FVec Ideal Cert.Pre_regular.S2x2048x17 .f32 :=
  (Host.topK Cert.Pre_regular.S2x2048x17 2 (FloatOps.cmpfTotal (F := Ideal) (φ := .f32) .gt) (val_main_v210 (F := Ideal) x0 x1 x2 x6)
    Cert.Pre_regular.Facts.sliceFits_S2x2048x32_S2x2048x17).1

/-- Place `n` of the seventeen. -/
def preAt (n : Fin 17) (h : Cert.Pre_regular.S2x2048x17.Slices ![0, 0, n.val] Cert.Pre_regular.S2x2048x1) :
    FVec Ideal Cert.Pre_regular.S2x2048 .f32 :=
  shapeCast Cert.Pre_regular.S2x2048 (extractStridedSlice Cert.Pre_regular.S2x2048x1 ![0, 0, n.val] (preValues x0 x1 x2 x6) h)
    Cert.Pre_regular.Facts.shapeCasts_S2x2048x1_S2x2048

def preApart : IVec Cert.Pre_regular.S2x2048 1 :=
  cmpf .ogt (preAt x0 x1 x2 x6 15 Cert.Pre_regular.Facts.slices_S2x2048x17_S2x2048x1_0_0_15)
    (preAt x0 x1 x2 x6 16 Cert.Pre_regular.Facts.slices_S2x2048x17_S2x2048x1_0_0_16)

theorem part0 : Cert.Pre_regular.fn (F := Ideal) x0 x1 x2 x3 x4 x5 x6 x7
    = Cert.Pre_regular.fn_part1 (F := Ideal) x0 x1 x2 x6 (val_main_v0 (F := Ideal) x0) (val_main_v3 (F := Ideal) x0 x1)
        (val_main_v18 (F := Ideal)) (val_main_v20 (F := Ideal)) := rfl

theorem part1 : Cert.Pre_regular.fn_part1 (F := Ideal) x0 x1 x2 x6 (val_main_v0 (F := Ideal) x0) (val_main_v3 (F := Ideal) x0 x1)
        (val_main_v18 (F := Ideal)) (val_main_v20 (F := Ideal))
    = Cert.Pre_regular.fn_part2 (F := Ideal) x0 x1 x2 x6 (val_main_v33 (F := Ideal) x0 x1) (val_main_v36 (F := Ideal) x0 x2)
        (val_main_v41 (F := Ideal)) (val_main_cst_4 (F := Ideal)) := rfl

theorem part2 : Cert.Pre_regular.fn_part2 (F := Ideal) x0 x1 x2 x6 (val_main_v33 (F := Ideal) x0 x1) (val_main_v36 (F := Ideal) x0 x2)
        (val_main_v41 (F := Ideal)) (val_main_cst_4 (F := Ideal))
    = Cert.Pre_regular.fn_part3 (F := Ideal) x0 x1 x2 x6 (val_main_v33 (F := Ideal) x0 x1) (val_main_v60 (F := Ideal) x0 x2)
        (val_main_v65 (F := Ideal) x0 x2) := rfl

theorem part3 : Cert.Pre_regular.fn_part3 (F := Ideal) x0 x1 x2 x6 (val_main_v33 (F := Ideal) x0 x1) (val_main_v60 (F := Ideal) x0 x2)
        (val_main_v65 (F := Ideal) x0 x2)
    = Cert.Pre_regular.fn_part4 (F := Ideal) x0 x1 x2 x6 (val_main_v78 (F := Ideal) x0 x1) (val_main_v97 (F := Ideal) x0 x2 x6) := rfl

theorem part4 : Cert.Pre_regular.fn_part4 (F := Ideal) x0 x1 x2 x6 (val_main_v78 (F := Ideal) x0 x1) (val_main_v97 (F := Ideal) x0 x2 x6)
    = Cert.Pre_regular.fn_part5 (F := Ideal) x0 x1 x2 x6 (val_main_v102 (F := Ideal) x0 x1 x2 x6) (val_main_v117 (F := Ideal)) := rfl

theorem part5 : Cert.Pre_regular.fn_part5 (F := Ideal) x0 x1 x2 x6 (val_main_v102 (F := Ideal) x0 x1 x2 x6) (val_main_v117 (F := Ideal))
    = Cert.Pre_regular.fn_part6 (F := Ideal) x0 x1 x2 x6 (val_main_v102 (F := Ideal) x0 x1 x2 x6) (preTotal x0 x1 x2 x6) preEarly
        (val_main_v104 (F := Ideal)) (val_main_v111 (F := Ideal)) := rfl

theorem part6 : Cert.Pre_regular.fn_part6 (F := Ideal) x0 x1 x2 x6 (val_main_v102 (F := Ideal) x0 x1 x2 x6) (preTotal x0 x1 x2 x6) preEarly
        (val_main_v104 (F := Ideal)) (val_main_v111 (F := Ideal))
    = Cert.Pre_regular.fn_part7 (F := Ideal) x0 x1 x2 x6 (preTotal x0 x1 x2 x6) preEarly (val_main_v131 (F := Ideal) x0 x1 x2 x6) := rfl

theorem part7 : Cert.Pre_regular.fn_part7 (F := Ideal) x0 x1 x2 x6 (preTotal x0 x1 x2 x6) preEarly (val_main_v131 (F := Ideal) x0 x1 x2 x6)
    = Cert.Pre_regular.fn_part8 (F := Ideal) x0 x1 x2 x6 (preTotal x0 x1 x2 x6) preEarly (val_main_v155 (F := Ideal))
        (val_main_v174 (F := Ideal) x0 x1 x2 x6) (val_main_v175 (F := Ideal)) := rfl

theorem part8 : Cert.Pre_regular.fn_part8 (F := Ideal) x0 x1 x2 x6 (preTotal x0 x1 x2 x6) preEarly (val_main_v155 (F := Ideal))
        (val_main_v174 (F := Ideal) x0 x1 x2 x6) (val_main_v175 (F := Ideal))
    = Cert.Pre_regular.fn_part9 (F := Ideal) x0 x1 x2 x6 (preTotal x0 x1 x2 x6) preEarly (val_main_v155 (F := Ideal))
        (val_main_v174 (F := Ideal) x0 x1 x2 x6) (val_main_v177 (F := Ideal)) (val_main_v180 (F := Ideal)) (val_main_v195 (F := Ideal)) := rfl

theorem part9 : Cert.Pre_regular.fn_part9 (F := Ideal) x0 x1 x2 x6 (preTotal x0 x1 x2 x6) preEarly (val_main_v155 (F := Ideal))
        (val_main_v174 (F := Ideal) x0 x1 x2 x6) (val_main_v177 (F := Ideal)) (val_main_v180 (F := Ideal)) (val_main_v195 (F := Ideal))
    = Cert.Pre_regular.fn_part10 (F := Ideal) x0 x1 x2 x6 (preTotal x0 x1 x2 x6) preEarly (preValues x0 x1 x2 x6)
        (preApart x0 x1 x2 x6) := rfl

/-- The precondition's last part, over the reference's arrays. -/
theorem pre_chain : Cert.Pre_regular.fn (F := Ideal) x0 x1 x2 x3 x4 x5 x6 x7
    = Cert.Pre_regular.fn_part10 (F := Ideal) x0 x1 x2 x6 (preTotal x0 x1 x2 x6) preEarly (preValues x0 x1 x2 x6)
        (preApart x0 x1 x2 x6) := by
  rw [part0, part1, part2, part3, part4, part5, part6, part7, part8, part9]

/-- An `f32` array all of whose entries are below positive infinity in absolute value. -/
def allFinite {s : Shape} (hb : S_.BroadcastsInDim s (![] : Fin 0 → Fin s.rank)) {axes : List (Fin s.rank)} (hr : s.ReducesTo axes S_)
    (x : FVec Ideal s .f32) : IVec S_ 1 :=
  Host.reduce IntOp.andi (cmpf .olt (Host.absf x) (broadcastInDim s ![] hb (constant (F := Ideal) S_ .f32 0x7F800000#32)))
    (constantI S_ 1 1#1) hr h_S_

theorem part10 (t : FVec Ideal S2x6x2048 .f32) (e : IVec S2x6x2048 1) (v : FVec Ideal Cert.Pre_regular.S2x2048x17 .f32)
    (a : IVec Cert.Pre_regular.S2x2048 1) :
    Cert.Pre_regular.fn_part10 (F := Ideal) x0 x1 x2 x6 t e v a
      = andi (andi (andi (andi (andi
          (allFinite Cert.Pre_regular.Facts.bcast_S_S1x2048x768 Cert.Pre_regular.Facts.reducesTo_S1x2048x768_S_d0_1_2 x0)
          (allFinite Cert.Pre_regular.Facts.bcast_S_S768x768 Cert.Pre_regular.Facts.reducesTo_S768x768_S_d0_1 x1))
          (allFinite Cert.Pre_regular.Facts.bcast_S_S128x768 Cert.Pre_regular.Facts.reducesTo_S128x768_S_d0_1 x2))
          (allFinite Cert.Pre_regular.Facts.bcast_S_S2x2048x64 Cert.Pre_regular.Facts.reducesTo_S2x2048x64_S_d0_1_2 x6))
          (Host.reduce IntOp.andi (ori (cmpf .oge t (broadcastInDim S2x6x2048 ![] Cert.Pre_regular.Facts.bcast_S_S2x6x2048
            (constant (F := Ideal) S_ .f32 0x0DA24260#32))) e) (constantI S_ 1 1#1)
            Cert.Pre_regular.Facts.reducesTo_S2x6x2048_S_d0_1_2 h_S_))
          (Host.reduce IntOp.andi (ori a (cmpf .ole (shapeCast Cert.Pre_regular.S2x2048
            (extractStridedSlice Cert.Pre_regular.S2x2048x1 ![0, 0, 16] v Cert.Pre_regular.Facts.slices_S2x2048x17_S2x2048x1_0_0_16)
            Cert.Pre_regular.Facts.shapeCasts_S2x2048x1_S2x2048) (broadcastInDim Cert.Pre_regular.S2x2048 ![]
              Cert.Pre_regular.Facts.bcast_S_S2x2048 (constant (F := Ideal) S_ .f32 0xEFA18F08#32)))) (constantI S_ 1 1#1)
            Cert.Pre_regular.Facts.reducesTo_S2x2048_S_d0_1 h_S_) := rfl

end Cert.Ref

end
-- ==== Proof.Inputs.lean ====
/-
  What the precondition gives: real inputs to the scores, totals bounded below, and no ties at the selection's border.
-/
module

public import proofs.«01_k».proof.Proof.PreChain
public import proofs.«01_k».proof.Proof.Soft

@[expose] public section

noncomputable section

namespace Cert.Ref

open Cert.ReferenceIdeal Cert.ReferenceIdeal.Read Cert.ReferenceIdeal.Gen Idealize.ShloMosaic Idealize.ShloMosaic.TcCoe
open Idealize.SL.Sem Idealize.ShloMosaic.StableHlo Cert.Spec Idealize.ShloMosaic.ValueIdx

/-! ### The rotation's angles are real -/

theorem lit_32 : Ideal.ofBits .f32 0x42000000#32 = ((32 : ℝ) : EReal) := by
  simp [Ideal.ofBits, Ideal.ieee, -EReal.coe_mul]; norm_num
theorem lit_10000 : Ideal.ofBits .f32 0x461C4000#32 = ((10000 : ℝ) : EReal) := by
  simp [Ideal.ofBits, Ideal.ieee, -EReal.coe_mul]; norm_num

theorem freq_real (i : S32.Idx) : ∃ r : ℝ, val_main_v10 (F := Ideal) i = (r : EReal) := by
  rw [val_main_v10_apply, val_main_v9_apply, val_main_cst_1_apply, val_main_v8_apply, val_main_v7_apply,
    val_main_cst_0_apply, val_main_v6_apply, val_main_v5_apply, val_main_cst_apply]
  obtain ⟨n, hn⟩ : ∃ n : ℝ, val_main_v4 (F := Ideal) i = (n : EReal) := ⟨_, rfl⟩
  rw [hn]
  have h1 : FloatOps.ofBits (F := Ideal) .f32 0x3F800000#32 = ((1 : ℝ) : EReal) := Ideal.ofBits_one_f32
  have h2 : FloatOps.ofBits (F := Ideal) .f32 0x461C4000#32 = ((10000 : ℝ) : EReal) := lit_10000
  have h3 : FloatOps.ofBits (F := Ideal) .f32 0x42000000#32 = ((32 : ℝ) : EReal) := lit_32
  rw [h1, h2, h3]
  have e1 : FloatOps.hostDivf (F := Ideal) (φ := .f32) (n : EReal) ((32 : ℝ) : EReal) = ((n / 32 : ℝ) : EReal) :=
    div_coe _ _ (by norm_num)
  rw [e1]
  have e2 : FloatOps.hostPowf (F := Ideal) (φ := .f32) ((10000 : ℝ) : EReal) ((n / 32 : ℝ) : EReal)
      = ((Real.rpow 10000 (n / 32) : ℝ) : EReal) := rfl
  rw [e2]
  exact ⟨_, div_coe _ _ (Real.rpow_pos_of_pos (by norm_num) _).ne'⟩

theorem angle_real (i : S2048x32.Idx) : ∃ r : ℝ, val_main_v16 (F := Ideal) i = (r : EReal) := by
  rw [val_main_v16_apply, val_main_v14_apply, val_main_v12_apply, val_main_v15_apply, val_main_v13_apply]
  obtain ⟨f, hf⟩ := freq_real (idx_main_v13 (idx_main_v15 i))
  obtain ⟨n, hn⟩ : ∃ n : ℝ, val_main_v11 (F := Ideal) (idx_main_v12 (idx_main_v14 i)) = (n : EReal) := ⟨_, rfl⟩
  rw [hf, hn]
  exact ⟨n * f, (EReal.coe_mul n f).symm⟩

theorem cos_real (i : S2048x32.Idx) : ∃ r : ℝ, val_main_v17 (F := Ideal) i = (r : EReal) := by
  obtain ⟨f, hf⟩ := angle_real i
  rw [val_main_v17_apply, hf]
  exact ⟨Real.cos f, rfl⟩
theorem sin_real (i : S2048x32.Idx) : ∃ r : ℝ, val_main_v19 (F := Ideal) i = (r : EReal) := by
  obtain ⟨f, hf⟩ := angle_real i
  rw [val_main_v19_apply, hf]
  exact ⟨Real.sin f, rfl⟩

/-! ### Arrays as functions of numbers -/

def at2 {n m : ℕ} (f : Arr ⟨2, ![n, m]⟩) (a b : ℕ) : ℝ :=
  if h : a < n ∧ b < m then EReal.toReal (f (ix2 ⟨a, h.1⟩ ⟨b, h.2⟩)) else 0
def at3 {n m k : ℕ} (f : Arr ⟨3, ![n, m, k]⟩) (a b c : ℕ) : ℝ :=
  if h : a < n ∧ b < m ∧ c < k then EReal.toReal (f (ix3 ⟨a, h.1⟩ ⟨b, h.2.1⟩ ⟨c, h.2.2⟩)) else 0

theorem coe_of_real {x : EReal} (h : ∃ r : ℝ, x = r) : x = (x.toReal : EReal) := by
  obtain ⟨r, rfl⟩ := h
  rw [EReal.toReal_coe]

theorem at2_coe {n m : ℕ} (f : Arr ⟨2, ![n, m]⟩) (hf : ∀ i, ∃ r : ℝ, f i = (r : EReal)) (i : (⟨2, ![n, m]⟩ : Shape).Idx) :
    f i = (at2 f (i 0).val (i 1).val : EReal) := by
  unfold at2
  rw [dif_pos ⟨(i 0).isLt, (i 1).isLt⟩]
  refine (coe_of_real (hf i)).trans ?_
  refine congrArg (fun j => ((EReal.toReal (f j) : ℝ) : EReal)) (funext fun k => ?_)
  match k with
  | ⟨0, _⟩ => rfl
  | ⟨1, _⟩ => rfl

theorem at3_coe {n m k : ℕ} (f : Arr ⟨3, ![n, m, k]⟩) (hf : ∀ i, ∃ r : ℝ, f i = (r : EReal))
    (i : (⟨3, ![n, m, k]⟩ : Shape).Idx) : f i = (at3 f (i 0).val (i 1).val (i 2).val : EReal) := by
  unfold at3
  rw [dif_pos ⟨(i 0).isLt, (i 1).isLt, (i 2).isLt⟩]
  exact (coe_of_real (hf i)).trans (congrArg (fun j => ((EReal.toReal (f j) : ℝ) : EReal)) (ix3_eta i))

/-- An array's entries as they are, as a function of two and of three numbers. -/
def val2 {n m : ℕ} (f : Arr ⟨2, ![n, m]⟩) (a b : ℕ) : EReal :=
  if h : a < n ∧ b < m then f (ix2 ⟨a, h.1⟩ ⟨b, h.2⟩) else 0
def val3 {n m k : ℕ} (f : Arr ⟨3, ![n, m, k]⟩) (a b c : ℕ) : EReal :=
  if h : a < n ∧ b < m ∧ c < k then f (ix3 ⟨a, h.1⟩ ⟨b, h.2.1⟩ ⟨c, h.2.2⟩) else 0

theorem val2_at {n m : ℕ} (f : Arr ⟨2, ![n, m]⟩) (i : (⟨2, ![n, m]⟩ : Shape).Idx) : f i = val2 f (i 0).val (i 1).val := by
  unfold val2
  rw [dif_pos ⟨(i 0).isLt, (i 1).isLt⟩]
  refine congrArg f (funext fun k => ?_)
  match k with
  | ⟨0, _⟩ => rfl
  | ⟨1, _⟩ => rfl

theorem val3_at {n m k : ℕ} (f : Arr ⟨3, ![n, m, k]⟩) (i : (⟨3, ![n, m, k]⟩ : Shape).Idx) :
    f i = val3 f (i 0).val (i 1).val (i 2).val := by
  unfold val3
  rw [dif_pos ⟨(i 0).isLt, (i 1).isLt, (i 2).isLt⟩]
  exact congrArg f (ix3_eta i)

/-- The inputs the arrays hold. -/
def dataOf (x0 : Arr S1x2048x768) (x1 : Arr S768x768) (x2 x3 : Arr S128x768) (x6 x7 : Arr S2x2048x64) : Data where
  x := at3 x0 0
  wq := at2 x1
  wk := at2 x2
  wv := val2 x3
  wck := at3 x6
  wcv := val3 x7
  cs := at2 (val_main_v17 (F := Ideal))
  sn := at2 (val_main_v19 (F := Ideal))

variable [Cert.Pre_regular.Facts] {x0 : Arr S1x2048x768} {x1 : Arr S768x768} {x2 x3 : Arr S128x768} {x4 : Arr S768x768}
  {x5 : Arr S3x768} {x6 x7 : Arr S2x2048x64}

theorem allFinite_real {s : Shape} (hb : S_.BroadcastsInDim s (![] : Fin 0 → Fin s.rank)) {axes : List (Fin s.rank)}
    (hr : s.ReducesTo axes S_) (x : FVec Ideal s .f32) (j : S_.Idx) (h : allFinite hb hr x j = 1#1) (i : s.Idx) :
    ∃ r : ℝ, x i = (r : EReal) := by
  haveI : Subsingleton S_.Idx := ⟨fun a b => funext fun k => k.elim0⟩
  have e := Host.reduce_andi_all _ _ hr h_S_ j h i
  have e' : BitVec.ofBool (decide (max (x i : EReal) (-(x i)) < (Ideal.ofBits .f32 0x7F800000#32))) = 1#1 := e
  rw [lit_top] at e'
  have hlt : max (x i : EReal) (-(x i)) < ⊤ := by
    by_contra hn
    rw [decide_eq_false hn] at e'
    exact absurd e' (by decide)
  have h1 := (max_lt_iff.mp hlt).1
  have h2 := (max_lt_iff.mp hlt).2
  refine ⟨EReal.toReal (x i), (EReal.coe_toReal h1.ne fun hb => ?_).symm⟩
  rw [hb] at h2
  exact absurd h2 (by simp)

/-- What the precondition says of the arrays. -/
structure Regular (x0 : Arr S1x2048x768) (x1 : Arr S768x768) (x2 x3 : Arr S128x768) (x6 x7 : Arr S2x2048x64) : Prop where
  holds : Holds (dataOf x0 x1 x2 x3 x6 x7) x0 x1 x2 x3 x6 x7
  bounded : (dataOf x0 x1 x2 x3 x6 x7).Bounded floor
  apart : ∀ h s, h < 2 → s < 2048 → (dataOf x0 x1 x2 x3 x6 x7).Apart h s

theorem preTotal_at {D : Data} (H : Holds D x0 x1 x2 x3 x6 x7) (i : S2x6x2048.Idx) :
    preTotal x0 x1 x2 x6 i = (D.tot ((i 0).val * 6 + (i 1).val) (i 2).val : EReal) := by
  unfold preTotal
  have hm : ∀ k : S2x6x2048x127.Idx, (Host.exp (F := Ideal) (φ := .f32) (val_main_v119 (F := Ideal) x0 x1 x2 x6) k : EReal)
      = (D.wt ((k 0).val * 6 + (k 1).val) (k 2).val (k 3).val : EReal) := fun k => by
    show Ideal.exp (val_main_v119 (F := Ideal) x0 x1 x2 x6 k) = _
    rw [masked_at H k]
    unfold Data.wt
    split
    · exact exp_coe _
    · exact exp_bot
  generalize Host.exp (F := Ideal) (φ := .f32) (val_main_v119 (F := Ideal) x0 x1 x2 x6) = y at hm
  have hz : val_main_cst_15 (F := Ideal) (Shape.Idx.first h_S_) = (0 : EReal) := Ideal.ofBits_zero_f32
  simp only [Host.reduceAdd, Ideal.hostReduceAdd_def]
  rw [Ideal.hostReduceAdd_single reducesTo_S2x6x2048x127_S2x6x2048_d3 (by decide), hz, zero_add]
  unfold Data.tot
  rw [coe_sum]
  refine Finset.sum_congr rfl fun k _ => ?_
  exact hm _

theorem preEarly_at (i : S2x6x2048.Idx) : preEarly i = BitVec.ofBool (decide ((i 2).val < 31)) := by
  have h2 : (i 2).val < 2048 := (i 2).isLt
  have e : preEarly i = IntOp.cmpi .slt (BitVec.ofNat 32 (i 2).val) 31#32 := rfl
  rw [e]
  exact WordCmp.cmpi_slt_ofNat (by omega) (by omega)

omit [Cert.Pre_regular.Facts] in
theorem of_ofBool {p : Prop} [Decidable p] (h : BitVec.ofBool (decide p) = 1#1) : p := by
  by_contra hn
  rw [decide_eq_false hn] at h
  exact absurd h (by decide)

omit [Cert.Pre_regular.Facts] in
theorem of_ori : ∀ a b : BitVec 1, IntOp.ori a b = 1#1 → a = 1#1 ∨ b = 1#1 := by decide

/-- Place `n` of a row's seventeen greatest scores. -/
theorem preAt_at {D : Data} (H : Holds D x0 x1 x2 x3 x6 x7) (n : Fin 17)
    (hn : Cert.Pre_regular.S2x2048x17.Slices ![0, 0, n.val] Cert.Pre_regular.S2x2048x1) (a : Fin 2) (s : Fin 2048) :
    preAt x0 x1 x2 x6 n hn (ix2 a s) = D.cand a.val s.val (TopK.place (fun n : Fin 32 => D.cand a.val s.val n)
      ⟨n.val, lt_of_lt_of_le n.isLt (by decide)⟩).val := by
  have r := row_at H a s
  have e : preValues x0 x1 x2 x6 (ix3 a s n) = D.cand a.val s.val (TopK.place (fun n : Fin 32 => D.cand a.val s.val n)
      ⟨n.val, lt_of_lt_of_le n.isLt (by decide)⟩).val := by
    unfold preValues
    generalize val_main_v210 (F := Ideal) x0 x1 x2 x6 = y at r ⊢
    rw [TopK.topK_values (K := 17) (by decide) y Cert.Pre_regular.Facts.sliceFits_S2x2048x32_S2x2048x17 a s n, r]
  refine Eq.trans ?_ e
  unfold preAt
  generalize preValues x0 x1 x2 x6 = y
  refine (shapeCast_apply _ _ (ix2 a s) (ix3 a s (0 : Fin 1)) ?_).trans ?_
  · rw [Shape.rowMajor_val_three, Shape.rowMajor_val_two]
    show (a.val * 2048 + s.val) * 1 + 0 = a.val * 2048 + s.val
    omega
  · refine congrArg y (funext fun k => Fin.ext ?_)
    match k with
    | ⟨0, _⟩ => exact Nat.zero_add _
    | ⟨1, _⟩ => exact Nat.zero_add _
    | ⟨2, _⟩ => rfl

theorem regular_of (h : ∀ i, Cert.Pre_regular.fn (F := Ideal) x0 x1 x2 x3 x4 x5 x6 x7 i = 1#1) : Regular x0 x1 x2 x3 x6 x7 := by
  haveI : Subsingleton S_.Idx := ⟨fun a b => funext fun k => k.elim0⟩
  have j : S_.Idx := Shape.Idx.first h_S_
  have h := h j
  rw [pre_chain, part10] at h
  obtain ⟨h, ht⟩ := IntOp.andi_eq_one.mp h
  obtain ⟨h, hb⟩ := IntOp.andi_eq_one.mp h
  obtain ⟨h, h6⟩ := IntOp.andi_eq_one.mp h
  obtain ⟨h, h2⟩ := IntOp.andi_eq_one.mp h
  obtain ⟨h0, h1⟩ := IntOp.andi_eq_one.mp h
  have H : Holds (dataOf x0 x1 x2 x3 x6 x7) x0 x1 x2 x3 x6 x7 :=
    { x := fun i => by
        refine (at3_coe x0 (allFinite_real _ _ x0 j h0) i).trans ?_
        have : (i 0).val = 0 := by have := (i 0).isLt; exact Nat.lt_one_iff.mp this
        rw [this]
        rfl
      wq := at2_coe x1 (allFinite_real _ _ x1 j h1)
      wk := at2_coe x2 (allFinite_real _ _ x2 j h2)
      wv := val2_at x3
      wck := at3_coe x6 (allFinite_real _ _ x6 j h6)
      wcv := val3_at x7
      cs := at2_coe _ cos_real
      sn := at2_coe _ sin_real }
  refine ⟨H, fun hd s hh hs h31 => ?_, fun hd s hh hs => ?_⟩
  · have e := Host.reduce_andi_all _ _ _ h_S_ j hb (ix3 (⟨hd / 6, by omega⟩ : Fin 2) (⟨hd % 6, by omega⟩ : Fin 6) (⟨s, hs⟩ : Fin 2048))
    rcases of_ori _ _ e with e | e
    · have e' : BitVec.ofBool (decide (Ideal.ofBits .f32 0x0DA24260#32 ≤ preTotal x0 x1 x2 x6
          (ix3 (⟨hd / 6, by omega⟩ : Fin 2) (⟨hd % 6, by omega⟩ : Fin 6) (⟨s, hs⟩ : Fin 2048)))) = 1#1 := e
      rw [preTotal_at H, lit_floor] at e'
      have e3 : hd / 6 * 6 + hd % 6 = hd := by omega
      by_contra hn
      refine absurd e' ?_
      rw [decide_eq_false]
      · decide
      · show ¬ ((floor : EReal) ≤ ((dataOf x0 x1 x2 x3 x6 x7).tot (hd / 6 * 6 + hd % 6) s : EReal))
        rw [e3, EReal.coe_le_coe_iff]
        exact hn
    · rw [preEarly_at] at e
      have : ¬ s < 31 := by omega
      exact absurd e (by show BitVec.ofBool (decide (s < 31)) ≠ _; rw [decide_eq_false this]; decide)
  · have e := Host.reduce_andi_all _ _ _ h_S_ j ht (ix2 (⟨hd, hh⟩ : Fin 2) (⟨s, hs⟩ : Fin 2048))
    rcases of_ori _ _ e with e | e
    · left
      have e' : BitVec.ofBool (decide (preAt x0 x1 x2 x6 16 Cert.Pre_regular.Facts.slices_S2x2048x17_S2x2048x1_0_0_16
          (ix2 (⟨hd, hh⟩ : Fin 2) (⟨s, hs⟩ : Fin 2048)) < preAt x0 x1 x2 x6 15
            Cert.Pre_regular.Facts.slices_S2x2048x17_S2x2048x1_0_0_15 (ix2 (⟨hd, hh⟩ : Fin 2) (⟨s, hs⟩ : Fin 2048)))) = 1#1 := e
      rw [preAt_at H, preAt_at H] at e'
      exact of_ofBool e'
    · right
      have e' : BitVec.ofBool (decide (preAt x0 x1 x2 x6 16 Cert.Pre_regular.Facts.slices_S2x2048x17_S2x2048x1_0_0_16
          (ix2 (⟨hd, hh⟩ : Fin 2) (⟨s, hs⟩ : Fin 2048)) ≤ Ideal.ofBits .f32 0xEFA18F08#32)) = 1#1 := e
      rw [preAt_at H, lit_low] at e'
      exact of_ofBool e'

end Cert.Ref

end
-- ==== Proof.KHost.lean ====
/-
  What the host operations before and between the calls leave in the calls' operands.
-/
module

public import proofs.«01_k».proof.Proof.KGate
public import proofs.«01_k».proof.Proof.KArr1
public import proofs.«01_k».proof.Proof.IdealRun
public import proofs.«01_k».proof.Proof.Inputs
public import Idealize.ShloMosaic.Lib.StableHlo.ReadAt

@[expose] public section

noncomputable section

namespace Cert.KVal

open Cert.KernelIdeal Cert.KernelIdeal.Gen Cert.KernelIdeal.Run Idealize.ShloMosaic Idealize.ShloMosaic.TcCoe Cert.Spec

variable (W : Valuation τ sig (Elt Ideal))

/-! ### Before the projection call -/

theorem host_v0 (s : Fin 2048) (k : Fin 768) :
    (StableHlo.after hostOps0 W (Proc.devRef .tc main_v0) : Vec Ideal S2048x768 .f32) (ix2 s k)
      = (W (Proc.devRef .tc main_arg0) : Vec Ideal S1x2048x768 .f32) (ix3 0 s k) := by
  after_reads_at

/-- The queries' weights with the scores' scale folded in. -/
def scaled (x : Vec Ideal S768x768 .f32) (k e : Fin 768) : EReal := x (ix2 e k) * ((1 / 8 : ℝ) : EReal)

theorem lit_8th : Ideal.ofBits .f32 0x3E000000#32 = ((1 / 8 : ℝ) : EReal) := by
  simp [Ideal.ofBits, Ideal.ieee, -EReal.coe_mul]; norm_num

theorem host_v25 (k e : Fin 768) :
    (StableHlo.after hostOps0 W (Proc.devRef .tc main_v25) : Vec Ideal S768x768 .f32) (ix2 k e)
      = scaled (W (Proc.devRef .tc main_arg1)) k e := by
  unfold scaled
  after_reads_at
  rw [← lit_8th]

theorem host_v2 (k : Fin 768) (e : Fin 128) :
    (StableHlo.after hostOps0 W (Proc.devRef .tc main_v2) : Vec Ideal S768x128 .f32) (ix2 k e)
      = (W (Proc.devRef .tc main_arg2) : Vec Ideal S128x768 .f32) (ix2 e k) := by
  after_reads_at

theorem host_v3 (k : Fin 768) (e : Fin 128) :
    (StableHlo.after hostOps0 W (Proc.devRef .tc main_v3) : Vec Ideal S768x128 .f32) (ix2 k e)
      = (W (Proc.devRef .tc main_arg3) : Vec Ideal S128x768 .f32) (ix2 e k) := by
  after_reads_at

theorem host_v8 (k e : Fin 768) :
    (StableHlo.after hostOps0 W (Proc.devRef .tc main_v8) : Vec Ideal S768x768 .f32) (ix2 k e)
      = (W (Proc.devRef .tc main_arg4) : Vec Ideal S768x768 .f32) (ix2 e k) := by
  after_reads_at

theorem host_v7_all :
    (StableHlo.after hostOps0 W (Proc.devRef .tc main_v7) : Vec Ideal S768x8 .f32)
      = transpose S768x8 [1, 0] (gateRows (W (Proc.devRef .tc main_arg5))) transposes_S8x768_S768x8_1_0 := by
  after_reads_simp
  rfl

theorem gateRows_swap (w : Vec Ideal S3x768 .f32) (k : Fin 768) (e : Fin 8) :
    transpose S768x8 [1, 0] (gateRows w) transposes_S8x768_S768x8_1_0 (ix2 k e) = gateRows w (ix2 e k) := by
  pointwise

theorem host_v7 (k : Fin 768) (e : Fin 8) (he : e.val < 3) :
    (StableHlo.after hostOps0 W (Proc.devRef .tc main_v7) : Vec Ideal S768x8 .f32) (ix2 k e)
      = (W (Proc.devRef .tc main_arg5) : Vec Ideal S3x768 .f32) (ix2 ⟨e.val, he⟩ k) :=
  (congrFun (host_v7_all W) (ix2 k e)).trans ((gateRows_swap _ k e).trans (gateRows_at _ e k he))

theorem host_v22 :
    (StableHlo.after hostOps0 W (Proc.devRef .tc main_v22) : Vec Ideal S2048x32 .f32) = Cert.ReferenceIdeal.Read.val_main_v17 (F := Ideal) := by
  after_reads_simp
  rfl

theorem host_v23 :
    (StableHlo.after hostOps0 W (Proc.devRef .tc main_v23) : Vec Ideal S2048x32 .f32) = Cert.ReferenceIdeal.Read.val_main_v19 (F := Ideal) := by
  after_reads_simp
  rfl

/-! ### Between the projection call and the compression call -/

theorem host_v32 (a : Fin 2) (t : Fin 128) (e : Fin 1024) (h1) (h2) :
    (StableHlo.after hostOps1 W (Proc.devRef .tc main_v32) : Vec Ideal S2x128x1024 .f32) (ix3 a t e)
      = (W (Proc.devRef .tc main_v26_1) : Vec Ideal S2048x192 .f32) (ix2 ⟨t.val * 16 + e.val / 64, h1⟩ ⟨a.val * 96 + e.val % 64, h2⟩) := by
  after_reads_at
  split
  · after_reads_at
    exact congrArg (fun q => (W (Proc.devRef .tc main_v26_1) : Vec Ideal S2048x192 .f32) (ix2 ⟨_, h1⟩ q)) (Fin.ext (by simp only []; omega))
  · after_reads_at
    exact congrArg (fun q => (W (Proc.devRef .tc main_v26_1) : Vec Ideal S2048x192 .f32) (ix2 ⟨_, h1⟩ q)) (Fin.ext (by simp only []; omega))

theorem host_v35 (a : Fin 2) (t : Fin 128) (e : Fin 1024) (h1) (h2) :
    (StableHlo.after hostOps1 W (Proc.devRef .tc main_v35) : Vec Ideal S2x128x1024 .f32) (ix3 a t e)
      = (W (Proc.devRef .tc main_v26_2) : Vec Ideal S2048x128 .f32) (ix2 ⟨t.val * 16 + e.val / 64, h1⟩ ⟨a.val * 64 + e.val % 64, h2⟩) := by
  after_reads_at

/-! ### After the attention call -/

theorem host_v38 (i : S1x2048x768.Idx) :
    (StableHlo.after hostOps3 W (Proc.devRef .tc main_v38) : Vec Ideal S1x2048x768 .f32) i
      = (W (Proc.devRef .tc main_v37) : Vec Ideal S2048x768 .f32) (ix2 (i 1) (i 2)) := by
  after_reads_at

end Cert.KVal
-- ==== Proof.RefSoft.lean ====
/-
  The reference's softmaxes over the selected keys and over the window, and its result, read as mathematics.
-/
module

public import proofs.«01_k».proof.Proof.RefAtt

@[expose] public section

noncomputable section

namespace Cert.Ref

open Cert.ReferenceIdeal Cert.ReferenceIdeal.Read Cert.ReferenceIdeal.Gen Idealize.ShloMosaic Idealize.ShloMosaic.TcCoe
open Idealize.SL.Sem Idealize.ShloMosaic.StableHlo Cert.Spec Idealize.ShloMosaic.ValueIdx

variable {D : Data} {x0 : Arr S1x2048x768} {x1 : Arr S768x768} {x2 x3 : Arr S128x768} {x6 x7 : Arr S2x2048x64}
  (H : Holds D x0 x1 x2 x3 x6 x7)
include H

open Classical in
/-- The masked scores of the selected keys, and of the window's. -/
theorem sp_masked (ap : ∀ h s, h < 2 → s < 2048 → D.Apart h s) (i : S2x6x2048x2048.Idx) :
    val_main_v241 (F := Ideal) x0 x1 x2 x6 i
      = if D.spKey (i 0).val (i 2).val (i 3).val
          then (D.z ((i 0).val * 6 + (i 1).val) (i 2).val (i 3).val : EReal) else ⊥ := by
  rw [val_main_v241_apply, z_at H, val_main_v239_apply, val_main_v238_apply, val_main_v240_apply, val_main_cst_33_apply]
  have hl : FloatOps.ofBits (F := Ideal) .f32 0xFF800000#32 = (⊥ : EReal) := lit_bot
  rw [hl]
  exact if_congr (spKey_at H ap _) rfl rfl

open Classical in
theorem sw_masked (i : S2x6x2048x2048.Idx) :
    val_main_v265 (F := Ideal) x0 x1 x2 i
      = if Data.swKey (i 2).val (i 3).val
          then (D.z ((i 0).val * 6 + (i 1).val) (i 2).val (i 3).val : EReal) else ⊥ := by
  rw [val_main_v265_apply, z_at H, val_main_v263_apply, val_main_v262_apply, swKey_at, val_main_v264_apply,
    val_main_cst_37_apply]
  have hl : FloatOps.ofBits (F := Ideal) .f32 0xFF800000#32 = (⊥ : EReal) := lit_bot
  rw [hl]
  refine if_congr ?_ rfl rfl
  simp only [hlo_ix]
  rfl

/-- A row's other entries. -/
def row (i : S2x6x2048x2048.Idx) (k : Fin 2048) : S2x6x2048x2048.Idx := fun a => match a with
  | ⟨0, _⟩ => i 0
  | ⟨1, _⟩ => i 1
  | ⟨2, _⟩ => i 2
  | ⟨3, _⟩ => k

omit H in
theorem row_row (i : S2x6x2048x2048.Idx) (k k' : Fin 2048) : row (row i k) k' = row i k' := by
  funext a
  match a with
  | ⟨0, _⟩ => rfl
  | ⟨1, _⟩ => rfl
  | ⟨2, _⟩ => rfl
  | ⟨3, _⟩ => rfl

omit H in
/-- A maximum over the last axis, from negative infinity. -/
theorem fold_last (y : S2x6x2048x2048.Idx → EReal) (init : S_.Idx → EReal) (hi : init (Shape.Idx.first h_S_) = ⊥)
    (j : S2x6x2048.Idx) :
    Host.reduce (FloatOps.maximumf (F := Ideal) (φ := .f32)) y init reducesTo_S2x6x2048x2048_S2x6x2048_d3 h_S_ j
      = Finset.univ.fold max ⊥ fun k : Fin 2048 => y (idx_main_v247 j k) := by
  have hr : Shape.Reduces S2x6x2048x2048 [3] S2x6x2048 := by decide
  have hf : (fun k : Fin 2048 => y (hr.lift j k)) = fun k : Fin 2048 => y (idx_main_v247 j k) := by
    refine funext fun k => congrArg y (funext fun a => Fin.ext ?_)
    match a with
    | ⟨0, _⟩ => rfl
    | ⟨1, _⟩ => rfl
    | ⟨2, _⟩ => rfl
    | ⟨3, _⟩ => rfl
  have e := Host.reduce_eq_fold_single (FloatOps.maximumf (F := Ideal) (φ := .f32)) y init
    reducesTo_S2x6x2048x2048_S2x6x2048_d3 hr h_S_ j
  rw [hi] at e
  exact e.trans (congrArg (fun f => Finset.fold max ⊥ f (Finset.univ : Finset (Fin 2048))) hf)

omit H in
theorem sp_maxrows (i : S2x6x2048x2048.Idx) (k : Fin 2048) :
    idx_main_v247 (idx_main_v243 (idx_main_v244 i)) k = row i k := by
  funext a
  match a with
  | ⟨0, _⟩ => rfl
  | ⟨1, _⟩ => rfl
  | ⟨2, _⟩ => rfl
  | ⟨3, _⟩ => rfl

omit H in
theorem sp_max (j : S2x6x2048.Idx) :
    val_main_v242 (F := Ideal) x0 x1 x2 x6 j
      = Finset.univ.fold max ⊥ fun k : Fin 2048 => val_main_v241 (F := Ideal) x0 x1 x2 x6 (idx_main_v247 j k) := by
  unfold val_main_v242
  generalize val_main_v241 (F := Ideal) x0 x1 x2 x6 = y
  exact fold_last y _ (show val_main_cst_34 (F := Ideal) (Shape.Idx.first h_S_) = ⊥ from lit_bot) j

omit H in
theorem sp_rows (i : S2x6x2048x2048.Idx) (k : Fin 2048) :
    idx_main_v247 (idx_main_v248 (idx_main_v249 i)) k = row i k := by
  funext a
  match a with
  | ⟨0, _⟩ => rfl
  | ⟨1, _⟩ => rfl
  | ⟨2, _⟩ => rfl
  | ⟨3, _⟩ => rfl

omit H in
/-- A softmax weight is the exponential of a masked score less the row's largest, over the row's sum of such. -/
theorem sp_form (i : S2x6x2048x2048.Idx) (m : EReal)
    (hm : (Finset.univ.fold max ⊥ fun k : Fin 2048 => val_main_v241 (F := Ideal) x0 x1 x2 x6 (row i k)) = m) :
    val_main_v250 (F := Ideal) x0 x1 x2 x6 i
      = Ideal.div (Ideal.exp (val_main_v241 (F := Ideal) x0 x1 x2 x6 i - m))
          (0 + ∑ k : Fin 2048, Ideal.exp (val_main_v241 (F := Ideal) x0 x1 x2 x6 (row i k) - m)) := by
  have e : ∀ i' : S2x6x2048x2048.Idx, (∀ k, row i' k = row i k) → val_main_v246 (F := Ideal) x0 x1 x2 x6 i'
      = Ideal.exp (val_main_v241 (F := Ideal) x0 x1 x2 x6 i' - m) := fun i' h => by
    rw [val_main_v246_apply, val_main_v245_apply, val_main_v244_apply, val_main_v243_apply, sp_max]
    simp only [sp_maxrows, h, hm]
    rfl
  have hz : val_main_cst_35 (F := Ideal) (Shape.Idx.first h_S_) = (0 : EReal) := Ideal.ofBits_zero_f32
  rw [val_main_v250_apply, val_main_v249_apply, val_main_v248_apply, val_main_v247_apply, hz, e i fun _ => rfl]
  refine congrArg (fun z => Ideal.div _ (0 + z)) (Finset.sum_congr rfl fun k _ => ?_)
  rw [sp_rows]
  exact e _ (row_row i k)

omit H in
theorem sw_max (j : S2x6x2048.Idx) :
    val_main_v266 (F := Ideal) x0 x1 x2 j
      = Finset.univ.fold max ⊥ fun k : Fin 2048 => val_main_v265 (F := Ideal) x0 x1 x2 (idx_main_v271 j k) := by
  unfold val_main_v266
  generalize val_main_v265 (F := Ideal) x0 x1 x2 = y
  exact fold_last y _ (show val_main_cst_38 (F := Ideal) (Shape.Idx.first h_S_) = ⊥ from lit_bot) j

omit H in
theorem sw_rows (i : S2x6x2048x2048.Idx) (k : Fin 2048) :
    idx_main_v271 (idx_main_v272 (idx_main_v273 i)) k = row i k := by
  funext a
  match a with
  | ⟨0, _⟩ => rfl
  | ⟨1, _⟩ => rfl
  | ⟨2, _⟩ => rfl
  | ⟨3, _⟩ => rfl

omit H in
theorem sw_maxrows (i : S2x6x2048x2048.Idx) (k : Fin 2048) :
    idx_main_v271 (idx_main_v267 (idx_main_v268 i)) k = row i k := by
  funext a
  match a with
  | ⟨0, _⟩ => rfl
  | ⟨1, _⟩ => rfl
  | ⟨2, _⟩ => rfl
  | ⟨3, _⟩ => rfl

omit H in
/-- A softmax weight is the exponential of a masked score less the row's largest, over the row's sum of such. -/
theorem sw_form (i : S2x6x2048x2048.Idx) (m : EReal)
    (hm : (Finset.univ.fold max ⊥ fun k : Fin 2048 => val_main_v265 (F := Ideal) x0 x1 x2 (row i k)) = m) :
    val_main_v274 (F := Ideal) x0 x1 x2 i
      = Ideal.div (Ideal.exp (val_main_v265 (F := Ideal) x0 x1 x2 i - m))
          (0 + ∑ k : Fin 2048, Ideal.exp (val_main_v265 (F := Ideal) x0 x1 x2 (row i k) - m)) := by
  have e : ∀ i' : S2x6x2048x2048.Idx, (∀ k, row i' k = row i k) → val_main_v270 (F := Ideal) x0 x1 x2 i'
      = Ideal.exp (val_main_v265 (F := Ideal) x0 x1 x2 i' - m) := fun i' h => by
    rw [val_main_v270_apply, val_main_v269_apply, val_main_v268_apply, val_main_v267_apply, sw_max]
    simp only [sw_maxrows, h, hm]
    rfl
  have hz : val_main_cst_39 (F := Ideal) (Shape.Idx.first h_S_) = (0 : EReal) := Ideal.ofBits_zero_f32
  rw [val_main_v274_apply, val_main_v273_apply, val_main_v272_apply, val_main_v271_apply, hz, e i fun _ => rfl]
  refine congrArg (fun z => Ideal.div _ (0 + z)) (Finset.sum_congr rfl fun k _ => ?_)
  rw [sw_rows]
  exact e _ (row_row i k)

open Classical in
/-- The softmax weights over the selected keys. -/
theorem sp_at (ap : ∀ h s, h < 2 → s < 2048 → D.Apart h s) (i : S2x6x2048x2048.Idx) :
    val_main_v250 (F := Ideal) x0 x1 x2 x6 i
      = (D.prob (D.spKey (i 0).val (i 2).val) ((i 0).val * 6 + (i 1).val) (i 2).val (i 3).val : EReal) := by
  have h2 : (i 2).val < 2048 := (i 2).isLt
  have h3 : (i 3).val < 2048 := (i 3).isLt
  have self : D.spKey (i 0).val (i 2).val (i 2).val := ⟨D.sel_self _ _, le_rfl⟩
  have hr : ∀ k : Fin 2048, val_main_v241 (F := Ideal) x0 x1 x2 x6 (row i k)
      = if D.spKey (i 0).val (i 2).val k.val then (D.z ((i 0).val * 6 + (i 1).val) (i 2).val k.val : EReal) else ⊥ :=
    fun k => sp_masked H ap (row i k)
  obtain ⟨m, hm⟩ := max_real (fun k : Fin 2048 => val_main_v241 (F := Ideal) x0 x1 x2 x6 (row i k))
    (fun k => by
      show val_main_v241 (F := Ideal) x0 x1 x2 x6 (row i k) < ⊤
      rw [hr k]
      by_cases h : D.spKey (i 0).val (i 2).val k.val
      · rw [if_pos h]; exact EReal.coe_lt_top _
      · rw [if_neg h]; exact bot_lt_top) ⟨(i 2).val, h2⟩
    (by
      show val_main_v241 (F := Ideal) x0 x1 x2 x6 (row i ⟨(i 2).val, h2⟩) ≠ ⊥
      rw [hr, if_pos self]; exact EReal.coe_ne_bot _)
  rw [sp_form i m hm, sp_masked H ap i]
  simp only [hr]
  exact soft (fun j : Fin 2048 => D.spKey (i 0).val (i 2).val j.val)
    (fun j : Fin 2048 => D.z ((i 0).val * 6 + (i 1).val) (i 2).val j.val) m ⟨(i 2).val, h2⟩ self ⟨(i 3).val, h3⟩

open Classical in
/-- The softmax weights over the window. -/
theorem sw_at (i : S2x6x2048x2048.Idx) :
    val_main_v274 (F := Ideal) x0 x1 x2 i
      = (D.prob (Data.swKey (i 2).val) ((i 0).val * 6 + (i 1).val) (i 2).val (i 3).val : EReal) := by
  have h2 : (i 2).val < 2048 := (i 2).isLt
  have h3 : (i 3).val < 2048 := (i 3).isLt
  have self : Data.swKey (i 2).val (i 2).val := ⟨le_rfl, by omega⟩
  have hr : ∀ k : Fin 2048, val_main_v265 (F := Ideal) x0 x1 x2 (row i k)
      = if Data.swKey (i 2).val k.val then (D.z ((i 0).val * 6 + (i 1).val) (i 2).val k.val : EReal) else ⊥ :=
    fun k => sw_masked H (row i k)
  obtain ⟨m, hm⟩ := max_real (fun k : Fin 2048 => val_main_v265 (F := Ideal) x0 x1 x2 (row i k))
    (fun k => by
      show val_main_v265 (F := Ideal) x0 x1 x2 (row i k) < ⊤
      rw [hr k]
      by_cases h : Data.swKey (i 2).val k.val
      · rw [if_pos h]; exact EReal.coe_lt_top _
      · rw [if_neg h]; exact bot_lt_top) ⟨(i 2).val, h2⟩
    (by
      show val_main_v265 (F := Ideal) x0 x1 x2 (row i ⟨(i 2).val, h2⟩) ≠ ⊥
      rw [hr, if_pos self]; exact EReal.coe_ne_bot _)
  rw [sw_form i m hm, sw_masked H i]
  simp only [hr]
  exact soft (fun j : Fin 2048 => Data.swKey (i 2).val j.val)
    (fun j : Fin 2048 => D.z ((i 0).val * 6 + (i 1).val) (i 2).val j.val) m ⟨(i 2).val, h2⟩ self ⟨(i 3).val, h3⟩

/-- The attention over the selected keys, and over the window. -/
theorem osp_at (ap : ∀ h s, h < 2 → s < 2048 → D.Apart h s) (i : S2048x12x64.Idx) :
    val_main_v253 (F := Ideal) x0 x1 x2 x3 x6 i = D.osp (i 1).val (i 0).val (i 2).val := by
  have h0 : (i 0).val < 2048 := (i 0).isLt
  have h1 : (i 1).val < 12 := (i 1).isLt
  have h2 : (i 2).val < 64 := (i 2).isLt
  rw [val_main_v253_apply, val_main_v252_apply, val_main_v251_apply]
  unfold Data.osp Data.att
  refine Finset.sum_congr rfl fun j _ => ?_
  rw [v_at H, sp_at H ap, mul_comm]
  dsimp only [lidx_main_v251, ridx_main_v251, idx_main_v252, idx_main_v253]
  have e0 : (((i 0).val * 12 + (i 1).val) * 64 + (i 2).val) / 768 = (i 0).val := by omega
  have e1 : (((i 0).val * 12 + (i 1).val) * 64 + (i 2).val) / 384 % 2 = (i 1).val / 6 := by omega
  have e2 : (((i 0).val * 12 + (i 1).val) * 64 + (i 2).val) / 64 % 6 = (i 1).val % 6 := by omega
  have e3 : (((i 0).val * 12 + (i 1).val) * 64 + (i 2).val) % 64 = (i 2).val := by omega
  have e4 : (i 1).val / 6 * 6 + (i 1).val % 6 = (i 1).val := by omega
  simp only [e0, e1, e2, e3, e4]

theorem osw_at (i : S2048x12x64.Idx) :
    val_main_v277 (F := Ideal) x0 x1 x2 x3 i = D.osw (i 1).val (i 0).val (i 2).val := by
  have h0 : (i 0).val < 2048 := (i 0).isLt
  have h1 : (i 1).val < 12 := (i 1).isLt
  have h2 : (i 2).val < 64 := (i 2).isLt
  rw [val_main_v277_apply, val_main_v276_apply, val_main_v275_apply]
  unfold Data.osw Data.att
  refine Finset.sum_congr rfl fun j _ => ?_
  rw [v_at H, sw_at H, mul_comm]
  dsimp only [lidx_main_v275, ridx_main_v275, idx_main_v276, idx_main_v277]
  have e0 : (((i 0).val * 12 + (i 1).val) * 64 + (i 2).val) / 768 = (i 0).val := by omega
  have e1 : (((i 0).val * 12 + (i 1).val) * 64 + (i 2).val) / 384 % 2 = (i 1).val / 6 := by omega
  have e2 : (((i 0).val * 12 + (i 1).val) * 64 + (i 2).val) / 64 % 6 = (i 1).val % 6 := by omega
  have e3 : (((i 0).val * 12 + (i 1).val) * 64 + (i 2).val) % 64 = (i 2).val := by omega
  have e4 : (i 1).val / 6 * 6 + (i 1).val % 6 = (i 1).val := by omega
  simp only [e0, e1, e2, e3, e4]

/-- The reference's result. -/
theorem out_at (ap : ∀ h s, h < 2 → s < 2048 → D.Apart h s) (x4 : Arr S768x768) (x5 : Arr S3x768)
    (g wo : ℕ → ℕ → EReal) (hg : ∀ i : S2048x3.Idx, val_main_v77 (F := Ideal) x0 x5 i = g (i 0).val (i 1).val)
    (hwo : ∀ i : S768x768.Idx, x4 i = wo (i 0).val (i 1).val) (i : S1x2048x768.Idx) :
    val_main_v295 (F := Ideal) x0 x1 x2 x3 x4 x5 x6 x7 i = D.out g wo (i 1).val (i 2).val := by
  have h1 : (i 1).val < 2048 := (i 1).isLt
  rw [val_main_v295_apply, val_main_v294_apply]
  unfold Data.out
  refine Finset.sum_congr rfl fun e _ => ?_
  have he : e.val < 768 := e.isLt
  rw [val_main_v293_apply, hwo, val_main_v292_apply]
  simp only [val_main_v291_apply, val_main_v286_apply, val_main_v281_apply, val_main_v285_apply, val_main_v290_apply,
    val_main_v280_apply, val_main_v279_apply, val_main_v278_apply, val_main_v284_apply, val_main_v283_apply,
    val_main_v282_apply, val_main_v289_apply, val_main_v288_apply, val_main_v287_apply, cmp_at H, osp_at H ap, osw_at H, hg]
  have e0 : ((i 1).val * 768 + e.val) / 768 = (i 1).val := by omega
  have e1 : ((i 1).val * 768 + e.val) / 64 % 12 = e.val / 64 := by omega
  have e2 : ((i 1).val * 768 + e.val) % 64 = e.val % 64 := by omega
  simp only [e0, e1, e2]
  rfl

end Cert.Ref

end
-- ==== Proof.KRun.lean ====
/-
  The kernel's result: what each call finds in its operands, call after call, and so what the run leaves, which is what the
  reference computes.
-/
module

public import proofs.«01_k».proof.Proof.KHost
public import proofs.«01_k».proof.Proof.RefSoft

@[expose] public section

noncomputable section

namespace Cert.KVal

open Cert.KernelIdeal Cert.KernelIdeal.Gen Cert.KernelIdeal.Run Idealize.ShloMosaic Idealize.ShloMosaic.TcCoe Cert.Spec
open Cert.ReferenceIdeal.Read Cert.Ref

/-! ### The gates, as a function of row and branch -/

/-- The reference's gate of a row and a branch. -/
def gates (x0 : Vec Ideal S1x2048x768 .f32) (x5 : Vec Ideal S3x768 .f32) (s c : ℕ) : EReal :=
  if h : s < 2048 ∧ c < 3 then val_main_v77 (F := Ideal) x0 x5 (ix2 ⟨s, h.1⟩ ⟨c, h.2⟩) else 0

theorem ref_gates_at (x0 : Vec Ideal S1x2048x768 .f32) (x5 : Vec Ideal S3x768 .f32) (i : Cert.ReferenceIdeal.S2048x3.Idx) :
    val_main_v77 (F := Ideal) x0 x5 i = gates x0 x5 (i 0).val (i 1).val := by
  unfold gates
  rw [dif_pos ⟨(i 0).isLt, (i 1).isLt⟩]
  exact congrArg _ (ix2_eta i).symm

/-- A row's gate number before the logistic. -/
def gateDot (x0 : Vec Ideal S1x2048x768 .f32) (x5 : Vec Ideal S3x768 .f32) (s : Fin 2048) (e : Fin 3) : EReal :=
  ∑ k : Fin 768, x0 (ix3 0 s k) * x5 (ix2 e k)

theorem ref_gateDot (x0 : Vec Ideal S1x2048x768 .f32) (x5 : Vec Ideal S3x768 .f32) (s : Fin 2048) (e : Fin 3) :
    val_main_v71 (F := Ideal) x0 x5 (ix2 s e) = gateDot x0 x5 s e := by
  unfold gateDot
  rw [val_main_v71_apply]
  refine Finset.sum_congr rfl fun k _ => ?_
  rw [val_main_v70_apply, val_main_v0_apply]
  have hs := s.isLt
  have hk := k.isLt
  refine congrArg₂ (· * ·) (congrArg x0 (funext fun q => Fin.ext ?_)) (congrArg x5 (funext fun q => Fin.ext ?_))
  · match q with
    | ⟨0, _⟩ => rfl
    | ⟨1, _⟩ => show (s.val * 768 + k.val) / 768 % 2048 = s.val; omega
    | ⟨2, _⟩ => show (s.val * 768 + k.val) % 768 = k.val; omega
  · match q with
    | ⟨0, _⟩ => rfl
    | ⟨1, _⟩ => rfl

theorem ref_gate (x0 : Vec Ideal S1x2048x768 .f32) (x5 : Vec Ideal S3x768 .f32) (s : Fin 2048) (e : Fin 3) :
    val_main_v77 (F := Ideal) x0 x5 (ix2 s e) = Ideal.logistic (gateDot x0 x5 s e) := by
  rw [val_main_v77_apply, val_main_v76_apply, val_main_v75_apply, val_main_v74_apply, val_main_v73_apply, val_main_v72_apply,
    ref_gateDot, val_main_cst_5_apply, val_main_cst_6_apply]
  have h1 : FloatOps.ofBits (F := Ideal) .f32 0x3F800000#32 = (1 : EReal) := Ideal.ofBits_one_f32
  rw [h1]
  rfl

variable (m : (x : Loc nD τ sig) → Buf (Elt Ideal) x) (ρ : Dev nD → PrngReg) (c : Dev nD)

/-- What the inputs hold. -/
abbrev inp : Data := dataOf (m ((c : Thread nD τ).loc main_arg0)) (m ((c : Thread nD τ).loc main_arg1))
  (m ((c : Thread nD τ).loc main_arg2)) (m ((c : Thread nD τ).loc main_arg3)) (m ((c : Thread nD τ).loc main_arg6))
  (m ((c : Thread nD τ).loc main_arg7))

/-- The precondition's content at the launch's inputs. -/
abbrev Reg : Prop := Regular (m ((c : Thread nD τ).loc main_arg0)) (m ((c : Thread nD τ).loc main_arg1))
  (m ((c : Thread nD τ).loc main_arg2)) (m ((c : Thread nD τ).loc main_arg3)) (m ((c : Thread nD τ).loc main_arg6))
  (m ((c : Thread nD τ).loc main_arg7))

/-! ### The projection call -/

theorem scaled_at {f : ℕ → ℕ → ℝ} (x : Vec Ideal S768x768 .f32) (hx : ∀ i : S768x768.Idx, x i = (f (i 0).val (i 1).val : EReal))
    (k e : Fin 768) : scaled x k e = ((f e.val k.val * (1 / 8) : ℝ) : EReal) := by
  unfold scaled
  rw [hx, EReal.coe_mul]
  rfl

theorem entry0 (R : Reg m c) : Entry0 (inp m c) (V1 m ρ c main_v0) (V1 m ρ c main_v25) (V1 m ρ c main_v2) (V1 m ρ c main_v3)
    (V1 m ρ c main_v22) (V1 m ρ c main_v23) where
  x_at s k := (host_v0 (W0 m ρ c) s k).trans (R.holds.x (ix3 0 s k))
  wq_at k e := (host_v25 (W0 m ρ c) k e).trans (scaled_at _ R.holds.wq k e)
  wk_at k e := (host_v2 (W0 m ρ c) k e).trans (R.holds.wk (ix2 e k))
  wv_at k e := (host_v3 (W0 m ρ c) k e).trans (R.holds.wv (ix2 e k))
  cs_at s e := (congrFun (host_v22 (W0 m ρ c)) (ix2 s e)).trans (R.holds.cs (ix2 s e))
  sn_at s e := (congrFun (host_v23 (W0 m ρ c)) (ix2 s e)).trans (R.holds.sn (ix2 s e))

/-- The kernel's gate of a row and a branch is the reference's. -/
theorem gate_eq (X : Vec Ideal S2048x768 .f32) (w : Vec Ideal S768x8 .f32) (x0 : Vec Ideal S1x2048x768 .f32) (x5 : Vec Ideal S3x768 .f32)
    (s : Fin 2048) (e : Fin 8) (he : e.val < 3) (hX : ∀ k : Fin 768, X (ix2 s k) = x0 (ix3 0 s k))
    (hw : ∀ k : Fin 768, w (ix2 k e) = x5 (ix2 ⟨e.val, he⟩ k)) : gateAt X w s e = gates x0 x5 s.val e.val := by
  unfold gates gateAt
  rw [dif_pos ⟨s.isLt, he⟩]
  refine Eq.trans ?_ (ref_gate x0 x5 s ⟨e.val, he⟩).symm
  refine congrArg Ideal.logistic (Finset.sum_congr rfl fun k _ => ?_)
  rw [hX, hw]

/-! ### The compression call -/

theorem keys_at (R : Reg m c) (a : Fin 2) (t : Fin 128) (e : Fin 1024) :
    (V3 m ρ c main_v32 : Vec Ideal S2x128x1024 .f32) (ix3 a t e)
      = ((inp m c).k a.val (t.val * 16 + e.val / 64) (e.val % 64) : EReal) := by
  have ha := a.isLt
  have ht := t.isLt
  have he := e.isLt
  refine (host_v32 (W2 m ρ c) a t e (by omega) (by omega)).trans ?_
  refine (congrFun (W2_arr m ρ c 8) _).trans ((arr0_8 (entry0 m ρ c R) _ _).trans ?_)
  show krow (inp m c) ((a.val * 96 + e.val % 64) / 96) (t.val * 16 + e.val / 64) ((a.val * 96 + e.val % 64) % 96) = _
  rw [show (a.val * 96 + e.val % 64) / 96 = a.val by omega, show (a.val * 96 + e.val % 64) % 96 = e.val % 64 by omega]
  unfold krow
  rw [if_pos (by omega)]

theorem values_at (R : Reg m c) (a : Fin 2) (t : Fin 128) (e : Fin 1024) :
    (V3 m ρ c main_v35 : Vec Ideal S2x128x1024 .f32) (ix3 a t e)
      = (inp m c).v a.val (t.val * 16 + e.val / 64) (e.val % 64) := by
  have ha := a.isLt
  have ht := t.isLt
  have he := e.isLt
  refine (host_v35 (W2 m ρ c) a t e (by omega) (by omega)).trans ?_
  refine (congrFun (W2_arr m ρ c 9) _).trans ((arr0_9 (entry0 m ρ c R) _ _).trans ?_)
  show (inp m c).v ((a.val * 64 + e.val % 64) / 64) (t.val * 16 + e.val / 64) ((a.val * 64 + e.val % 64) % 64) = _
  rw [show (a.val * 64 + e.val % 64) / 64 = a.val by omega, show (a.val * 64 + e.val % 64) % 64 = e.val % 64 by omega]

/-- A window of the keys is a compressed key. -/
theorem win_ck (D : Data) (a t d : ℕ) :
    win (fun a s d => (D.k a s d : EReal)) (fun a e d => (D.wck a e d : EReal)) a t d = (D.ck a t d : EReal) := by
  unfold win Data.ck
  rw [coe_sum]
  exact Finset.sum_congr rfl fun e _ => (EReal.coe_mul _ _).symm

/-! ### The attention call -/

theorem kept_0 : V4 m ρ c main_v26_0 = (dat0 (V1 m ρ) c).arrAt 7 cfg0.N :=
  (W4_of m ρ c main_v26_0 (by decide)).trans ((W3_of m ρ c main_v26_0 (by decide)).trans (W2_arr m ρ c 7))
theorem kept_1 : V4 m ρ c main_v26_1 = (dat0 (V1 m ρ) c).arrAt 8 cfg0.N :=
  (W4_of m ρ c main_v26_1 (by decide)).trans ((W3_of m ρ c main_v26_1 (by decide)).trans (W2_arr m ρ c 8))
theorem kept_2 : V4 m ρ c main_v26_2 = (dat0 (V1 m ρ) c).arrAt 9 cfg0.N :=
  (W4_of m ρ c main_v26_2 (by decide)).trans ((W3_of m ρ c main_v26_2 (by decide)).trans (W2_arr m ρ c 9))
theorem kept_3 : V4 m ρ c main_v26_3 = (dat0 (V1 m ρ) c).arrAt 10 cfg0.N :=
  (W4_of m ρ c main_v26_3 (by decide)).trans ((W3_of m ρ c main_v26_3 (by decide)).trans (W2_arr m ρ c 10))
theorem kept_8 : V4 m ρ c main_v8 = W1 m ρ c (Proc.devRef .tc main_v8) :=
  (W4_of m ρ c main_v8 (by decide)).trans ((W3_of m ρ c main_v8 (by decide)).trans (W2_of m ρ c main_v8 (by decide)))

theorem entry2 (R : Reg m c) : Entry2 (inp m c) (gates (m ((c : Thread nD τ).loc main_arg0)) (m ((c : Thread nD τ).loc main_arg5)))
    (val2 (m ((c : Thread nD τ).loc main_arg4)))
    (V4 m ρ c main_v26_0) (V4 m ρ c main_v26_1) (V4 m ρ c main_v26_2) (V4 m ρ c main_v36_0) (V4 m ρ c main_v36_1)
    (V4 m ρ c main_v26_3) (V4 m ρ c main_v8) where
  q_at h s d := (congrFun (kept_0 m ρ c) _).trans (arr0_7 (entry0 m ρ c R) h s d)
  k_at j e := (congrFun (kept_1 m ρ c) _).trans (arr0_8 (entry0 m ρ c R) j e)
  v_at j e := (congrFun (kept_2 m ρ c) _).trans (arr0_9 (entry0 m ρ c R) j e)
  ck_at a t d ht := (congrFun (W4_arr m ρ c 4) _).trans ((arr1_4 (fun a s d => ((inp m c).k a s d : EReal))
    (fun a e d => ((inp m c).wck a e d : EReal)) (keys_at m ρ c R)
    (fun a e d => (congrFun (W3_args m ρ c main_arg6 (by decide)) _).trans (R.holds.wck (ix3 a e d))) a t d ht).trans (win_ck _ _ _ _))
  cv_at a t d ht := (congrFun (W4_arr m ρ c 5) _).trans (arr1_5 _ _ (values_at m ρ c R)
    (fun a e d => (congrFun (W3_args m ρ c main_arg7 (by decide)) _).trans (R.holds.wcv (ix3 a e d))) a t d ht)
  g_at s e he := (congrFun (kept_3 m ρ c) _).trans ((arr0_10 s e).trans
    (gate_eq _ _ _ _ s e he (fun k => host_v0 (W0 m ρ c) s k) (fun k => host_v7 (W0 m ρ c) k e he)))
  wo_at k e := (congrFun (kept_8 m ρ c) _).trans ((host_v8 (W0 m ρ c) k e).trans (val2_at _ (ix2 e k)))

/-- What the run leaves in the result array is what the reference computes of the same inputs. -/
theorem result (R : Reg m c) : W6 m ρ c (Proc.devRef .tc main_v38)
    = val_main_v295 (F := Ideal) (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) (m ((c : Thread nD τ).loc main_arg7)) := by
  funext (i : S1x2048x768.Idx)
  refine (host_v38 (W5 m ρ c) i).trans ((congrFun (W5_arr m ρ c 7) _).trans ?_)
  refine (arr2_7 (entry2 m ρ c R) R.bounded (i 1) (i 2)).trans ?_
  exact (out_at R.holds R.apart _ _ _ _ (ref_gates_at _ _) (val2_at _) i).symm

end Cert.KVal
-- ==== Proof.PreFacts.lean ====
/-
  The shape relations that the precondition's operations take.
-/
module

public import proofs.«01_k».proof.Pre_regular
public import proofs.«01_k».proof.Proof.Gen.ReferenceIdeal

@[expose] public section

namespace Cert.PreRegular

open Idealize.ShloMosaic

theorem facts : Cert.Pre_regular.Facts where
  shapeCasts_S1x2048x768_S2048x768 := Cert.ReferenceIdeal.Gen.shapeCasts_S1x2048x768_S2048x768
  transposes_S768x768_S768x768_1_0 := Cert.ReferenceIdeal.Gen.transposes_S768x768_S768x768_1_0
  shapeCasts_S2048x768_S2048x12x64 := Cert.ReferenceIdeal.Gen.shapeCasts_S2048x768_S2048x12x64
  bcast_S_S32 := Cert.ReferenceIdeal.Gen.bcast_S_S32
  bcast_S2048_S2048x1_0 := Cert.ReferenceIdeal.Gen.bcast_S2048_S2048x1_0
  bcast_S32_S1x32_1 := Cert.ReferenceIdeal.Gen.bcast_S32_S1x32_1
  bcast_S2048x1_S2048x32_0_1 := Cert.ReferenceIdeal.Gen.bcast_S2048x1_S2048x32_0_1
  bcast_S1x32_S2048x32_0_1 := Cert.ReferenceIdeal.Gen.bcast_S1x32_S2048x32_0_1
  bcast_S2048x32_S2048x1x32_0_2 := Cert.ReferenceIdeal.Gen.bcast_S2048x32_S2048x1x32_0_2
  slices_S2048x12x64_S2048x12x32_0_0_0 := Cert.ReferenceIdeal.Gen.slices_S2048x12x64_S2048x12x32_0_0_0
  slices_S2048x12x64_S2048x12x32_0_0_32 := Cert.ReferenceIdeal.Gen.slices_S2048x12x64_S2048x12x32_0_0_32
  bcast_S2048x1x32_S2048x12x32_0_1_2 := Cert.ReferenceIdeal.Gen.bcast_S2048x1x32_S2048x12x32_0_1_2
  concatenates_S2048x12x32_S2048x12x32_S2048x12x64_d2 := Cert.ReferenceIdeal.Gen.concatenates_S2048x12x32_S2048x12x32_S2048x12x64_d2
  transposes_S128x768_S768x128_1_0 := Cert.ReferenceIdeal.Gen.transposes_S128x768_S768x128_1_0
  shapeCasts_S2048x128_S2048x2x64 := Cert.ReferenceIdeal.Gen.shapeCasts_S2048x128_S2048x2x64
  slices_S2048x2x64_S2048x2x32_0_0_0 := Cert.ReferenceIdeal.Gen.slices_S2048x2x64_S2048x2x32_0_0_0
  slices_S2048x2x64_S2048x2x32_0_0_32 := Cert.ReferenceIdeal.Gen.slices_S2048x2x64_S2048x2x32_0_0_32
  bcast_S2048x1x32_S2048x2x32_0_1_2 := Cert.ReferenceIdeal.Gen.bcast_S2048x1x32_S2048x2x32_0_1_2
  concatenates_S2048x2x32_S2048x2x32_S2048x2x64_d2 := Cert.ReferenceIdeal.Gen.concatenates_S2048x2x32_S2048x2x32_S2048x2x64_d2
  shapeCasts_S2048x12x64_S2048x2x6x64 := Cert.ReferenceIdeal.Gen.shapeCasts_S2048x12x64_S2048x2x6x64
  bcast_S_S127 := Cert.ReferenceIdeal.Gen.bcast_S_S127
  bcast_S127_S127x1_0 := Cert.ReferenceIdeal.Gen.bcast_S127_S127x1_0
  bcast_S127x1_S127x32_0_1 := Cert.ReferenceIdeal.Gen.bcast_S127x1_S127x32_0_1
  bcast_S1x32_S127x32_0_1 := Cert.ReferenceIdeal.Gen.bcast_S1x32_S127x32_0_1
  bcast_S_S127x32 := Cert.ReferenceIdeal.Gen.bcast_S_S127x32
  bcast_S127x32_S127x32x1_0_1 := Cert.ReferenceIdeal.Gen.bcast_S127x32_S127x32x1_0_1
  transposes_S127x32x2x64_S127x2x32x64_0_2_1_3 := Cert.ReferenceIdeal.Gen.transposes_S127x32x2x64_S127x2x32x64_0_2_1_3
  shapeCasts_S127x2x32x64_S127x2x2048 := Cert.ReferenceIdeal.Gen.shapeCasts_S127x2x32x64_S127x2x2048
  transposes_S2x64x127_S127x2x64_2_0_1 := Cert.ReferenceIdeal.Gen.transposes_S2x64x127_S127x2x64_2_0_1
  transposes_S2x127x2048x6_S2x6x2048x127_0_3_2_1 := Cert.ReferenceIdeal.Gen.transposes_S2x127x2048x6_S2x6x2048x127_0_3_2_1
  bcast_S_S2x6x2048x127 := Cert.ReferenceIdeal.Gen.bcast_S_S2x6x2048x127
  bcast_S127_S1x127_1 := Cert.ReferenceIdeal.Gen.bcast_S127_S1x127_1
  bcast_S2048x1_S2048x127_0_1 := Cert.ReferenceIdeal.Gen.bcast_S2048x1_S2048x127_0_1
  bcast_S1x127_S2048x127_0_1 := Cert.ReferenceIdeal.Gen.bcast_S1x127_S2048x127_0_1
  bcast_S2048x127_S1x1x2048x127_2_3 := Cert.ReferenceIdeal.Gen.bcast_S2048x127_S1x1x2048x127_2_3
  bcast_S1x1x2048x127_S2x6x2048x127_0_1_2_3 := Cert.ReferenceIdeal.Gen.bcast_S1x1x2048x127_S2x6x2048x127_0_1_2_3
  reducesTo_S2x6x2048x127_S2x6x2048_d3 := Cert.ReferenceIdeal.Gen.reducesTo_S2x6x2048x127_S2x6x2048_d3
  h_S_ := Cert.ReferenceIdeal.Gen.h_S_
  bcast_S_S2048 := Cert.ReferenceIdeal.Gen.bcast_S_S2048
  bcast_S2048_S1x1x2048_2 := by decide
  bcast_S1x1x2048_S2x6x2048_0_1_2 := by decide
  bcast_S2x6x2048_S2x6x2048x1_0_1_2 := Cert.ReferenceIdeal.Gen.bcast_S2x6x2048_S2x6x2048x1_0_1_2
  bcast_S2x6x2048x1_S2x6x2048x127_0_1_2_3 := Cert.ReferenceIdeal.Gen.bcast_S2x6x2048x1_S2x6x2048x127_0_1_2_3
  reducesTo_S2x6x2048x127_S2x2048x127_d1 := Cert.ReferenceIdeal.Gen.reducesTo_S2x6x2048x127_S2x2048x127_d1
  bcast_S2x2048x127_S2x2048x127x1_0_1_2 := Cert.ReferenceIdeal.Gen.bcast_S2x2048x127_S2x2048x127x1_0_1_2
  bcast_S127x32_S1x1x127x32_2_3 := Cert.ReferenceIdeal.Gen.bcast_S127x32_S1x1x127x32_2_3
  bcast_S2x2048x127x1_S2x2048x127x32_0_1_2_3 := Cert.ReferenceIdeal.Gen.bcast_S2x2048x127x1_S2x2048x127x32_0_1_2_3
  bcast_S1x1x127x32_S2x2048x127x32_0_1_2_3 := Cert.ReferenceIdeal.Gen.bcast_S1x1x127x32_S2x2048x127x32_0_1_2_3
  reducesTo_S2x2048x127x32_S2x2048x32_d2 := Cert.ReferenceIdeal.Gen.reducesTo_S2x2048x127x32_S2x2048x32_d2
  bcast_S_S1x32 := Cert.ReferenceIdeal.Gen.bcast_S_S1x32
  bcast_S_S2048x1 := Cert.ReferenceIdeal.Gen.bcast_S_S2048x1
  bcast_S2048x32_S1x2048x32_1_2 := Cert.ReferenceIdeal.Gen.bcast_S2048x32_S1x2048x32_1_2
  bcast_S1x2048x32_S2x2048x32_0_1_2 := Cert.ReferenceIdeal.Gen.bcast_S1x2048x32_S2x2048x32_0_1_2
  bcast_S_S2x2048x32 := Cert.ReferenceIdeal.Gen.bcast_S_S2x2048x32
  sliceFits_S2x2048x32_S2x2048x17 := by decide
  slices_S2x2048x17_S2x2048x1_0_0_15 := by decide
  shapeCasts_S2x2048x1_S2x2048 := by decide
  slices_S2x2048x17_S2x2048x1_0_0_16 := by decide
  bcast_S_S2x2048 := by decide
  bcast_S_S1x2048x768 := by decide
  reducesTo_S1x2048x768_S_d0_1_2 := by decide
  bcast_S_S768x768 := by decide
  reducesTo_S768x768_S_d0_1 := by decide
  bcast_S_S128x768 := by decide
  reducesTo_S128x768_S_d0_1 := by decide
  bcast_S_S2x2048x64 := by decide
  reducesTo_S2x2048x64_S_d0_1_2 := by decide
  bcast_S_S2x6x2048 := by decide
  reducesTo_S2x6x2048_S_d0_1_2 := by decide
  reducesTo_S2x2048_S_d0_1 := by decide
  dot_S2048x768_S768x768_S2048x768_1_0_0_1_n_n_wf := Cert.ReferenceIdeal.Gen.dot_S2048x768_S768x768_S2048x768_1_0_0_1_n_n_wf
  dot_S2048x768_S768x128_S2048x128_1_0_0_1_n_n_wf := Cert.ReferenceIdeal.Gen.dot_S2048x768_S768x128_S2048x128_1_0_0_1_n_n_wf
  gather_S2048x2x64_S127x32x1_S127x32x2x64_23_0_n_n_0_2_1264_wf := Cert.ReferenceIdeal.Gen.gather_S2048x2x64_S127x32x1_S127x32x2x64_23_0_n_n_0_2_1264_wf
  dot_S2x2048x64_S127x2x2048_S2x64x127_1_2_2_0_0_1_wf := Cert.ReferenceIdeal.Gen.dot_S2x2048x64_S127x2x2048_S2x64x127_1_2_2_0_0_1_wf
  dot_S127x2x64_S2048x2x6x64_S2x127x2048x6_2_3_0_02_1_1_wf := Cert.ReferenceIdeal.Gen.dot_S127x2x64_S2048x2x6x64_S2x127x2048x6_2_3_0_02_1_1_wf

end Cert.PreRegular
-- ==== Proof.lean ====
/- The proof of the certificate's claims. -/
module

public import proofs.«01_k».proof.Defs
public import proofs.«01_k».proof.Proof.BitsRun
public import proofs.«01_k».proof.Proof.IdealRun
public import proofs.«01_k».proof.Proof.KRun
public import proofs.«01_k».proof.Proof.PreFacts
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem Cert.Kernel

/-- The reference's frame. -/
theorem reference_frame : Cert.quiescent_ReferenceIdeal (hReferenceIdeal := Cert.ReferenceIdeal.Gen.facts) :=
  fun m g _ => (θ_run Cert.ReferenceIdeal.defs _ _).mono
    (fun r h => ⟨fun c => (h c).2, sem_eq_zero_of_no_sems (by decide) r.2⟩)
    (Cert.ReferenceIdeal.Value.run (F := Ideal) m g)

/-- Where the precondition holds, the kernel's idealization and the reference end with equal results: both are the reference's
    composed term of the arguments. -/
theorem value : Cert.algebraic_KernelIdeal_ReferenceIdeal_pre_regular (hKernelIdeal := Cert.KernelIdeal.Gen.facts)
    (hReferenceIdeal := Cert.ReferenceIdeal.Gen.facts) (hPre_regular := Cert.PreRegular.facts) := by
  intro m g m' g' hP hm
  haveI := Cert.PreRegular.facts
  refine ⟨fun c => Cert.KernelIdeal.Run.W6 m g c (Proc.devRef .tc Cert.KernelIdeal.main_v38),
    (θ_run _ _ _).mono (fun r h => h.1) (Cert.KernelIdeal.Run.final (F := Ideal) m g),
    (θ_run Cert.ReferenceIdeal.defs _ _).mono (fun r h c => ⟨(h c).1.trans ?_, (h c).2⟩)
      (Cert.ReferenceIdeal.Value.run (F := Ideal) m' g')⟩
  obtain ⟨h0, h1, h2, h3, h4, h5, h6, h7⟩ := hm c
  refine Eq.trans ?_ (Cert.KVal.result m g c (Cert.Ref.regular_of (fun i => congrFun (hP c) i))).symm
  rw [← h0, ← h1, ← h2, ← h3, ← h4, ← h5, ← h6, ← h7]
  exact Cert.ReferenceIdeal.Read.val_main_v295_eq (F := Ideal) (fun b => m' (c, b))

theorem claim : Cert.Claim :=
  ⟨Cert.Kernel.Gen.facts, Cert.KernelIdeal.Gen.facts, Cert.ReferenceIdeal.Gen.facts, Cert.PreRegular.facts,
    fun m g _ => Cert.Kernel.Run.frame m g,
    fun m g _ => Cert.KernelIdeal.Run.frame m g,
    fun m g _ => Cert.KernelIdeal.Run.frame m g,
    reference_frame,
    fun m g _ => reference_frame m g trivial,
    ⟨IdealRules.named_const.statement Cert.KernelIdeal.κ "mask" .f32 0xF149F2CA#32 ⊥ rfl,
     IdealRules.named_const.statement Cert.KernelIdeal.κ "pmask" .f32 0x7149F2CA#32 ⊤ rfl⟩,
    value⟩

end Cert.Proof

end
